-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![1, 256, 1024]⟩ ⟨3, ![1, 1024, 1024]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![1, 4096, 8, 128]⟩ ⟨4, ![1, 16384, 8, 128]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![1, 4096, 8, 128]⟩ ⟨4, ![1, 16384, 8, 128]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = Layout.block ⟨3, ![1, 256, 1024]⟩ ⟨3, ![1, 1024, 1024]⟩ 1 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x256x1024 : Shape := ⟨3, ![1, 256, 1024]⟩
abbrev S1024x1024 : Shape := ⟨2, ![1024, 1024]⟩
abbrev S1x4096x8x128 : Shape := ⟨4, ![1, 4096, 8, 128]⟩
abbrev S_ : Shape := ⟨0, ![]⟩

class Facts : Prop where
  bcast_S_S1x256x1024 : S_.BroadcastsInDim S1x256x1024 (![] : Fin 0 → Fin S1x256x1024.rank)
  reducesTo_S1x256x1024_S_d0_1_2 : S1x256x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x4096x8x128 : S_.BroadcastsInDim S1x4096x8x128 (![] : Fin 0 → Fin S1x4096x8x128.rank)
  reducesTo_S1x4096x8x128_S_d0_1_2_3 : S1x4096x8x128.ReducesTo [0, 1, 2, 3] S_

variable [Facts]

def fn {F : FTy → Type} [FloatOps F] (main_arg0 : FVec F S1x256x1024 .bf16) (main_arg1 : FVec F S1024x1024 .bf16) (main_arg2 : FVec F S1x4096x8x128 .bf16) (main_arg3 : FVec F S1x4096x8x128 .bf16) (main_arg4 : FVec F S1024x1024 .bf16) : IVec S_ 1 :=
  let main_v0 : FVec F S1x256x1024 .bf16 := Host.absf main_arg0
  let main_cst : FVec F S_ .bf16 := constant S_ .bf16 0x7F80#16
  let main_v1 : FVec F S1x256x1024 .bf16 := broadcastInDim S1x256x1024 ![] bcast_S_S1x256x1024 main_cst
  let main_v2 : IVec S1x256x1024 1 := cmpf .olt main_v0 main_v1
  let main_c : IVec S_ 1 := constantI S_ 1 1#1
  let main_v3 : IVec S_ 1 := (fun x v => Host.reduce IntOp.andi x v reducesTo_S1x256x1024_S_d0_1_2 h_S_) main_v2 main_c
  let main_v4 : FVec F S1024x1024 .bf16 := Host.absf main_arg1
  let main_cst_0 : FVec F S_ .bf16 := constant S_ .bf16 0x7F80#16
  let main_v5 : FVec F S1024x1024 .bf16 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x4096x8x128 .bf16 := Host.absf main_arg2
  let main_cst_2 : FVec F S_ .bf16 := constant S_ .bf16 0x7F80#16
  let main_v10 : FVec F S1x4096x8x128 .bf16 := broadcastInDim S1x4096x8x128 ![] bcast_S_S1x4096x8x128 main_cst_2
  let main_v11 : IVec S1x4096x8x128 1 := cmpf .olt main_v9 main_v10
  let main_c_3 : IVec S_ 1 := constantI S_ 1 1#1
  let main_v12 : IVec S_ 1 := (fun x v => Host.reduce IntOp.andi x v reducesTo_S1x4096x8x128_S_d0_1_2_3 h_S_) main_v11 main_c_3
  let main_v13 : IVec S_ 1 := andi main_v8 main_v12
  main_v13
-- ==== Pre_finite_ReferenceIdeal.lean ====
abbrev S1x1024x1024 : Shape := ⟨3, ![1, 1024, 1024]⟩
abbrev S1024x1024 : Shape := ⟨2, ![1024, 1024]⟩
abbrev S1x16384x8x128 : Shape := ⟨4, ![1, 16384, 8, 128]⟩
abbrev S_ : Shape := ⟨0, ![]⟩

class Facts : Prop where
  bcast_S_S1x1024x1024 : S_.BroadcastsInDim S1x1024x1024 (![] : Fin 0 → Fin S1x1024x1024.rank)
  reducesTo_S1x1024x1024_S_d0_1_2 : S1x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1x16384x8x128 : S_.BroadcastsInDim S1x16384x8x128 (![] : Fin 0 → Fin S1x16384x8x128.rank)
  reducesTo_S1x16384x8x128_S_d0_1_2_3 : S1x16384x8x128.ReducesTo [0, 1, 2, 3] S_

variable [Facts]

def fn {F : FTy → Type} [FloatOps F] (main_arg0 : FVec F S1x1024x1024 .bf16) (main_arg1 : FVec F S1024x1024 .bf16) (main_arg2 : FVec F S1x16384x8x128 .bf16) (main_arg3 : FVec F S1x16384x8x128 .bf16) (main_arg4 : FVec F S1024x1024 .bf16) : IVec S_ 1 :=
  let main_v0 : FVec F S1x1024x1024 .bf16 := Host.absf main_arg0
  let main_cst : FVec F S_ .bf16 := constant S_ .bf16 0x7F80#16
  let main_v1 : FVec F S1x1024x1024 .bf16 := broadcastInDim S1x1024x1024 ![] bcast_S_S1x1024x1024 main_cst
  let main_v2 : IVec S1x1024x1024 1 := cmpf .olt main_v0 main_v1
  let main_c : IVec S_ 1 := constantI S_ 1 1#1
  let main_v3 : IVec S_ 1 := (fun x v => Host.reduce IntOp.andi x v reducesTo_S1x1024x1024_S_d0_1_2 h_S_) main_v2 main_c
  let main_v4 : FVec F S1024x1024 .bf16 := Host.absf main_arg1
  let main_cst_0 : FVec F S_ .bf16 := constant S_ .bf16 0x7F80#16
  let main_v5 : FVec F S1024x1024 .bf16 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x16384x8x128 .bf16 := Host.absf main_arg2
  let main_cst_2 : FVec F S_ .bf16 := constant S_ .bf16 0x7F80#16
  let main_v10 : FVec F S1x16384x8x128 .bf16 := broadcastInDim S1x16384x8x128 ![] bcast_S_S1x16384x8x128 main_cst_2
  let main_v11 : IVec S1x16384x8x128 1 := cmpf .olt main_v9 main_v10
  let main_c_3 : IVec S_ 1 := constantI S_ 1 1#1
  let main_v12 : IVec S_ 1 := (fun x v => Host.reduce IntOp.andi x v reducesTo_S1x16384x8x128_S_d0_1_2_3 h_S_) main_v11 main_c_3
  let main_v13 : IVec S_ 1 := andi main_v8 main_v12
  main_v13
-- ==== Kernel.lean ====
abbrev S1x256x1024 : Shape := ⟨3, ![1, 256, 1024]⟩
abbrev S1024x1024 : Shape := ⟨2, ![1024, 1024]⟩
abbrev S1x4096x8x128 : Shape := ⟨4, ![1, 4096, 8, 128]⟩
abbrev S256x1024 : Shape := ⟨2, ![256, 1024]⟩
abbrev S4096x8x128 : Shape := ⟨3, ![4096, 8, 128]⟩
abbrev S16x4x64x8x128 : Shape := ⟨5, ![16, 4, 64, 8, 128]⟩
abbrev S4x8x16x64x128 : Shape := ⟨5, ![4, 8, 16, 64, 128]⟩
abbrev S4x8x1024x128 : Shape := ⟨4, ![4, 8, 1024, 128]⟩
abbrev S4x256x1024 : Shape := ⟨3, ![4, 256, 1024]⟩
abbrev S4x4x64x1152 : Shape := ⟨4, ![4, 4, 64, 1152]⟩
abbrev S3 : Shape := ⟨1, ![3]⟩
abbrev S3x4 : Shape := ⟨2, ![3, 4]⟩
abbrev S_ : Shape := ⟨0, ![]⟩
abbrev S1 : Shape := ⟨1, ![1]⟩
abbrev S4x64x128 : Shape := ⟨3, ![4, 64, 128]⟩
abbrev S256x128 : Shape := ⟨2, ![256, 128]⟩
abbrev S1x1x1024x128 : Shape := ⟨4, ![1, 1, 1024, 128]⟩
abbrev S1024x128 : Shape := ⟨2, ![1024, 128]⟩
abbrev S256 : Shape := ⟨1, ![256]⟩
abbrev S256x1 : Shape := ⟨2, ![256, 1]⟩
abbrev S256x16 : Shape := ⟨2, ![256, 16]⟩
abbrev S256x112 : Shape := ⟨2, ![256, 112]⟩
abbrev S256x1152 : Shape := ⟨2, ![256, 1152]⟩
abbrev S4x64x1152 : Shape := ⟨3, ![4, 64, 1152]⟩
abbrev S4x1x64x1152 : Shape := ⟨4, ![4, 1, 64, 1152]⟩
abbrev S1x1 : Shape := ⟨2, ![1, 1]⟩
abbrev S1x1x64x1152 : Shape := ⟨4, ![1, 1, 64, 1152]⟩
abbrev S64x1152 : Shape := ⟨2, ![64, 1152]⟩
abbrev S1x1x64x16 : Shape := ⟨4, ![1, 1, 64, 16]⟩
abbrev S64x16 : Shape := ⟨2, ![64, 16]⟩
abbrev S64x1 : Shape := ⟨2, ![64, 1]⟩
abbrev S1x1x64x128 : Shape := ⟨4, ![1, 1, 64, 128]⟩
abbrev S64x128 : Shape := ⟨2, ![64, 128]⟩
abbrev S64x1024 : Shape := ⟨2, ![64, 1024]⟩

abbrev nBuf : Space → Nat
  | .hbm => 16
  | .vmem => 9
  | .smem => 0
  | _ => 0

abbrev bufTy : (tb : Table) → Fin (tcTables nBuf tb) → BufTy
  | .hbm, ⟨0, _⟩ => ⟨S1x256x1024, .bf16⟩
  | .hbm, ⟨1, _⟩ => ⟨S1024x1024, .bf16⟩
  | .hbm, ⟨2, _⟩ => ⟨S1x4096x8x128, .bf16⟩
  | .hbm, ⟨3, _⟩ => ⟨S1x4096x8x128, .bf16⟩
  | .hbm, ⟨4, _⟩ => ⟨S1024x1024, .bf16⟩
  | .hbm, ⟨5, _⟩ => ⟨S256x1024, .bf16⟩
  | .hbm, ⟨6, _⟩ => ⟨S4096x8x128, .bf16⟩
  | .hbm, ⟨7, _⟩ => ⟨S16x4x64x8x128, .bf16⟩
  | .hbm, ⟨8, _⟩ => ⟨S4x8x16x64x128, .bf16⟩
  | .hbm, ⟨9, _⟩ => ⟨S4x8x1024x128, .bf16⟩
  | .hbm, ⟨10, _⟩ => ⟨S4096x8x128, .bf16⟩
  | .hbm, ⟨11, _⟩ => ⟨S16x4x64x8x128, .bf16⟩
  | .hbm, ⟨12, _⟩ => ⟨S4x8x16x64x128, .bf16⟩
  | .hbm, ⟨13, _⟩ => ⟨S4x8x1024x128, .bf16⟩
  | .hbm, ⟨14, _⟩ => ⟨S256x1024, .f32⟩
  | .hbm, ⟨15, _⟩ => ⟨S1x256x1024, .f32⟩
  | .local _ .vmem, ⟨0, _⟩ => ⟨S256x1024, .bf16⟩
  | .local _ .vmem, ⟨1, _⟩ => ⟨S1024x1024, .bf16⟩
  | .local _ .vmem, ⟨2, _⟩ => ⟨S4x8x1024x128, .bf16⟩
  | .local _ .vmem, ⟨3, _⟩ => ⟨S4x8x1024x128, .bf16⟩
  | .local _ .vmem, ⟨4, _⟩ => ⟨S1024x1024, .bf16⟩
  | .local _ .vmem, ⟨5, _⟩ => ⟨S256x1024, .f32⟩
  | .local _ .vmem, ⟨6, _⟩ => ⟨S4x256x1024, .bf16⟩
  | .local _ .vmem, ⟨7, _⟩ => ⟨S4x4x64x1152, .bf16⟩
  | .local _ .vmem, ⟨8, _⟩ => ⟨S4x4x64x1152, .bf16⟩
  | _, _ => ⟨S1x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_28 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_27 : BitVec 32 := 1#32
  let v48 : BitVec 32 := Scalar.muli v13 c1_i32_27
  let v49 : BitVec 32 := Scalar.addi c0_i32_28 v48
  v49.toNat
def k0_dev2 (d0 : Dev nD) : Nat :=
  let c0_i32_31 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_30 : BitVec 32 := 1#32
  let v50 : BitVec 32 := Scalar.muli v24 c1_i32_30
  let v51 : BitVec 32 := Scalar.addi c0_i32_31 v50
  v51.toNat
def k0_dev3 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c1_i32_33 : BitVec 32 := 1#32
  let v52 : BitVec 32 := Scalar.muli v35 c1_i32_33
  let v53 : BitVec 32 := Scalar.addi c0_i32_34 v52
  v53.toNat
def k0_dev4 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_36 : BitVec 32 := 1#32
  let v54 : BitVec 32 := Scalar.muli v13 c1_i32_36
  let v55 : BitVec 32 := Scalar.addi c0_i32_37 v54
  v55.toNat
def k0_dev5 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_39 : BitVec 32 := 1#32
  let v56 : BitVec 32 := Scalar.muli v24 c1_i32_39
  let v57 : BitVec 32 := Scalar.addi c0_i32_40 v56
  v57.toNat
def k0_dev6 (d0 : Dev nD) : Nat :=
  let c0_i32_43 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_13 : BitVec 32 := 4#32
  let c0_i32_14 : BitVec 32 := 0#32
  let v26 : BitVec 1 := Scalar.cmpi .eq c4_i32_13 c0_i32_14
  let c1_i32_15 : BitVec 32 := 1#32
  let v27 : BitVec 32 := Scalar.select v26 c1_i32_15 c4_i32_13
  let v28 : BitVec 32 := Scalar.remsi v25 v27
  let c0_i32_17 : BitVec 32 := 0#32
  let v30 : BitVec 1 := Scalar.cmpi .slt v28 c0_i32_17
  let c0_i32_18 : BitVec 32 := 0#32
  let v31 : BitVec 1 := Scalar.cmpi .slt v27 c0_i32_18
  let v32 : BitVec 1 := Scalar.xori v30 v31
  let c0_i32_16 : BitVec 32 := 0#32
  let v29 : BitVec 1 := Scalar.cmpi .ne v28 c0_i32_16
  let v33 : BitVec 1 := Scalar.andi v32 v29
  let v34 : BitVec 32 := Scalar.addi v28 v27
  let v35 : BitVec 32 := Scalar.select v33 v34 v28
  let c1_i32_42 : BitVec 32 := 1#32
  let v58 : BitVec 32 := Scalar.muli v35 c1_i32_42
  let v59 : BitVec 32 := Scalar.addi c0_i32_43 v58
  v59.toNat
def k0_dev7 (d0 : Dev nD) : Nat :=
  let c0_i32_58 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_46 : BitVec 32 := 1#32
  let v60 : BitVec 32 := Scalar.addi v2 c1_i32_46
  let c4_i32_47 : BitVec 32 := 4#32
  let c0_i32_48 : BitVec 32 := 0#32
  let v61 : BitVec 1 := Scalar.cmpi .eq c4_i32_47 c0_i32_48
  let c1_i32_49 : BitVec 32 := 1#32
  let v62 : BitVec 32 := Scalar.select v61 c1_i32_49 c4_i32_47
  let v63 : BitVec 32 := Scalar.remsi v60 v62
  let c0_i32_51 : BitVec 32 := 0#32
  let v65 : BitVec 1 := Scalar.cmpi .slt v63 c0_i32_51
  let c0_i32_52 : BitVec 32 := 0#32
  let v66 : BitVec 1 := Scalar.cmpi .slt v62 c0_i32_52
  let v67 : BitVec 1 := Scalar.xori v65 v66
  let c0_i32_50 : BitVec 32 := 0#32
  let v64 : BitVec 1 := Scalar.cmpi .ne v63 c0_i32_50
  let v68 : BitVec 1 := Scalar.andi v67 v64
  let v69 : BitVec 32 := Scalar.addi v63 v62
  let v70 : BitVec 32 := Scalar.select v68 v69 v63
  let c1_i32_57 : BitVec 32 := 1#32
  let v71 : BitVec 32 := Scalar.muli v70 c1_i32_57
  let v72 : BitVec 32 := Scalar.addi c0_i32_58 v71
  v72.toNat
def k0_dev8 (d0 : Dev nD) : Nat :=
  let c0_i32_75 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_63 : BitVec 32 := 2#32
  let v81 : BitVec 32 := Scalar.addi v2 c2_i32_63
  let c4_i32_64 : BitVec 32 := 4#32
  let c0_i32_65 : BitVec 32 := 0#32
  let v82 : BitVec 1 := Scalar.cmpi .eq c4_i32_64 c0_i32_65
  let c1_i32_66 : BitVec 32 := 1#32
  let v83 : BitVec 32 := Scalar.select v82 c1_i32_66 c4_i32_64
  let v84 : BitVec 32 := Scalar.remsi v81 v83
  let c0_i32_68 : BitVec 32 := 0#32
  let v86 : BitVec 1 := Scalar.cmpi .slt v84 c0_i32_68
  let c0_i32_69 : BitVec 32 := 0#32
  let v87 : BitVec 1 := Scalar.cmpi .slt v83 c0_i32_69
  let v88 : BitVec 1 := Scalar.xori v86 v87
  let c0_i32_67 : BitVec 32 := 0#32
  let v85 : BitVec 1 := Scalar.cmpi .ne v84 c0_i32_67
  let v89 : BitVec 1 := Scalar.andi v88 v85
  let v90 : BitVec 32 := Scalar.addi v84 v83
  let v91 : BitVec 32 := Scalar.select v89 v90 v84
  let c1_i32_74 : BitVec 32 := 1#32
  let v92 : BitVec 32 := Scalar.muli v91 c1_i32_74
  let v93 : BitVec 32 := Scalar.addi c0_i32_75 v92
  v93.toNat
def k0_dev9 (d0 : Dev nD) : Nat :=
  let c0_i32_92 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_80 : BitVec 32 := 3#32
  let v102 : BitVec 32 := Scalar.addi v2 c3_i32_80
  let c4_i32_81 : BitVec 32 := 4#32
  let c0_i32_82 : BitVec 32 := 0#32
  let v103 : BitVec 1 := Scalar.cmpi .eq c4_i32_81 c0_i32_82
  let c1_i32_83 : BitVec 32 := 1#32
  let v104 : BitVec 32 := Scalar.select v103 c1_i32_83 c4_i32_81
  let v105 : BitVec 32 := Scalar.remsi v102 v104
  let c0_i32_85 : BitVec 32 := 0#32
  let v107 : BitVec 1 := Scalar.cmpi .slt v105 c0_i32_85
  let c0_i32_86 : BitVec 32 := 0#32
  let v108 : BitVec 1 := Scalar.cmpi .slt v104 c0_i32_86
  let v109 : BitVec 1 := Scalar.xori v107 v108
  let c0_i32_84 : BitVec 32 := 0#32
  let v106 : BitVec 1 := Scalar.cmpi .ne v105 c0_i32_84
  let v110 : BitVec 1 := Scalar.andi v109 v106
  let v111 : BitVec 32 := Scalar.addi v105 v104
  let v112 : BitVec 32 := Scalar.select v110 v111 v105
  let c1_i32_91 : BitVec 32 := 1#32
  let v113 : BitVec 32 := Scalar.muli v112 c1_i32_91
  let v114 : BitVec 32 := Scalar.addi c0_i32_92 v113
  v114.toNat
def k0_dev10 (d0 : Dev nD) : Nat :=
  let c0_i32_281 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_265 : BitVec 32 := 1#32
  let v309 : BitVec 32 := Scalar.addi v2 c1_i32_265
  let c4_i32_266 : BitVec 32 := 4#32
  let c0_i32_267 : BitVec 32 := 0#32
  let v310 : BitVec 1 := Scalar.cmpi .eq c4_i32_266 c0_i32_267
  let c1_i32_268 : BitVec 32 := 1#32
  let v311 : BitVec 32 := Scalar.select v310 c1_i32_268 c4_i32_266
  let v312 : BitVec 32 := Scalar.remsi v309 v311
  let c0_i32_270 : BitVec 32 := 0#32
  let v314 : BitVec 1 := Scalar.cmpi .slt v312 c0_i32_270
  let c0_i32_271 : BitVec 32 := 0#32
  let v315 : BitVec 1 := Scalar.cmpi .slt v311 c0_i32_271
  let v316 : BitVec 1 := Scalar.xori v314 v315
  let c0_i32_269 : BitVec 32 := 0#32
  let v313 : BitVec 1 := Scalar.cmpi .ne v312 c0_i32_269
  let v317 : BitVec 1 := Scalar.andi v316 v313
  let v318 : BitVec 32 := Scalar.addi v312 v311
  let v319 : BitVec 32 := Scalar.select v317 v318 v312
  let c1_i32_280 : BitVec 32 := 1#32
  let v320 : BitVec 32 := Scalar.muli v319 c1_i32_280
  let v321 : BitVec 32 := Scalar.addi c0_i32_281 v320
  v321.toNat
def k0_dev11 (d0 : Dev nD) : Nat :=
  let c0_i32_302 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_286 : BitVec 32 := 2#32
  let v330 : BitVec 32 := Scalar.addi v2 c2_i32_286
  let c4_i32_287 : BitVec 32 := 4#32
  let c0_i32_288 : BitVec 32 := 0#32
  let v331 : BitVec 1 := Scalar.cmpi .eq c4_i32_287 c0_i32_288
  let c1_i32_289 : BitVec 32 := 1#32
  let v332 : BitVec 32 := Scalar.select v331 c1_i32_289 c4_i32_287
  let v333 : BitVec 32 := Scalar.remsi v330 v332
  let c0_i32_291 : BitVec 32 := 0#32
  let v335 : BitVec 1 := Scalar.cmpi .slt v333 c0_i32_291
  let c0_i32_292 : BitVec 32 := 0#32
  let v336 : BitVec 1 := Scalar.cmpi .slt v332 c0_i32_292
  let v337 : BitVec 1 := Scalar.xori v335 v336
  let c0_i32_290 : BitVec 32 := 0#32
  let v334 : BitVec 1 := Scalar.cmpi .ne v333 c0_i32_290
  let v338 : BitVec 1 := Scalar.andi v337 v334
  let v339 : BitVec 32 := Scalar.addi v333 v332
  let v340 : BitVec 32 := Scalar.select v338 v339 v333
  let c1_i32_301 : BitVec 32 := 1#32
  let v341 : BitVec 32 := Scalar.muli v340 c1_i32_301
  let v342 : BitVec 32 := Scalar.addi c0_i32_302 v341
  v342.toNat
def k0_dev12 (d0 : Dev nD) : Nat :=
  let c0_i32_323 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_307 : BitVec 32 := 3#32
  let v351 : BitVec 32 := Scalar.addi v2 c3_i32_307
  let c4_i32_308 : BitVec 32 := 4#32
  let c0_i32_309 : BitVec 32 := 0#32
  let v352 : BitVec 1 := Scalar.cmpi .eq c4_i32_308 c0_i32_309
  let c1_i32_310 : BitVec 32 := 1#32
  let v353 : BitVec 32 := Scalar.select v352 c1_i32_310 c4_i32_308
  let v354 : BitVec 32 := Scalar.remsi v351 v353
  let c0_i32_312 : BitVec 32 := 0#32
  let v356 : BitVec 1 := Scalar.cmpi .slt v354 c0_i32_312
  let c0_i32_313 : BitVec 32 := 0#32
  let v357 : BitVec 1 := Scalar.cmpi .slt v353 c0_i32_313
  let v358 : BitVec 1 := Scalar.xori v356 v357
  let c0_i32_311 : BitVec 32 := 0#32
  let v355 : BitVec 1 := Scalar.cmpi .ne v354 c0_i32_311
  let v359 : BitVec 1 := Scalar.andi v358 v355
  let v360 : BitVec 32 := Scalar.addi v354 v353
  let v361 : BitVec 32 := Scalar.select v359 v360 v354
  let c1_i32_322 : BitVec 32 := 1#32
  let v362 : BitVec 32 := Scalar.muli v361 c1_i32_322
  let v363 : BitVec 32 := Scalar.addi c0_i32_323 v362
  v363.toNat
def k0_dev13 (d0 : Dev nD) : Nat :=
  let c0_i32_476 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_460 : BitVec 32 := 1#32
  let v521 : BitVec 32 := Scalar.addi v2 c1_i32_460
  let c4_i32_461 : BitVec 32 := 4#32
  let c0_i32_462 : BitVec 32 := 0#32
  let v522 : BitVec 1 := Scalar.cmpi .eq c4_i32_461 c0_i32_462
  let c1_i32_463 : BitVec 32 := 1#32
  let v523 : BitVec 32 := Scalar.select v522 c1_i32_463 c4_i32_461
  let v524 : BitVec 32 := Scalar.remsi v521 v523
  let c0_i32_465 : BitVec 32 := 0#32
  let v526 : BitVec 1 := Scalar.cmpi .slt v524 c0_i32_465
  let c0_i32_466 : BitVec 32 := 0#32
  let v527 : BitVec 1 := Scalar.cmpi .slt v523 c0_i32_466
  let v528 : BitVec 1 := Scalar.xori v526 v527
  let c0_i32_464 : BitVec 32 := 0#32
  let v525 : BitVec 1 := Scalar.cmpi .ne v524 c0_i32_464
  let v529 : BitVec 1 := Scalar.andi v528 v525
  let v530 : BitVec 32 := Scalar.addi v524 v523
  let v531 : BitVec 32 := Scalar.select v529 v530 v524
  let c1_i32_475 : BitVec 32 := 1#32
  let v532 : BitVec 32 := Scalar.muli v531 c1_i32_475
  let v533 : BitVec 32 := Scalar.addi c0_i32_476 v532
  v533.toNat
def k0_dev14 (d0 : Dev nD) : Nat :=
  let c0_i32_497 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_481 : BitVec 32 := 2#32
  let v542 : BitVec 32 := Scalar.addi v2 c2_i32_481
  let c4_i32_482 : BitVec 32 := 4#32
  let c0_i32_483 : BitVec 32 := 0#32
  let v543 : BitVec 1 := Scalar.cmpi .eq c4_i32_482 c0_i32_483
  let c1_i32_484 : BitVec 32 := 1#32
  let v544 : BitVec 32 := Scalar.select v543 c1_i32_484 c4_i32_482
  let v545 : BitVec 32 := Scalar.remsi v542 v544
  let c0_i32_486 : BitVec 32 := 0#32
  let v547 : BitVec 1 := Scalar.cmpi .slt v545 c0_i32_486
  let c0_i32_487 : BitVec 32 := 0#32
  let v548 : BitVec 1 := Scalar.cmpi .slt v544 c0_i32_487
  let v549 : BitVec 1 := Scalar.xori v547 v548
  let c0_i32_485 : BitVec 32 := 0#32
  let v546 : BitVec 1 := Scalar.cmpi .ne v545 c0_i32_485
  let v550 : BitVec 1 := Scalar.andi v549 v546
  let v551 : BitVec 32 := Scalar.addi v545 v544
  let v552 : BitVec 32 := Scalar.select v550 v551 v545
  let c1_i32_496 : BitVec 32 := 1#32
  let v553 : BitVec 32 := Scalar.muli v552 c1_i32_496
  let v554 : BitVec 32 := Scalar.addi c0_i32_497 v553
  v554.toNat
def k0_dev15 (d0 : Dev nD) : Nat :=
  let c0_i32_518 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_502 : BitVec 32 := 3#32
  let v563 : BitVec 32 := Scalar.addi v2 c3_i32_502
  let c4_i32_503 : BitVec 32 := 4#32
  let c0_i32_504 : BitVec 32 := 0#32
  let v564 : BitVec 1 := Scalar.cmpi .eq c4_i32_503 c0_i32_504
  let c1_i32_505 : BitVec 32 := 1#32
  let v565 : BitVec 32 := Scalar.select v564 c1_i32_505 c4_i32_503
  let v566 : BitVec 32 := Scalar.remsi v563 v565
  let c0_i32_507 : BitVec 32 := 0#32
  let v568 : BitVec 1 := Scalar.cmpi .slt v566 c0_i32_507
  let c0_i32_508 : BitVec 32 := 0#32
  let v569 : BitVec 1 := Scalar.cmpi .slt v565 c0_i32_508
  let v570 : BitVec 1 := Scalar.xori v568 v569
  let c0_i32_506 : BitVec 32 := 0#32
  let v567 : BitVec 1 := Scalar.cmpi .ne v566 c0_i32_506
  let v571 : BitVec 1 := Scalar.andi v570 v567
  let v572 : BitVec 32 := Scalar.addi v566 v565
  let v573 : BitVec 32 := Scalar.select v571 v572 v566
  let c1_i32_517 : BitVec 32 := 1#32
  let v574 : BitVec 32 := Scalar.muli v573 c1_i32_517
  let v575 : BitVec 32 := Scalar.addi c0_i32_518 v574
  v575.toNat
def k0_dev16 (d0 : Dev nD) : Nat :=
  let c0_i32_672 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_656 : BitVec 32 := 1#32
  let v733 : BitVec 32 := Scalar.addi v2 c1_i32_656
  let c4_i32_657 : BitVec 32 := 4#32
  let c0_i32_658 : BitVec 32 := 0#32
  let v734 : BitVec 1 := Scalar.cmpi .eq c4_i32_657 c0_i32_658
  let c1_i32_659 : BitVec 32 := 1#32
  let v735 : BitVec 32 := Scalar.select v734 c1_i32_659 c4_i32_657
  let v736 : BitVec 32 := Scalar.remsi v733 v735
  let c0_i32_661 : BitVec 32 := 0#32
  let v738 : BitVec 1 := Scalar.cmpi .slt v736 c0_i32_661
  let c0_i32_662 : BitVec 32 := 0#32
  let v739 : BitVec 1 := Scalar.cmpi .slt v735 c0_i32_662
  let v740 : BitVec 1 := Scalar.xori v738 v739
  let c0_i32_660 : BitVec 32 := 0#32
  let v737 : BitVec 1 := Scalar.cmpi .ne v736 c0_i32_660
  let v741 : BitVec 1 := Scalar.andi v740 v737
  let v742 : BitVec 32 := Scalar.addi v736 v735
  let v743 : BitVec 32 := Scalar.select v741 v742 v736
  let c1_i32_671 : BitVec 32 := 1#32
  let v744 : BitVec 32 := Scalar.muli v743 c1_i32_671
  let v745 : BitVec 32 := Scalar.addi c0_i32_672 v744
  v745.toNat
def k0_dev17 (d0 : Dev nD) : Nat :=
  let c0_i32_693 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_677 : BitVec 32 := 2#32
  let v754 : BitVec 32 := Scalar.addi v2 c2_i32_677
  let c4_i32_678 : BitVec 32 := 4#32
  let c0_i32_679 : BitVec 32 := 0#32
  let v755 : BitVec 1 := Scalar.cmpi .eq c4_i32_678 c0_i32_679
  let c1_i32_680 : BitVec 32 := 1#32
  let v756 : BitVec 32 := Scalar.select v755 c1_i32_680 c4_i32_678
  let v757 : BitVec 32 := Scalar.remsi v754 v756
  let c0_i32_682 : BitVec 32 := 0#32
  let v759 : BitVec 1 := Scalar.cmpi .slt v757 c0_i32_682
  let c0_i32_683 : BitVec 32 := 0#32
  let v760 : BitVec 1 := Scalar.cmpi .slt v756 c0_i32_683
  let v761 : BitVec 1 := Scalar.xori v759 v760
  let c0_i32_681 : BitVec 32 := 0#32
  let v758 : BitVec 1 := Scalar.cmpi .ne v757 c0_i32_681
  let v762 : BitVec 1 := Scalar.andi v761 v758
  let v763 : BitVec 32 := Scalar.addi v757 v756
  let v764 : BitVec 32 := Scalar.select v762 v763 v757
  let c1_i32_692 : BitVec 32 := 1#32
  let v765 : BitVec 32 := Scalar.muli v764 c1_i32_692
  let v766 : BitVec 32 := Scalar.addi c0_i32_693 v765
  v766.toNat
def k0_dev18 (d0 : Dev nD) : Nat :=
  let c0_i32_714 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_698 : BitVec 32 := 3#32
  let v775 : BitVec 32 := Scalar.addi v2 c3_i32_698
  let c4_i32_699 : BitVec 32 := 4#32
  let c0_i32_700 : BitVec 32 := 0#32
  let v776 : BitVec 1 := Scalar.cmpi .eq c4_i32_699 c0_i32_700
  let c1_i32_701 : BitVec 32 := 1#32
  let v777 : BitVec 32 := Scalar.select v776 c1_i32_701 c4_i32_699
  let v778 : BitVec 32 := Scalar.remsi v775 v777
  let c0_i32_703 : BitVec 32 := 0#32
  let v780 : BitVec 1 := Scalar.cmpi .slt v778 c0_i32_703
  let c0_i32_704 : BitVec 32 := 0#32
  let v781 : BitVec 1 := Scalar.cmpi .slt v777 c0_i32_704
  let v782 : BitVec 1 := Scalar.xori v780 v781
  let c0_i32_702 : BitVec 32 := 0#32
  let v779 : BitVec 1 := Scalar.cmpi .ne v778 c0_i32_702
  let v783 : BitVec 1 := Scalar.andi v782 v779
  let v784 : BitVec 32 := Scalar.addi v778 v777
  let v785 : BitVec 32 := Scalar.select v783 v784 v778
  let c1_i32_713 : BitVec 32 := 1#32
  let v786 : BitVec 32 := Scalar.muli v785 c1_i32_713
  let v787 : BitVec 32 := Scalar.addi c0_i32_714 v786
  v787.toNat
def k0_dev19 (d0 : Dev nD) : Nat :=
  let c0_i32_867 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_851 : BitVec 32 := 1#32
  let v945 : BitVec 32 := Scalar.addi v2 c1_i32_851
  let c4_i32_852 : BitVec 32 := 4#32
  let c0_i32_853 : BitVec 32 := 0#32
  let v946 : BitVec 1 := Scalar.cmpi .eq c4_i32_852 c0_i32_853
  let c1_i32_854 : BitVec 32 := 1#32
  let v947 : BitVec 32 := Scalar.select v946 c1_i32_854 c4_i32_852
  let v948 : BitVec 32 := Scalar.remsi v945 v947
  let c0_i32_856 : BitVec 32 := 0#32
  let v950 : BitVec 1 := Scalar.cmpi .slt v948 c0_i32_856
  let c0_i32_857 : BitVec 32 := 0#32
  let v951 : BitVec 1 := Scalar.cmpi .slt v947 c0_i32_857
  let v952 : BitVec 1 := Scalar.xori v950 v951
  let c0_i32_855 : BitVec 32 := 0#32
  let v949 : BitVec 1 := Scalar.cmpi .ne v948 c0_i32_855
  let v953 : BitVec 1 := Scalar.andi v952 v949
  let v954 : BitVec 32 := Scalar.addi v948 v947
  let v955 : BitVec 32 := Scalar.select v953 v954 v948
  let c1_i32_866 : BitVec 32 := 1#32
  let v956 : BitVec 32 := Scalar.muli v955 c1_i32_866
  let v957 : BitVec 32 := Scalar.addi c0_i32_867 v956
  v957.toNat
def k0_dev20 (d0 : Dev nD) : Nat :=
  let c0_i32_888 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_872 : BitVec 32 := 2#32
  let v966 : BitVec 32 := Scalar.addi v2 c2_i32_872
  let c4_i32_873 : BitVec 32 := 4#32
  let c0_i32_874 : BitVec 32 := 0#32
  let v967 : BitVec 1 := Scalar.cmpi .eq c4_i32_873 c0_i32_874
  let c1_i32_875 : BitVec 32 := 1#32
  let v968 : BitVec 32 := Scalar.select v967 c1_i32_875 c4_i32_873
  let v969 : BitVec 32 := Scalar.remsi v966 v968
  let c0_i32_877 : BitVec 32 := 0#32
  let v971 : BitVec 1 := Scalar.cmpi .slt v969 c0_i32_877
  let c0_i32_878 : BitVec 32 := 0#32
  let v972 : BitVec 1 := Scalar.cmpi .slt v968 c0_i32_878
  let v973 : BitVec 1 := Scalar.xori v971 v972
  let c0_i32_876 : BitVec 32 := 0#32
  let v970 : BitVec 1 := Scalar.cmpi .ne v969 c0_i32_876
  let v974 : BitVec 1 := Scalar.andi v973 v970
  let v975 : BitVec 32 := Scalar.addi v969 v968
  let v976 : BitVec 32 := Scalar.select v974 v975 v969
  let c1_i32_887 : BitVec 32 := 1#32
  let v977 : BitVec 32 := Scalar.muli v976 c1_i32_887
  let v978 : BitVec 32 := Scalar.addi c0_i32_888 v977
  v978.toNat
def k0_dev21 (d0 : Dev nD) : Nat :=
  let c0_i32_909 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_893 : BitVec 32 := 3#32
  let v987 : BitVec 32 := Scalar.addi v2 c3_i32_893
  let c4_i32_894 : BitVec 32 := 4#32
  let c0_i32_895 : BitVec 32 := 0#32
  let v988 : BitVec 1 := Scalar.cmpi .eq c4_i32_894 c0_i32_895
  let c1_i32_896 : BitVec 32 := 1#32
  let v989 : BitVec 32 := Scalar.select v988 c1_i32_896 c4_i32_894
  let v990 : BitVec 32 := Scalar.remsi v987 v989
  let c0_i32_898 : BitVec 32 := 0#32
  let v992 : BitVec 1 := Scalar.cmpi .slt v990 c0_i32_898
  let c0_i32_899 : BitVec 32 := 0#32
  let v993 : BitVec 1 := Scalar.cmpi .slt v989 c0_i32_899
  let v994 : BitVec 1 := Scalar.xori v992 v993
  let c0_i32_897 : BitVec 32 := 0#32
  let v991 : BitVec 1 := Scalar.cmpi .ne v990 c0_i32_897
  let v995 : BitVec 1 := Scalar.andi v994 v991
  let v996 : BitVec 32 := Scalar.addi v990 v989
  let v997 : BitVec 32 := Scalar.select v995 v996 v990
  let c1_i32_908 : BitVec 32 := 1#32
  let v998 : BitVec 32 := Scalar.muli v997 c1_i32_908
  let v999 : BitVec 32 := Scalar.addi c0_i32_909 v998
  v999.toNat
abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x8x1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x8x1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S1x1024x1024 : Shape := ⟨3, ![1, 1024, 1024]⟩
abbrev S1024x1024 : Shape := ⟨2, ![1024, 1024]⟩
abbrev S1x16384x8x128 : Shape := ⟨4, ![1, 16384, 8, 128]⟩
abbrev S1x1024x8x128 : Shape := ⟨4, ![1, 1024, 8, 128]⟩
abbrev S1024 : Shape := ⟨1, ![1024]⟩
abbrev S_ : Shape := ⟨0, ![]⟩
abbrev S1024x1 : Shape := ⟨2, ![1024, 1]⟩
abbrev S16384 : Shape := ⟨1, ![16384]⟩
abbrev S1x16384 : Shape := ⟨2, ![1, 16384]⟩
abbrev S1024x16384 : Shape := ⟨2, ![1024, 16384]⟩
abbrev S1x8x1024x16384 : Shape := ⟨4, ![1, 8, 1024, 16384]⟩
abbrev S1x1x1024x16384 : Shape := ⟨4, ![1, 1, 1024, 16384]⟩
abbrev S1x8x1024 : Shape := ⟨3, ![1, 8, 1024]⟩
abbrev S1x8x1024x1 : Shape := ⟨4, ![1, 8, 1024, 1]⟩
abbrev S1x1x1024x1 : Shape := ⟨4, ![1, 1, 1024, 1]⟩
abbrev S1x8x128x1024 : Shape := ⟨4, ![1, 8, 128, 1024]⟩

abbrev nBuf : Space → Nat
  | .hbm => 142
  | .vmem => 0
  | .smem => 0
  | _ => 0

abbrev hbmTy0_0 (i : Nat) : BufTy := match i % 128 with
  | 0 => ⟨S1x1024x1024, .bf16⟩
  | 1 => ⟨S1024x1024, .bf16⟩
  | 2 => ⟨S1x16384x8x128, .bf16⟩
  | 3 => ⟨S1x16384x8x128, .bf16⟩
  | 4 => ⟨S1024x1024, .bf16⟩
  | 5 => ⟨S1x1024x1024, .f32⟩
  | 6 => ⟨S1x1024x1024, .bf16⟩
  | 7 => ⟨S1x1024x8x128, .bf16⟩
  | 8 => ⟨S1024, .i32⟩
  | 9 => ⟨S_, .i32⟩
  | 10 => ⟨S_, .i32⟩
  | 11 => ⟨S1024, .i32⟩
  | 12 => ⟨S1024, .i32⟩
  | 13 => ⟨S1024, .i32⟩
  | 14 => ⟨S_, .i32⟩
  | 15 => ⟨S1024, .i32⟩
  | 16 => ⟨S1024, .i1⟩
  | 17 => ⟨S1024, .i32⟩
  | 18 => ⟨S1024, .i32⟩
  | 19 => ⟨S_, .i32⟩
  | 20 => ⟨S1024, .i32⟩
  | 21 => ⟨S1024, .i1⟩
  | 22 => ⟨S1024, .i1⟩
  | 23 => ⟨S_, .i32⟩
  | 24 => ⟨S1024, .i32⟩
  | 25 => ⟨S1024, .i32⟩
  | 26 => ⟨S1024, .i32⟩
  | 27 => ⟨S1024x1, .i32⟩
  | 28 => ⟨S16384, .i32⟩
  | 29 => ⟨S_, .i32⟩
  | 30 => ⟨S_, .i32⟩
  | 31 => ⟨S16384, .i32⟩
  | 32 => ⟨S16384, .i32⟩
  | 33 => ⟨S16384, .i32⟩
  | 34 => ⟨S_, .i32⟩
  | 35 => ⟨S16384, .i32⟩
  | 36 => ⟨S16384, .i1⟩
  | 37 => ⟨S16384, .i32⟩
  | 38 => ⟨S16384, .i32⟩
  | 39 => ⟨S_, .i32⟩
  | 40 => ⟨S16384, .i32⟩
  | 41 => ⟨S16384, .i1⟩
  | 42 => ⟨S16384, .i1⟩
  | 43 => ⟨S_, .i32⟩
  | 44 => ⟨S16384, .i32⟩
  | 45 => ⟨S16384, .i32⟩
  | 46 => ⟨S16384, .i32⟩
  | 47 => ⟨S1x16384, .i32⟩
  | 48 => ⟨S1024x16384, .i32⟩
  | 49 => ⟨S1024x16384, .i32⟩
  | 50 => ⟨S1024x16384, .i1⟩
  | 51 => ⟨S_, .i32⟩
  | 52 => ⟨S_, .i32⟩
  | 53 => ⟨S_, .i32⟩
  | 54 => ⟨S_, .i1⟩
  | 55 => ⟨S_, .i32⟩
  | 56 => ⟨S_, .i32⟩
  | 57 => ⟨S1x16384, .i32⟩
  | 58 => ⟨S1x16384, .i32⟩
  | 59 => ⟨S_, .i32⟩
  | 60 => ⟨S1x16384, .i32⟩
  | 61 => ⟨S1x16384, .i1⟩
  | 62 => ⟨S_, .i32⟩
  | 63 => ⟨S1x16384, .i32⟩
  | 64 => ⟨S1x16384, .i1⟩
  | 65 => ⟨S_, .i32⟩
  | 66 => ⟨S_, .i1⟩
  | 67 => ⟨S1x16384, .i1⟩
  | 68 => ⟨S1x16384, .i1⟩
  | 69 => ⟨S1x16384, .i1⟩
  | 70 => ⟨S1x16384, .i32⟩
  | 71 => ⟨S1x16384, .i32⟩
  | 72 => ⟨S1x16384, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S1024x1, .i32⟩
  | 80 => ⟨S1024x1, .i32⟩
  | 81 => ⟨S_, .i32⟩
  | 82 => ⟨S1024x1, .i32⟩
  | 83 => ⟨S1024x1, .i1⟩
  | 84 => ⟨S_, .i32⟩
  | 85 => ⟨S1024x1, .i32⟩
  | 86 => ⟨S1024x1, .i1⟩
  | 87 => ⟨S_, .i32⟩
  | 88 => ⟨S_, .i1⟩
  | 89 => ⟨S1024x1, .i1⟩
  | 90 => ⟨S1024x1, .i1⟩
  | 91 => ⟨S1024x1, .i1⟩
  | 92 => ⟨S1024x1, .i32⟩
  | 93 => ⟨S1024x1, .i32⟩
  | 94 => ⟨S1024x1, .i32⟩
  | 95 => ⟨S1024x16384, .i32⟩
  | 96 => ⟨S1024x16384, .i32⟩
  | 97 => ⟨S1024x16384, .i1⟩
  | 98 => ⟨S1024x16384, .i1⟩
  | 99 => ⟨S1x8x1024x16384, .f32⟩
  | 100 => ⟨S1x8x1024x16384, .bf16⟩
  | 101 => ⟨S1x8x1024x16384, .f32⟩
  | 102 => ⟨S_, .f32⟩
  | 103 => ⟨S1x8x1024x16384, .f32⟩
  | 104 => ⟨S1x8x1024x16384, .f32⟩
  | 105 => ⟨S1x1x1024x16384, .i1⟩
  | 106 => ⟨S_, .f32⟩
  | 107 => ⟨S_, .f32⟩
  | 108 => ⟨S1x8x1024x16384, .i1⟩
  | 109 => ⟨S1x8x1024x16384, .f32⟩
  | 110 => ⟨S1x8x1024x16384, .f32⟩
  | 111 => ⟨S_, .f32⟩
  | 112 => ⟨S1x8x1024, .f32⟩
  | 113 => ⟨S1x8x1024x1, .f32⟩
  | 114 => ⟨S1x8x1024x16384, .f32⟩
  | 115 => ⟨S1x8x1024x16384, .f32⟩
  | 116 => ⟨S1x8x1024x16384, .f32⟩
  | 117 => ⟨S_, .i1⟩
  | 118 => ⟨S1024, .i1⟩
  | 119 => ⟨S1x1x1024x1, .i1⟩
  | 120 => ⟨S_, .f32⟩
  | 121 => ⟨S1x8x1024, .f32⟩
  | 122 => ⟨S1x8x1024x1, .f32⟩
  | 123 => ⟨S_, .f32⟩
  | 124 => ⟨S_, .f32⟩
  | 125 => ⟨S1x8x1024x1, .i1⟩
  | 126 => ⟨S1x8x1024x1, .f32⟩
  | 127 => ⟨S1x8x1024x1, .f32⟩
  | _ => ⟨S1x1024x1024, .bf16⟩

abbrev hbmTy0_1 (i : Nat) : BufTy := match i % 128 with
  | 0 => ⟨S1x8x1024x16384, .f32⟩
  | 1 => ⟨S1x8x1024x16384, .f32⟩
  | 2 => ⟨S1x1x1024x1, .i1⟩
  | 3 => ⟨S_, .f32⟩
  | 4 => ⟨S_, .f32⟩
  | 5 => ⟨S1x8x1024x16384, .i1⟩
  | 6 => ⟨S1x8x1024x16384, .f32⟩
  | 7 => ⟨S1x8x1024x16384, .f32⟩
  | 8 => ⟨S1x16384x8x128, .f32⟩
  | 9 => ⟨S1x8x128x1024, .f32⟩
  | 10 => ⟨S1x1024x8x128, .f32⟩
  | 11 => ⟨S1x1024x1024, .f32⟩
  | 12 => ⟨S1024x1024, .f32⟩
  | 13 => ⟨S1x1024x1024, .f32⟩
  | _ => ⟨S1x1024x1024, .bf16⟩

abbrev hbmTy (i : Nat) : BufTy := match i / 128 with
  | 0 => hbmTy0_0 i
  | 1 => hbmTy0_1 i
  | _ => ⟨S1x1024x1024, .bf16⟩

abbrev bufTy : (tb : Table) → Fin (tcTables nBuf tb) → BufTy
  | .hbm, ⟨i, _⟩ => hbmTy i
  | _, _ => ⟨S1x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_c_0 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_c : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_0 : Ref sig .tc := ⟨.hbm, 43, rfl⟩
abbrev main_call1_v12 : Ref sig .tc := ⟨.hbm, 44, rfl⟩
abbrev main_call1_v13 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_c_1 : Ref sig .tc := ⟨.hbm, 51, rfl⟩
abbrev main_call2_v0 : Ref sig .tc := ⟨.hbm, 52, rfl⟩
abbrev main_call2_c : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_c_1 : Ref sig .tc := ⟨.hbm, 59, rfl⟩
abbrev main_call2_v5 : Ref sig .tc := ⟨.hbm, 60, rfl⟩
abbrev main_call2_v6 : Ref sig .tc := ⟨.hbm, 61, rfl⟩
abbrev main_call2_c_2 : Ref sig .tc := ⟨.hbm, 62, rfl⟩
abbrev main_call2_v7 : Ref sig .tc := ⟨.hbm, 63, rfl⟩
abbrev main_call2_v8 : Ref sig .tc := ⟨.hbm, 64, rfl⟩
abbrev main_call2_c_3 : Ref sig .tc := ⟨.hbm, 65, rfl⟩
abbrev main_call2_v9 : Ref sig .tc := ⟨.hbm, 66, rfl⟩
abbrev main_call2_v10 : Ref sig .tc := ⟨.hbm, 67, rfl⟩
abbrev main_call2_v11 : Ref sig .tc := ⟨.hbm, 68, rfl⟩
abbrev main_call2_v12 : Ref sig .tc := ⟨.hbm, 69, rfl⟩
abbrev main_call2_v13 : Ref sig .tc := ⟨.hbm, 70, rfl⟩
abbrev main_call2_v14 : Ref sig .tc := ⟨.hbm, 71, rfl⟩
abbrev main_v12 : Ref sig .tc := ⟨.hbm, 72, rfl⟩
abbrev main_c_2 : Ref sig .tc := ⟨.hbm, 73, rfl⟩
abbrev main_call3_v0 : Ref sig .tc := ⟨.hbm, 74, rfl⟩
abbrev main_call3_c : Ref sig .tc := ⟨.hbm, 75, rfl⟩
abbrev main_call3_v1 : Ref sig .tc := ⟨.hbm, 76, rfl⟩
abbrev main_call3_c_0 : Ref sig .tc := ⟨.hbm, 77, rfl⟩
abbrev main_call3_v2 : Ref sig .tc := ⟨.hbm, 78, rfl⟩
abbrev main_call3_v3 : Ref sig .tc := ⟨.hbm, 79, rfl⟩
abbrev main_call3_v4 : Ref sig .tc := ⟨.hbm, 80, rfl⟩
abbrev main_call3_c_1 : Ref sig .tc := ⟨.hbm, 81, rfl⟩
abbrev main_call3_v5 : Ref sig .tc := ⟨.hbm, 82, rfl⟩
abbrev main_call3_v6 : Ref sig .tc := ⟨.hbm, 83, rfl⟩
abbrev main_call3_c_2 : Ref sig .tc := ⟨.hbm, 84, rfl⟩
abbrev main_call3_v7 : Ref sig .tc := ⟨.hbm, 85, rfl⟩
abbrev main_call3_v8 : Ref sig .tc := ⟨.hbm, 86, rfl⟩
abbrev main_call3_c_3 : Ref sig .tc := ⟨.hbm, 87, rfl⟩
abbrev main_call3_v9 : Ref sig .tc := ⟨.hbm, 88, rfl⟩
abbrev main_call3_v10 : Ref sig .tc := ⟨.hbm, 89, rfl⟩
abbrev main_call3_v11 : Ref sig .tc := ⟨.hbm, 90, rfl⟩
abbrev main_call3_v12 : Ref sig .tc := ⟨.hbm, 91, rfl⟩
abbrev main_call3_v13 : Ref sig .tc := ⟨.hbm, 92, rfl⟩
abbrev main_call3_v14 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_v18 : Ref sig .tc := ⟨.hbm, 99, rfl⟩
abbrev main_v19 : Ref sig .tc := ⟨.hbm, 100, rfl⟩
abbrev main_v20 : Ref sig .tc := ⟨.hbm, 101, rfl⟩
abbrev main_cst : Ref sig .tc := ⟨.hbm, 102, rfl⟩
abbrev main_v21 : Ref sig .tc := ⟨.hbm, 103, rfl⟩
abbrev main_v22 : Ref sig .tc := ⟨.hbm, 104, rfl⟩
abbrev main_v23 : Ref sig .tc := ⟨.hbm, 105, rfl⟩
abbrev main_cst_3 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v24 : Ref sig .tc := ⟨.hbm, 110, rfl⟩
abbrev main_cst_4 : Ref sig .tc := ⟨.hbm, 111, rfl⟩
abbrev main_v25 : Ref sig .tc := ⟨.hbm, 112, rfl⟩
abbrev main_v26 : Ref sig .tc := ⟨.hbm, 113, rfl⟩
abbrev main_v27 : Ref sig .tc := ⟨.hbm, 114, rfl⟩
abbrev main_v28 : Ref sig .tc := ⟨.hbm, 115, rfl⟩
abbrev main_v29 : Ref sig .tc := ⟨.hbm, 116, rfl⟩
abbrev main_c_5 : Ref sig .tc := ⟨.hbm, 117, rfl⟩
abbrev main_v30 : Ref sig .tc := ⟨.hbm, 118, rfl⟩
abbrev main_v31 : Ref sig .tc := ⟨.hbm, 119, rfl⟩
abbrev main_cst_6 : Ref sig .tc := ⟨.hbm, 120, rfl⟩
abbrev main_v32 : Ref sig .tc := ⟨.hbm, 121, rfl⟩
abbrev main_v33 : Ref sig .tc := ⟨.hbm, 122, rfl⟩
abbrev main_cst_7 : Ref sig .tc := ⟨.hbm, 123, rfl⟩
abbrev main_call5_v0 : Ref sig .tc := ⟨.hbm, 124, rfl⟩
abbrev main_call5_v1 : Ref sig .tc := ⟨.hbm, 125, rfl⟩
abbrev main_call5_v2 : Ref sig .tc := ⟨.hbm, 126, rfl⟩
abbrev main_v34 : Ref sig .tc := ⟨.hbm, 127, rfl⟩
abbrev main_v35 : Ref sig .tc := ⟨.hbm, 128, rfl⟩
abbrev main_v36 : Ref sig .tc := ⟨.hbm, 129, rfl⟩
abbrev main_v37 : Ref sig .tc := ⟨.hbm, 130, rfl⟩
abbrev main_cst_8 : Ref sig .tc := ⟨.hbm, 131, rfl⟩
abbrev main_call6_v0 : Ref sig .tc := ⟨.hbm, 132, rfl⟩
abbrev main_call6_v1 : Ref sig .tc := ⟨.hbm, 133, rfl⟩
abbrev main_call6_v2 : Ref sig .tc := ⟨.hbm, 134, rfl⟩
abbrev main_v38 : Ref sig .tc := ⟨.hbm, 135, rfl⟩
abbrev main_v39 : Ref sig .tc := ⟨.hbm, 136, rfl⟩
abbrev main_v40 : Ref sig .tc := ⟨.hbm, 137, rfl⟩
abbrev main_v41 : Ref sig .tc := ⟨.hbm, 138, rfl⟩
abbrev main_v42 : Ref sig .tc := ⟨.hbm, 139, rfl⟩
abbrev main_v43 : Ref sig .tc := ⟨.hbm, 140, rfl⟩
abbrev main_v44 : Ref sig .tc := ⟨.hbm, 141, rfl⟩

abbrev nD : Nat := 1
abbrev τ : Topo := Topo.v7x

variable {F : FTy → Type} [FloatOps F]
-- ==== Proof.Pure.lean ====
/- One row of the attention, as a statement about sums of extended reals: a softmax computed in four parts, each with its own maximum,
   and merged with the weights `exp (m u - M)`, is the softmax of all the keys at once, in which a key outside the four parts scores `⊥`.
   The scores of the keys inside are real; nothing is asked of the values. -/
module

public import Idealize.ShloMosaic.PureOps.Ideal

@[expose] public section

noncomputable section

namespace Cert.Pure

open Idealize.ShloMosaic

/-! ## Sums and products of extended reals -/

/-- A real factor that is not negative goes through a sum. -/
theorem mul_sum {ι : Type} (t : Finset ι) (f : ι → EReal) (x : ℝ) (hx : 0 ≤ x) :
    (x : EReal) * ∑ i ∈ t, f i = ∑ i ∈ t, (x : EReal) * f i := by
  classical
  induction t using Finset.induction_on with
  | empty => simp
  | insert a t ha ih =>
    rw [Finset.sum_insert ha, Finset.sum_insert ha,
      EReal.left_distrib_of_nonneg_of_ne_top (EReal.coe_nonneg.2 hx) (EReal.coe_ne_top x), ih]

/-- A sum of reals, as extended reals. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- The exponential of a real is the real exponential. -/
theorem exp_coe (x : ℝ) : Ideal.exp (x : EReal) = (Real.exp x : ℝ) := rfl

theorem exp_bot : Ideal.exp (⊥ : EReal) = 0 := rfl

/-- The largest of finitely many reals, at least one of them, is a real that bounds them. -/
theorem sup_real {ι : Type} [Fintype ι] [Nonempty ι] (s : ι → ℝ) :
    ∃ M : ℝ, (Finset.univ.fold max ⊥ fun i => (s i : EReal)) = M := by
  have h : (Finset.univ.fold max ⊥ fun i => (s i : EReal)) = Finset.univ.sup fun i => (s i : EReal) := rfl
  obtain ⟨i, -, hi⟩ := Finset.exists_mem_eq_sup Finset.univ Finset.univ_nonempty fun i => (s i : EReal)
  exact ⟨s i, h.trans hi⟩

/-! ## The two softmaxes -/

section Row

variable {J T : Type} [Fintype J] [Fintype T]

/-- The maximum of part `u`. -/
def pm (s : Fin 4 → J → EReal) (u : Fin 4) : EReal := Finset.univ.fold max ⊥ (s u)
/-- Its exponentials. -/
def pp (s : Fin 4 → J → EReal) (u : Fin 4) (j : J) : EReal := Ideal.exp (s u j - pm s u)
/-- Their sum. -/
def pl (s : Fin 4 → J → EReal) (u : Fin 4) : EReal := 0 + ∑ j, pp s u j
/-- Their sum with the values. -/
def pa (s v : Fin 4 → J → EReal) (u : Fin 4) : EReal := 0 + ∑ j, pp s u j * v u j
/-- The largest maximum. -/
def pM (m : Fin 4 → EReal) : EReal := max (max (m 0) (m 1)) (max (m 2) (m 3))
/-- The weight of part `u`. -/
def pw (m : Fin 4 → EReal) (u : Fin 4) : EReal := Ideal.exp (m u - pM m)
/-- Four weighted numbers, added in order. -/
def pt (m a : Fin 4 → EReal) : EReal := 0 + pw m 0 * a 0 + pw m 1 * a 1 + pw m 2 * a 2 + pw m 3 * a 3
/-- The merged row. -/
def merged (s v : Fin 4 → J → EReal) : EReal := Ideal.div (pt (pm s) (pa s v)) (pt (pm s) (pl s))

/-- The softmax of all keys at once, applied to the values. -/
def whole (S V : T → EReal) : EReal :=
  0 + ∑ t, V t * Ideal.div (Ideal.exp (S t - Finset.univ.fold max ⊥ S)) (0 + ∑ t, Ideal.exp (S t - Finset.univ.fold max ⊥ S))

variable [Nonempty J]

theorem pt_eq (m a : Fin 4 → EReal) : pt m a = ∑ u, pw m u * a u := by
  simp only [pt, Fin.sum_univ_four, zero_add]

/-- The largest of the parts' maxima is the maximum over all parts. -/
theorem pM_eq (s : Fin 4 → J → EReal) : pM (pm s) = Finset.univ.fold max ⊥ fun i : Fin 4 × J => s i.1 i.2 := by
  have h : ∀ u, pm s u = Finset.univ.sup (s u) := fun _ => rfl
  have h' : (Finset.univ.fold max ⊥ fun i : Fin 4 × J => s i.1 i.2) = Finset.univ.sup fun i : Fin 4 × J => s i.1 i.2 := rfl
  rw [h', pM, h, h, h, h]
  apply le_antisymm
  · refine max_le (max_le ?_ ?_) (max_le ?_ ?_)
    all_goals exact Finset.sup_le fun j _ => Finset.le_sup (f := fun i : Fin 4 × J => s i.1 i.2) (Finset.mem_univ (_, j))
  · refine Finset.sup_le fun i _ => ?_
    have hi : s i.1 i.2 ≤ Finset.univ.sup (s i.1) := Finset.le_sup (f := s i.1) (Finset.mem_univ i.2)
    rcases i with ⟨u, j⟩
    fin_cases u
    · exact hi.trans ((le_max_left _ _).trans (le_max_left _ _))
    · exact hi.trans ((le_max_right _ _).trans (le_max_left _ _))
    · exact hi.trans ((le_max_left _ _).trans (le_max_right _ _))
    · exact hi.trans ((le_max_right _ _).trans (le_max_right _ _))

/-- **The merge is the whole softmax.** The keys `e i`, all different, are those of the four parts, at the same real scores and the
    same values; every other key scores `⊥`. -/
theorem merged_eq_whole (s : Fin 4 → J → ℝ) (v : Fin 4 → J → EReal) (S V : T → EReal) (e : Fin 4 × J → T)
    (he : Function.Injective e) (hS : ∀ i, S (e i) = (s i.1 i.2 : EReal)) (hV : ∀ i, V (e i) = v i.1 i.2)
    (hbot : ∀ t, t ∉ Set.range e → S t = ⊥) :
    merged (fun u j => (s u j : EReal)) v = whole S V := by
  classical
  obtain ⟨M, hM⟩ := sup_real fun i : Fin 4 × J => s i.1 i.2
  choose μ hμ using fun u => sup_real (s u)
  have hpm : ∀ u, pm (fun u j => (s u j : EReal)) u = (μ u : EReal) := hμ
  have hpM : pM (pm fun u j => (s u j : EReal)) = (M : EReal) := (pM_eq _).trans hM
  have hSM : Finset.univ.fold max ⊥ S = (M : EReal) := by
    rw [← hM]
    show Finset.univ.sup S = Finset.univ.sup fun i : Fin 4 × J => (s i.1 i.2 : EReal)
    apply le_antisymm
    · refine Finset.sup_le fun t _ => ?_
      by_cases ht : t ∈ Set.range e
      · obtain ⟨i, rfl⟩ := ht
        rw [hS]
        exact Finset.le_sup (f := fun i : Fin 4 × J => (s i.1 i.2 : EReal)) (Finset.mem_univ i)
      · rw [hbot t ht]; exact bot_le
    · refine Finset.sup_le fun i _ => ?_
      rw [← hS]
      exact Finset.le_sup (Finset.mem_univ _)
  -- the exponentials, on both sides
  have hw : ∀ u, pw (pm fun u j => (s u j : EReal)) u = (Real.exp (μ u - M) : ℝ) := fun u => by
    rw [pw, hpM, hpm, ← EReal.coe_sub, exp_coe]
  have hp : ∀ u j, pp (fun u j => (s u j : EReal)) u j = (Real.exp (s u j - μ u) : ℝ) := fun u j => by
    rw [pp, hpm, ← EReal.coe_sub, exp_coe]
  have hwp : ∀ u j, Real.exp (μ u - M) * Real.exp (s u j - μ u) = Real.exp (s u j - M) := fun u j => by
    rw [← Real.exp_add]; congr 1; ring
  have hE : ∀ i, Ideal.exp (S (e i) - (M : EReal)) = (Real.exp (s i.1 i.2 - M) : ℝ) := fun i => by
    rw [hS, ← EReal.coe_sub, exp_coe]
  have hE0 : ∀ t, t ∉ Set.range e → Ideal.exp (S t - (M : EReal)) = 0 := fun t ht => by
    rw [hbot t ht, EReal.bot_sub, exp_bot]
  have split : ∀ f : T → EReal, (∀ t, t ∉ Set.range e → f t = 0) → ∑ t, f t = ∑ u, ∑ j, f (e (u, j)) := fun f hf => by
    rw [← Fintype.sum_prod_type (f := fun i : Fin 4 × J => f (e i))]
    refine (Finset.sum_of_injOn e he.injOn (fun _ _ => Finset.mem_coe.2 (Finset.mem_univ _)) (fun t _ ht => hf t fun h => ht ?_)
      fun _ _ => rfl).symm
    obtain ⟨i, rfl⟩ := h
    exact ⟨i, Finset.mem_coe.2 (Finset.mem_univ _), rfl⟩
  -- the sums
  set L : ℝ := ∑ u, ∑ j, Real.exp (s u j - M) with hL
  have hLpos : 0 < L := Finset.sum_pos (fun u _ => Finset.sum_pos (fun j _ => Real.exp_pos _) Finset.univ_nonempty) Finset.univ_nonempty
  have hl : pt (pm fun u j => (s u j : EReal)) (pl fun u j => (s u j : EReal)) = (L : EReal) := by
    rw [pt_eq, hL, coe_sum]
    refine Finset.sum_congr rfl fun u _ => ?_
    rw [hw, pl, zero_add, mul_sum _ _ _ (Real.exp_pos _).le, coe_sum]
    exact Finset.sum_congr rfl fun j _ => by rw [hp, ← EReal.coe_mul, hwp]
  have ha : pt (pm fun u j => (s u j : EReal)) (pa (fun u j => (s u j : EReal)) v)
      = ∑ u, ∑ j, (Real.exp (s u j - M) : ℝ) * v u j := by
    rw [pt_eq]
    refine Finset.sum_congr rfl fun u _ => ?_
    rw [hw, pa, zero_add, mul_sum _ _ _ (Real.exp_pos _).le]
    exact Finset.sum_congr rfl fun j _ => by rw [hp, ← mul_assoc, ← EReal.coe_mul, hwp]
  have hL' : 0 + ∑ t, Ideal.exp (S t - (M : EReal)) = (L : EReal) := by
    rw [zero_add, split _ hE0, hL, coe_sum]
    refine Finset.sum_congr rfl fun u _ => ?_
    rw [coe_sum]
    exact Finset.sum_congr rfl fun j _ => hE (u, j)
  have hdiv : ∀ x : EReal, Ideal.div x (L : EReal) = ((L⁻¹ : ℝ) : EReal) * x := fun x => by
    rw [Ideal.div, if_neg (by exact_mod_cast hLpos.ne'), mul_comm, EReal.coe_inv]
  rw [merged, whole, hSM, hl, ha, hL', hdiv, zero_add, split _ fun t ht => by rw [hE0 t ht, hdiv, mul_zero, mul_zero],
    mul_sum _ _ _ (inv_pos.2 hLpos).le]
  refine Finset.sum_congr rfl fun u _ => ?_
  rw [mul_sum _ _ _ (inv_pos.2 hLpos).le]
  refine Finset.sum_congr rfl fun j _ => ?_
  rw [hdiv, hE, hV, mul_comm (v u j), mul_assoc]

end Row

end Cert.Pure
-- ==== Proof.Spec.lean ====
/- What each device holds, written as functions of the queries, keys and values: the block of rows one residue class sends out
   (`colVal`), the merge of four such blocks (`mergeHead`, `outVal`), and the contents of the three scratch buffers (`qrel`, `pout`,
   `pin`). Nothing here mentions the protocol. -/
module

public import Idealize.ShloMosaic.Lib.ValueIdxCore
public import proofs.«01_k».proof.Proof.Gen.KernelIdeal.Skeleton

@[expose] public section

noncomputable section

namespace Cert.KernelIdeal

open Idealize.ShloMosaic Idealize.ShloMosaic.TcCoe
open Cert.KernelIdeal.Gen

variable {F : FTy → Type} [FloatOps F]

/-! ## Devices around the ring -/

/-- The device `u` places after `c`. -/
def rot (c : Dev nD) (u : ℕ) : Dev nD := ⟨(c.val + u) % 4, Nat.mod_lt _ (by decide)⟩

/-- The `k`-th other device, counting from the next one. -/
abbrev peer (c : Dev nD) (k : Fin 3) : Dev nD := rot c (k.val + 1)

theorem peer_rev (c : Dev nD) (k : Fin 3) : peer (peer c k) k.rev = c := by revert c k; decide

theorem rot_zero (c : Dev nD) : rot c 0 = c := by revert c; decide

/-! ## One residue class on one device: scores, row maxima, sums and weighted values -/

theorem qBlk_inb (r : Fin 4) (h : Fin 8) :
    ∀ a, (![0, 64 * r.val, 128 * h.val] : Fin 3 → Nat) a + S4x64x128.size a ≤ S4x256x1024.size a := by
  revert r h; decide
theorem kBlk_inb (r : Fin 4) (h : Fin 8) :
    ∀ a, (![r.val, h.val, 0, 0] : Fin 4 → Nat) a + S1x1x1024x128.size a ≤ S4x8x1024x128.size a := by
  revert r h; decide

/-- Residue `r`, head `h` of the gathered queries: 64 rows from each of the four devices. -/
def qBlk (q : Vec F S4x256x1024 .bf16) (r : Fin 4) (h : Fin 8) : Vec F S4x64x128 .bf16 :=
  (Memref.whole cc0_scratch0).view.readAt (Elt F)
    (Rect.unit (s := S4x256x1024) ![0, 64 * r.val, 128 * h.val] S4x64x128.size (qBlk_inb r h)).toLoadRect q
/-- Residue `r`, head `h` of the device's keys. -/
def kBlk (k : Vec F S4x8x1024x128 .bf16) (r : Fin 4) (h : Fin 8) : Vec F S1x1x1024x128 .bf16 :=
  (Memref.whole cc0_stg2_0).view.readAt (Elt F)
    (Rect.unit (s := S4x8x1024x128) ![r.val, h.val, 0, 0] S1x1x1024x128.size (kBlk_inb r h)).toLoadRect k
/-- Residue `r`, head `h` of the device's values. -/
def vBlk (v : Vec F S4x8x1024x128 .bf16) (r : Fin 4) (h : Fin 8) : Vec F S1x1x1024x128 .bf16 :=
  (Memref.whole cc0_stg3_0).view.readAt (Elt F)
    (Rect.unit (s := S4x8x1024x128) ![r.val, h.val, 0, 0] S1x1x1024x128.size (kBlk_inb r h)).toLoadRect v

/-- The scores of 256 query rows against 1024 keys. -/
def headS (q : Vec F S4x64x128 .bf16) (k : Vec F S1x1x1024x128 .bf16) : FVec F S256x1024 .f32 :=
  matmul dot_S256x128_S1024x128_S256x1024_1_1_0_0_n_n none (shapeCast S256x128 q shapeCasts_S4x64x128_S256x128 : FVec F S256x128 .bf16)
    (shapeCast S1024x128 k shapeCasts_S1x1x1024x128_S1024x128 : FVec F S1024x128 .bf16) (constant S256x1024 .f32 0x00000000#32)
/-- The row maxima. -/
def headM (s : FVec F S256x1024 .f32) : FVec F S256x1 .f32 :=
  shapeCast S256x1 (multiReduction .maximumf [1] S256 s 0xFF800000#32 reduces_S256x1024_S256 (.inl rfl) rfl : FVec F S256 .f32)
    shapeCasts_S256_S256x1
/-- The exponentials of the scores less the row maximum. -/
def headP (s : FVec F S256x1024 .f32) : FVec F S256x1024 .f32 :=
  exp (subf s (broadcastTo S256x1024 (headM s) broadcasts_S256x1_S256x1024))
/-- Their row sums. -/
def headL (s : FVec F S256x1024 .f32) : FVec F S256x1 .f32 :=
  shapeCast S256x1 (multiReduction .add [1] S256 (headP s) 0x00000000#32 reduces_S256x1024_S256 (.inl rfl) rfl : FVec F S256 .f32)
    shapeCasts_S256_S256x1
/-- Their products with the values. -/
def headA (s : FVec F S256x1024 .f32) (v : Vec F S1x1x1024x128 .bf16) : FVec F S256x128 .bf16 :=
  truncf .bf16 (matmul dot_S256x1024_S1024x128_S256x128_1_0_0_1_n_n none (truncf .bf16 (headP s) bitsLt_bf16_f32 : FVec F S256x1024 .bf16)
    (shapeCast S1024x128 v shapeCasts_S1x1x1024x128_S1024x128 : FVec F S1024x128 .bf16) (constant S256x128 .f32 0x00000000#32)
      : FVec F S256x128 .f32) bitsLt_bf16_f32

/-- The rows one residue class sends out: eight heads' weighted values, then eight maxima and eight sums, then zeros. -/
def rowOf (s : Fin 8 → FVec F S256x1024 .f32) (v : Fin 8 → Vec F S1x1x1024x128 .bf16) : FVec F S256x1152 .bf16 :=
  concatenate S256x1152 1 [⟨S256x128, headA (s 0) (v 0)⟩, ⟨S256x128, headA (s 1) (v 1)⟩, ⟨S256x128, headA (s 2) (v 2)⟩,
    ⟨S256x128, headA (s 3) (v 3)⟩, ⟨S256x128, headA (s 4) (v 4)⟩, ⟨S256x128, headA (s 5) (v 5)⟩, ⟨S256x128, headA (s 6) (v 6)⟩,
    ⟨S256x128, headA (s 7) (v 7)⟩,
    ⟨S256x16, truncf .bf16 (concatenate S256x16 1 [⟨S256x1, headM (s 0)⟩, ⟨S256x1, headM (s 1)⟩, ⟨S256x1, headM (s 2)⟩,
      ⟨S256x1, headM (s 3)⟩, ⟨S256x1, headM (s 4)⟩, ⟨S256x1, headM (s 5)⟩, ⟨S256x1, headM (s 6)⟩, ⟨S256x1, headM (s 7)⟩,
      ⟨S256x1, headL (s 0)⟩, ⟨S256x1, headL (s 1)⟩, ⟨S256x1, headL (s 2)⟩, ⟨S256x1, headL (s 3)⟩, ⟨S256x1, headL (s 4)⟩,
      ⟨S256x1, headL (s 5)⟩, ⟨S256x1, headL (s 6)⟩, ⟨S256x1, headL (s 7)⟩]
      concatenates_S256x1_S256x1_S256x1_S256x1_S256x1_S256x1_S256x1_S256x1_S256x1_S256x1_S256x1_S256x1_S256x1_S256x1_S256x1_S256x1_S256x16_d1
        : FVec F S256x16 .f32) bitsLt_bf16_f32⟩,
    ⟨S256x112, broadcast S256x112 (Scalar.ofBits .bf16 0x0000#16 : F .bf16)⟩]
    concatenates_S256x128_S256x128_S256x128_S256x128_S256x128_S256x128_S256x128_S256x128_S256x16_S256x112_S256x1152_d1

/-- The same rows as the slice of the send buffer they are stored to. -/
def colVal (q : Vec F S4x256x1024 .bf16) (k v : Vec F S4x8x1024x128 .bf16) (r : Fin 4) : Vec F S4x1x64x1152 .bf16 :=
  shapeCast S4x1x64x1152 (shapeCast S4x64x1152 (rowOf (fun h => headS (qBlk q r h) (kBlk k r h)) fun h => vBlk v r h)
    shapeCasts_S256x1152_S4x64x1152 : FVec F S4x64x1152 .bf16) shapeCasts_S4x64x1152_S4x1x64x1152

/-! ## The merge of four devices' blocks -/

theorem stat_inb (u r : Fin 4) : ∀ a, (![u.val, r.val, 0, 1024] : Fin 4 → Nat) a + S1x1x64x16.size a ≤ S4x4x64x1152.size a := by
  revert u r; decide
theorem acc_inb (u r : Fin 4) (h : Fin 8) :
    ∀ a, (![u.val, r.val, 0, 128 * h.val] : Fin 4 → Nat) a + S1x1x64x128.size a ≤ S4x4x64x1152.size a := by
  revert u r h; decide
theorem slices_m (h : Fin 8) : S64x16.Slices ![0, h.val] S64x1 := by revert h; decide
theorem slices_l (h : Fin 8) : S64x16.Slices ![0, 8 + h.val] S64x1 := by revert h; decide

/-- The maxima and sums of block `u`, residue `r`. -/
def statBlk (p : Vec F S4x4x64x1152 .bf16) (r u : Fin 4) : FVec F S64x16 .f32 :=
  extf .f32 (shapeCast S64x16 ((Memref.whole cc0_scratch2).view.readAt (Elt F)
    (Rect.unit (s := S4x4x64x1152) ![u.val, r.val, 0, 1024] S1x1x64x16.size (stat_inb u r)).toLoadRect p : Vec F S1x1x64x16 .bf16)
    shapeCasts_S1x1x64x16_S64x16 : FVec F S64x16 .bf16) bitsLt_bf16_f32
/-- The weighted values of block `u`, residue `r`, head `h`. -/
def accBlk (p : Vec F S4x4x64x1152 .bf16) (r : Fin 4) (h : Fin 8) (u : Fin 4) : FVec F S64x128 .f32 :=
  extf .f32 (shapeCast S64x128 ((Memref.whole cc0_scratch2).view.readAt (Elt F)
    (Rect.unit (s := S4x4x64x1152) ![u.val, r.val, 0, 128 * h.val] S1x1x64x128.size (acc_inb u r h)).toLoadRect p : Vec F S1x1x64x128 .bf16)
    shapeCasts_S1x1x64x128_S64x128 : FVec F S64x128 .bf16) bitsLt_bf16_f32

/-- Head `h`'s maxima of block `u`. -/
def mOf (st : Fin 4 → FVec F S64x16 .f32) (h : Fin 8) (u : Fin 4) : FVec F S64x1 .f32 :=
  extractStridedSlice S64x1 ![0, h.val] (st u) (slices_m h)
/-- Head `h`'s sums of block `u`. -/
def lOf (st : Fin 4 → FVec F S64x16 .f32) (h : Fin 8) (u : Fin 4) : FVec F S64x1 .f32 :=
  extractStridedSlice S64x1 ![0, 8 + h.val] (st u) (slices_l h)
/-- The largest of the four maxima. -/
def mmOf (st : Fin 4 → FVec F S64x16 .f32) (h : Fin 8) : FVec F S64x1 .f32 :=
  maximumf (maximumf (mOf st h 0) (mOf st h 1)) (maximumf (mOf st h 2) (mOf st h 3))
/-- Block `u`'s weight. -/
def wOf (st : Fin 4 → FVec F S64x16 .f32) (h : Fin 8) (u : Fin 4) : FVec F S64x1 .f32 :=
  exp (subf (mOf st h u) (mmOf st h))
/-- The merged sum. -/
def ltOf (st : Fin 4 → FVec F S64x16 .f32) (h : Fin 8) : FVec F S64x1 .f32 :=
  addf (addf (addf (addf (broadcast S64x1 (Scalar.ofBits .f32 0x00000000#32 : F .f32)) (mulf (wOf st h 0) (lOf st h 0)))
    (mulf (wOf st h 1) (lOf st h 1))) (mulf (wOf st h 2) (lOf st h 2))) (mulf (wOf st h 3) (lOf st h 3))
/-- The merged weighted values, one head. -/
def atOf (st : Fin 4 → FVec F S64x16 .f32) (h : Fin 8) (a : Fin 4 → FVec F S64x128 .f32) : FVec F S64x128 .f32 :=
  addf (addf (addf (addf (broadcast S64x128 (Scalar.ofBits .f32 0x00000000#32 : F .f32))
    (mulf (broadcastTo S64x128 (wOf st h 0) broadcasts_S64x1_S64x128) (a 0)))
    (mulf (broadcastTo S64x128 (wOf st h 1) broadcasts_S64x1_S64x128) (a 1)))
    (mulf (broadcastTo S64x128 (wOf st h 2) broadcasts_S64x1_S64x128) (a 2)))
    (mulf (broadcastTo S64x128 (wOf st h 3) broadcasts_S64x1_S64x128) (a 3))
/-- One head of the context rows of one residue class. -/
def mergeHead (p : Vec F S4x4x64x1152 .bf16) (r : Fin 4) (h : Fin 8) : FVec F S64x128 .bf16 :=
  truncf .bf16 (divf (atOf (statBlk p r) h (accBlk p r h))
    (broadcastTo S64x128 (ltOf (statBlk p r) h) broadcasts_S64x1_S64x128) : FVec F S64x128 .f32) bitsLt_bf16_f32
/-- The context rows of one residue class. -/
def mergeRow (p : Vec F S4x4x64x1152 .bf16) (r : Fin 4) : FVec F S64x1024 .bf16 :=
  concatenate S64x1024 1 [⟨S64x128, mergeHead p r 0⟩, ⟨S64x128, mergeHead p r 1⟩, ⟨S64x128, mergeHead p r 2⟩, ⟨S64x128, mergeHead p r 3⟩,
    ⟨S64x128, mergeHead p r 4⟩, ⟨S64x128, mergeHead p r 5⟩, ⟨S64x128, mergeHead p r 6⟩, ⟨S64x128, mergeHead p r 7⟩]
    concatenates_S64x128_S64x128_S64x128_S64x128_S64x128_S64x128_S64x128_S64x128_S64x1024_d1
/-- The device's block of the result. -/
def outVal (p : Vec F S4x4x64x1152 .bf16) (wo : Vec F S1024x1024 .bf16) : FVec F S256x1024 .f32 :=
  matmul dot_S256x1024_S1024x1024_S256x1024_1_0_0_1_n_n none
    (concatenate S256x1024 0 [⟨S64x1024, mergeRow p 0⟩, ⟨S64x1024, mergeRow p 1⟩, ⟨S64x1024, mergeRow p 2⟩, ⟨S64x1024, mergeRow p 3⟩]
      concatenates_S64x1024_S64x1024_S64x1024_S64x1024_S256x1024_d0 : FVec F S256x1024 .bf16)
    (shapeCast S1024x1024 wo shapeCasts_S1024x1024_S1024x1024 : FVec F S1024x1024 .bf16) (constant S256x1024 .f32 0x00000000#32)

/-! ## The contents of the scratch buffers -/

section Contents

variable (Q0 : Dev nD → Vec F S1x256x1024 .bf16) (Kx Vx : Dev nD → Vec F S4x8x1024x128 .bf16)

/-- The gathered queries of device `c`: slot `u` holds the queries of the device `u` places after it. -/
def qrel (c : Dev nD) : Vec F S4x256x1024 .bf16 := fun i => Q0 (rot c (i 0).val) (ValueIdx.ix3 0 (i 1) (i 2))
/-- The send buffer of device `c`. -/
def pout (c : Dev nD) : Vec F S4x4x64x1152 .bf16 :=
  fun i => colVal (qrel Q0 c) (Kx c) (Vx c) (i 1) (ValueIdx.ix4 (i 0) 0 (i 2) (i 3))
/-- The receive buffer of device `c`: slot `u` holds what the device `u` places after it computed for `c`. -/
def pin (c : Dev nD) : Vec F S4x4x64x1152 .bf16 :=
  fun i => pout Q0 Kx Vx (rot c (i 0).val) (ValueIdx.ix4 ⟨(4 - (i 0).val) % 4, Nat.mod_lt _ (by decide)⟩ (i 1) (i 2) (i 3))

end Contents

end Cert.KernelIdeal
-- ==== Proof.Row.lean ====
/- The rows that one residue class sends out, at an index: maxima, sums and weighted values of one part of the softmax. -/
module

public import proofs.«01_k».proof.Proof.Pure
public import proofs.«01_k».proof.Proof.Spec
public import Idealize.ShloMosaic.Lib.Pointwise
public import Idealize.ShloMosaic.Lib.Pipeline.Value

@[expose] public section

set_option maxRecDepth 65536
set_option maxHeartbeats 0

noncomputable section

namespace Cert.KernelIdeal

open Idealize.ShloMosaic Idealize.ShloMosaic.TcCoe
open Cert.KernelIdeal.Gen

/-! ## One residue class, one head -/

theorem qBlk_at (q : Vec Ideal S4x256x1024 .bf16) (r : Fin 4) (h : Fin 8) (u : Fin 4) (a : Fin 64) (d : Fin 128) :
    qBlk q r h (ix3 u a d) = q (ix3 u ⟨64 * r.val + a.val, by omega⟩ ⟨128 * h.val + d.val, by omega⟩) := by
  refine congrArg q (funext fun i => Fin.ext ?_)
  fin_cases i
  · exact (Nat.zero_add _).trans (Nat.one_mul _)
  · exact congrArg (64 * r.val + ·) (Nat.one_mul a.val)
  · exact congrArg (128 * h.val + ·) (Nat.one_mul d.val)

theorem kBlk_at (k : Vec Ideal S4x8x1024x128 .bf16) (r : Fin 4) (h : Fin 8) (j : Fin 1024) (d : Fin 128) :
    kBlk k r h (ix4 0 0 j d) = k (ix4 r h j d) := by
  refine congrArg k (funext fun i => Fin.ext ?_)
  fin_cases i
  · rfl
  · rfl
  · exact (Nat.zero_add _).trans (Nat.one_mul _)
  · exact (Nat.zero_add _).trans (Nat.one_mul _)

theorem vBlk_at (k : Vec Ideal S4x8x1024x128 .bf16) (r : Fin 4) (h : Fin 8) (j : Fin 1024) (d : Fin 128) :
    vBlk k r h (ix4 0 0 j d) = k (ix4 r h j d) := by
  refine congrArg k (funext fun i => Fin.ext ?_)
  fin_cases i
  · rfl
  · rfl
  · exact (Nat.zero_add _).trans (Nat.one_mul _)
  · exact (Nat.zero_add _).trans (Nat.one_mul _)

theorem headS_at (q : Vec Ideal S4x64x128 .bf16) (k : Vec Ideal S1x1x1024x128 .bf16) (u : Fin 4) (a : Fin 64) (j : Fin 1024) :
    headS q k (ix2 ⟨64 * u.val + a.val, by omega⟩ j) = ∑ d : Fin 128, q (ix3 u a d) * k (ix4 0 0 j d) := by
  pointwise [headS]

theorem headM_at (s : FVec Ideal S256x1024 .f32) (w : Fin 256) :
    headM s (ix2 w 0) = Finset.univ.fold max (Ideal.ofBits .f32 0xFF800000#32) fun j => s (ix2 w j) := by
  pointwise [headM]

theorem headP_at (s : FVec Ideal S256x1024 .f32) (w : Fin 256) (j : Fin 1024) :
    headP s (ix2 w j) = Ideal.exp (s (ix2 w j) - headM s (ix2 w 0)) := by
  pointwise [headP]

theorem headL_at (s : FVec Ideal S256x1024 .f32) (w : Fin 256) :
    headL s (ix2 w 0) = ∑ j, headP s (ix2 w j) := by
  pointwise [headL]

theorem headA_at (s : FVec Ideal S256x1024 .f32) (v : Vec Ideal S1x1x1024x128 .bf16) (w : Fin 256) (d : Fin 128) :
    headA s v (ix2 w d) = ∑ j, headP s (ix2 w j) * v (ix4 0 0 j d) := by
  pointwise [headA]

/-! ## The row -/

section Pieces

variable (s : Fin 8 → FVec Ideal S256x1024 .f32) (v : Fin 8 → Vec Ideal S1x1x1024x128 .bf16) (w : Fin 256) (h : Fin 8)

/-- The maxima and the sums, beside each other. -/
def stats : FVec Ideal S256x16 .f32 :=
  concatenate S256x16 1 [⟨S256x1, headM (s 0)⟩, ⟨S256x1, headM (s 1)⟩, ⟨S256x1, headM (s 2)⟩,
      ⟨S256x1, headM (s 3)⟩, ⟨S256x1, headM (s 4)⟩, ⟨S256x1, headM (s 5)⟩, ⟨S256x1, headM (s 6)⟩, ⟨S256x1, headM (s 7)⟩,
      ⟨S256x1, headL (s 0)⟩, ⟨S256x1, headL (s 1)⟩, ⟨S256x1, headL (s 2)⟩, ⟨S256x1, headL (s 3)⟩, ⟨S256x1, headL (s 4)⟩,
      ⟨S256x1, headL (s 5)⟩, ⟨S256x1, headL (s 6)⟩, ⟨S256x1, headL (s 7)⟩]
      concatenates_S256x1_S256x1_S256x1_S256x1_S256x1_S256x1_S256x1_S256x1_S256x1_S256x1_S256x1_S256x1_S256x1_S256x1_S256x1_S256x1_S256x16_d1

theorem stats_max : stats s (ix2 w ⟨h.val, by omega⟩) = headM (s h) (ix2 w 0) := by
  unfold stats
  refine concatenate_apply_piece (t := S256x16) 1 _ _ _ h.val ?_ S256x1 (headM (s h)) ?_ rfl h.val ?_ (ix2 w 0) ?_ ?_
  · show h.val < 16
    omega
  · fin_cases h <;> rfl
  · fin_cases h <;> rfl
  · intro b hb
    fin_cases b
    · rfl
    · exact absurd rfl hb
  · rfl

theorem stats_sum : stats s (ix2 w ⟨8 + h.val, by omega⟩) = headL (s h) (ix2 w 0) := by
  unfold stats
  refine concatenate_apply_piece (t := S256x16) 1 _ _ _ (8 + h.val) ?_ S256x1 (headL (s h)) ?_ rfl (8 + h.val) ?_ (ix2 w 0) ?_ ?_
  · show (8 + h.val) < 16
    omega
  · fin_cases h <;> rfl
  · fin_cases h <;> rfl
  · intro b hb
    fin_cases b
    · rfl
    · exact absurd rfl hb
  · rfl

theorem rowOf_acc (d : Fin 128) : rowOf s v (ix2 w ⟨128 * h.val + d.val, by omega⟩) = headA (s h) (v h) (ix2 w d) := by
  unfold rowOf
  refine concatenate_apply_piece (t := S256x1152) 1 _ _ _ h.val ?_ S256x128 (headA (s h) (v h)) ?_ rfl (128 * h.val) ?_ (ix2 w d) ?_ ?_
  · show h.val < 10
    omega
  · fin_cases h <;> rfl
  · fin_cases h <;> rfl
  · intro b hb
    fin_cases b
    · rfl
    · exact absurd rfl hb
  · rfl

theorem rowOf_stats (y : Fin 16) : rowOf s v (ix2 w ⟨1024 + y.val, by omega⟩) = stats s (ix2 w y) := by
  unfold rowOf
  refine concatenate_apply_piece (t := S256x1152) 1 _ _ _ 8 ?_ S256x16 (stats s) ?_ rfl 1024 ?_ (ix2 w y) ?_ ?_
  · show 8 < 10
    omega
  · rfl
  · rfl
  · intro b hb
    fin_cases b
    · rfl
    · exact absurd rfl hb
  · rfl

end Pieces

theorem colVal_at (q : Vec Ideal S4x256x1024 .bf16) (k v : Vec Ideal S4x8x1024x128 .bf16) (r : Fin 4) (u : Fin 4) (a : Fin 64) (y : Fin 1152) :
    colVal q k v r (ix4 u 0 a y) = rowOf (fun h => headS (qBlk q r h) (kBlk k r h)) (fun h => vBlk v r h) (ix2 ⟨64 * u.val + a.val, by omega⟩ y) := by
  pointwise [colVal]
  simp only [Nat.mul_comm 64]

/-! ## As parts of a softmax -/

/-- The score of query row `a` of residue `r`, from the device in slot `u`, against key `j`. -/
def partScore (q : Vec Ideal S4x256x1024 .bf16) (k : Vec Ideal S4x8x1024x128 .bf16) (r : Fin 4) (h : Fin 8) (u : Fin 4) (a : Fin 64)
    (j : Fin 1024) : EReal :=
  ∑ d : Fin 128, q (ix3 u ⟨64 * r.val + a.val, by omega⟩ ⟨128 * h.val + d.val, by omega⟩) * k (ix4 r h j d)

section Parts

variable (q : Vec Ideal S4x256x1024 .bf16) (k v : Vec Ideal S4x8x1024x128 .bf16) (r : Fin 4) (h : Fin 8) (u : Fin 4) (a : Fin 64)

theorem partScore_at (j : Fin 1024) :
    headS (qBlk q r h) (kBlk k r h) (ix2 ⟨64 * u.val + a.val, by omega⟩ j) = partScore q k r h u a j := by
  rw [headS_at, partScore]
  exact Finset.sum_congr rfl fun d _ => by rw [qBlk_at, kBlk_at]

theorem neg_inf : Ideal.ofBits .f32 0xFF800000#32 = ⊥ := by
  simp [Ideal.ofBits, Ideal.ieee]

/-- The maximum of a row's scores. -/
theorem colVal_max : colVal q k v r (ix4 u 0 a ⟨1024 + h.val, by omega⟩) = Finset.univ.fold max ⊥ (partScore q k r h u a) := by
  rw [colVal_at, rowOf_stats _ _ _ ⟨h.val, by omega⟩, stats_max, headM_at, neg_inf]
  simp only [partScore_at]

/-- The exponentials. -/
theorem headP_part (j : Fin 1024) :
    headP (headS (qBlk q r h) (kBlk k r h)) (ix2 ⟨64 * u.val + a.val, by omega⟩ j)
      = Ideal.exp (partScore q k r h u a j - Finset.univ.fold max ⊥ (partScore q k r h u a)) := by
  rw [headP_at, headM_at, neg_inf]
  simp only [partScore_at]

/-- Their sum. -/
theorem colVal_sum : colVal q k v r (ix4 u 0 a ⟨1032 + h.val, by omega⟩)
    = ∑ j, Ideal.exp (partScore q k r h u a j - Finset.univ.fold max ⊥ (partScore q k r h u a)) := by
  have e : (⟨1032 + h.val, by omega⟩ : Fin 1152) = ⟨1024 + (⟨8 + h.val, by omega⟩ : Fin 16).val, by omega⟩ :=
    Fin.ext (by show 1032 + h.val = 1024 + (8 + h.val); omega)
  rw [colVal_at, e, rowOf_stats, stats_sum, headL_at]
  simp only [headP_part]

/-- Their sum with the values. -/
theorem colVal_acc (d : Fin 128) : colVal q k v r (ix4 u 0 a ⟨128 * h.val + d.val, by omega⟩)
    = ∑ j, Ideal.exp (partScore q k r h u a j - Finset.univ.fold max ⊥ (partScore q k r h u a)) * v (ix4 r h j d) := by
  rw [colVal_at, rowOf_acc, headA_at]
  simp only [headP_part, vBlk_at]

end Parts

end Cert.KernelIdeal
-- ==== Proof.Mix.lean ====
/- The merge of four blocks at an index: the weighted sums `Pure.pt`, one over the other; and the device's block of the result, of the
   receive buffer whose slots the four devices filled. -/
module

public import proofs.«01_k».proof.Proof.Row

@[expose] public section

set_option maxRecDepth 65536
set_option maxHeartbeats 0

noncomputable section

namespace Cert.KernelIdeal

open Idealize.ShloMosaic Idealize.ShloMosaic.TcCoe
open Cert.KernelIdeal.Gen

/-! ## The blocks read -/

theorem cast_stat (v : FVec Ideal S1x1x64x16 .bf16) (a : Fin 64) (y : Fin 16) :
    (extf .f32 (shapeCast S64x16 v shapeCasts_S1x1x64x16_S64x16 : FVec Ideal S64x16 .bf16) bitsLt_bf16_f32 : FVec Ideal S64x16 .f32) (ix2 a y)
      = v (ix4 0 0 a y) := by
  pointwise

theorem cast_acc (v : FVec Ideal S1x1x64x128 .bf16) (a : Fin 64) (y : Fin 128) :
    (extf .f32 (shapeCast S64x128 v shapeCasts_S1x1x64x128_S64x128 : FVec Ideal S64x128 .bf16) bitsLt_bf16_f32 : FVec Ideal S64x128 .f32) (ix2 a y)
      = v (ix4 0 0 a y) := by
  pointwise

section Blocks

variable (p : Vec Ideal S4x4x64x1152 .bf16) (r u : Fin 4) (h : Fin 8) (a : Fin 64)

theorem statBlk_at (y : Fin 16) : statBlk p r u (ix2 a y) = p (ix4 u r a ⟨1024 + y.val, by omega⟩) := by
  refine (cast_stat _ a y).trans (congrArg p (funext fun i => Fin.ext ?_))
  fin_cases i
  · rfl
  · rfl
  · exact (Nat.zero_add _).trans (Nat.one_mul _)
  · exact congrArg (1024 + ·) (Nat.one_mul y.val)

theorem accBlk_at (d : Fin 128) : accBlk p r h u (ix2 a d) = p (ix4 u r a ⟨128 * h.val + d.val, by omega⟩) := by
  refine (cast_acc _ a d).trans (congrArg p (funext fun i => Fin.ext ?_))
  fin_cases i
  · rfl
  · rfl
  · exact (Nat.zero_add _).trans (Nat.one_mul _)
  · exact congrArg (128 * h.val + ·) (Nat.one_mul d.val)

end Blocks

/-! ## The merge -/

section Merge

variable (st : Fin 4 → FVec Ideal S64x16 .f32) (h : Fin 8) (a : Fin 64)

theorem mOf_at (u : Fin 4) : mOf st h u (ix2 a 0) = st u (ix2 a ⟨h.val, by omega⟩) := by
  pointwise [mOf]

theorem lOf_at (u : Fin 4) : lOf st h u (ix2 a 0) = st u (ix2 a ⟨8 + h.val, by omega⟩) := by
  pointwise [lOf]

theorem wOf_at (u : Fin 4) : wOf st h u (ix2 a 0) = Cert.Pure.pw (fun u => st u (ix2 a ⟨h.val, by omega⟩)) u := by
  pointwise [wOf, mmOf, mOf_at]
  rfl

theorem ltOf_at : ltOf st h (ix2 a 0)
    = Cert.Pure.pt (fun u => st u (ix2 a ⟨h.val, by omega⟩)) fun u => st u (ix2 a ⟨8 + h.val, by omega⟩) := by
  pointwise [ltOf, lOf_at, wOf_at]
  simp only [Cert.Pure.pt, zero_add]

theorem atOf_at (x : Fin 4 → FVec Ideal S64x128 .f32) (d : Fin 128) : atOf st h x (ix2 a d)
    = Cert.Pure.pt (fun u => st u (ix2 a ⟨h.val, by omega⟩)) fun u => x u (ix2 a d) := by
  pointwise [atOf, wOf_at]
  simp only [Cert.Pure.pt, zero_add]

theorem mergeHead_at (p : Vec Ideal S4x4x64x1152 .bf16) (r : Fin 4) (d : Fin 128) : mergeHead p r h (ix2 a d)
    = Ideal.div (Cert.Pure.pt (fun u => p (ix4 u r a ⟨1024 + h.val, by omega⟩)) fun u => p (ix4 u r a ⟨128 * h.val + d.val, by omega⟩))
        (Cert.Pure.pt (fun u => p (ix4 u r a ⟨1024 + h.val, by omega⟩)) fun u => p (ix4 u r a ⟨1032 + h.val, by omega⟩)) := by
  have e : ∀ u : Fin 4, p (ix4 u r a ⟨1024 + (⟨8 + h.val, by omega⟩ : Fin 16).val, by omega⟩) = p (ix4 u r a ⟨1032 + h.val, by omega⟩) :=
    fun u => congrArg (fun y => p (ix4 u r a y)) (Fin.ext (by show 1024 + (8 + h.val) = 1032 + h.val; omega))
  have e' : mergeHead p r h (ix2 a d)
      = Ideal.div (atOf (statBlk p r) h (accBlk p r h) (ix2 a d)) (ltOf (statBlk p r) h (ix2 a 0)) := by
    pointwise [mergeHead]
  rw [e', atOf_at, ltOf_at]
  simp only [statBlk_at, accBlk_at, e]

end Merge

/-! ## The block of the result -/

theorem mergeRow_at (p : Vec Ideal S4x4x64x1152 .bf16) (r : Fin 4) (h : Fin 8) (a : Fin 64) (d : Fin 128) :
    mergeRow p r (ix2 a ⟨128 * h.val + d.val, by omega⟩) = mergeHead p r h (ix2 a d) := by
  unfold mergeRow
  refine concatenate_apply_piece (t := S64x1024) 1 _ _ _ h.val ?_ S64x128 (mergeHead p r h) ?_ rfl (128 * h.val) ?_ (ix2 a d) ?_ ?_
  · show h.val < 8
    omega
  · fin_cases h <;> rfl
  · fin_cases h <;> rfl
  · intro b hb
    fin_cases b
    · rfl
    · exact absurd rfl hb
  · rfl

/-- The context rows of the four residue classes. -/
def rows (p : Vec Ideal S4x4x64x1152 .bf16) : FVec Ideal S256x1024 .bf16 :=
  concatenate S256x1024 0 [⟨S64x1024, mergeRow p 0⟩, ⟨S64x1024, mergeRow p 1⟩, ⟨S64x1024, mergeRow p 2⟩, ⟨S64x1024, mergeRow p 3⟩]
    concatenates_S64x1024_S64x1024_S64x1024_S64x1024_S256x1024_d0

theorem rows_at (p : Vec Ideal S4x4x64x1152 .bf16) (r : Fin 4) (a : Fin 64) (y : Fin 1024) :
    rows p (ix2 ⟨64 * r.val + a.val, by omega⟩ y) = mergeRow p r (ix2 a y) := by
  unfold rows
  refine concatenate_apply_piece (t := S256x1024) 0 _ _ _ r.val ?_ S64x1024 (mergeRow p r) ?_ rfl (64 * r.val) ?_ (ix2 a y) ?_ ?_
  · show r.val < 4
    omega
  · fin_cases r <;> rfl
  · fin_cases r <;> rfl
  · intro b hb
    fin_cases b
    · exact absurd rfl hb
    · rfl
  · rfl

theorem outOf_rows (x : FVec Ideal S256x1024 .bf16) (wo : FVec Ideal S1024x1024 .bf16) (w : Fin 256) (y : Fin 1024) :
    matmul dot_S256x1024_S1024x1024_S256x1024_1_0_0_1_n_n none x
      (shapeCast S1024x1024 wo shapeCasts_S1024x1024_S1024x1024 : FVec Ideal S1024x1024 .bf16) (constant S256x1024 .f32 0x00000000#32) (ix2 w y)
      = ∑ e : Fin 1024, x (ix2 w e) * wo (ix2 e y) := by
  pointwise

theorem outVal_at (p : Vec Ideal S4x4x64x1152 .bf16) (wo : Vec Ideal S1024x1024 .bf16) (w : Fin 256) (y : Fin 1024) :
    outVal p wo (ix2 w y) = ∑ e : Fin 1024, rows p (ix2 w e) * wo (ix2 e y) := outOf_rows (rows p) wo w y

/-! ## The receive buffer -/

section Contents

variable (Q0 : Dev nD → Vec Ideal S1x256x1024 .bf16) (Kx Vx : Dev nD → Vec Ideal S4x8x1024x128 .bf16)

/-- The score of row `64 r + a` of device `c`'s queries against key `j` of the device `u` places after it. -/
def slotScore (c : Dev nD) (r : Fin 4) (h : Fin 8) (a : Fin 64) (u : Fin 4) (j : Fin 1024) : EReal :=
  ∑ d : Fin 128, Q0 c (ix3 0 ⟨64 * r.val + a.val, by omega⟩ ⟨128 * h.val + d.val, by omega⟩) * Kx (rot c u.val) (ix4 r h j d)

theorem back (c : Dev nD) (u : Fin 4) : rot (rot c u.val) ((4 - u.val) % 4) = c := by revert c u; decide

theorem pin_at (c : Dev nD) (u r : Fin 4) (a : Fin 64) (y : Fin 1152) :
    pin Q0 Kx Vx c (ix4 u r a y) = colVal (qrel Q0 (rot c u.val)) (Kx (rot c u.val)) (Vx (rot c u.val)) r
      (ix4 ⟨(4 - u.val) % 4, Nat.mod_lt _ (by decide)⟩ 0 a y) := by
  rw [ix4_eq_valueIdx]
  rfl

theorem slot_part (c : Dev nD) (r : Fin 4) (h : Fin 8) (a : Fin 64) (u : Fin 4) (j : Fin 1024) :
    partScore (qrel Q0 (rot c u.val)) (Kx (rot c u.val)) r h ⟨(4 - u.val) % 4, Nat.mod_lt _ (by decide)⟩ a j
      = slotScore Q0 Kx c r h a u j := by
  refine Finset.sum_congr rfl fun d _ => ?_
  have e : qrel Q0 (rot c u.val) (ix3 ⟨(4 - u.val) % 4, Nat.mod_lt _ (by decide)⟩ ⟨64 * r.val + a.val, by omega⟩ ⟨128 * h.val + d.val, by omega⟩)
      = Q0 (rot (rot c u.val) ((4 - u.val) % 4)) (ix3 0 ⟨64 * r.val + a.val, by omega⟩ ⟨128 * h.val + d.val, by omega⟩) := by
    rw [ix3_eq_valueIdx (0 : Fin 1)]
    rfl
  rw [e, back]

/-- **The kernel's context at an index**: the merged softmax over the four devices' keys. -/
theorem ctx_at (c : Dev nD) (r : Fin 4) (h : Fin 8) (a : Fin 64) (d : Fin 128) :
    rows (pin Q0 Kx Vx c) (ix2 ⟨64 * r.val + a.val, by omega⟩ ⟨128 * h.val + d.val, by omega⟩)
      = Cert.Pure.merged (slotScore Q0 Kx c r h a) fun u j => Vx (rot c u.val) (ix4 r h j d) := by
  rw [rows_at, mergeRow_at, mergeHead_at]
  simp only [pin_at, colVal_max, colVal_sum, colVal_acc]
  simp only [funext (slot_part Q0 Kx c r h a _), slot_part]
  simp only [Cert.Pure.merged]
  congr 2
  · funext u; rw [Cert.Pure.pa, zero_add]; rfl
  · funext u; rw [Cert.Pure.pl, zero_add]; rfl

end Contents

end Cert.KernelIdeal
-- ==== Proof.Ref.lean ====
/- The reference's result at an index: one row of the softmax of all keys (`Pure.whole`), a key of another residue class scoring `⊥`,
   times a column of the output projection. -/
module

public import proofs.«01_k».proof.Proof.Pure
public import proofs.«01_k».proof.Proof.Gen.ReferenceIdeal.Run
public import Idealize.ShloMosaic.Lib.Pointwise
public import Idealize.ShloMosaic.Lib.Routing.Words
public import Idealize.ShloMosaic.Lib.Routing.OpsOrder

@[expose] public section

set_option maxRecDepth 65536
set_option maxHeartbeats 0

noncomputable section

namespace Cert.ReferenceIdeal.Value

open Cert.ReferenceIdeal Cert.ReferenceIdeal.Gen Idealize.ShloMosaic Idealize.ShloMosaic.TcCoe Idealize.SL.Sem
open Idealize.ShloMosaic.Routing (pyDiv pyRem pyDiv_ap pyRem_ap fold_ori)

/-! ## The program's values by name -/

/-- The block of each query. -/
def qb : IVec S1024x1 32 :=
  broadcastInDim S1024x1 ![0] bcast_S1024_S1024x1_0 (pyDiv bcast_S_S1024 (iotaInDim S1024 32 0) (id (constantI S_ 32 64#32)))
/-- The block of each key. -/
def kb : IVec S1x16384 32 :=
  broadcastInDim S1x16384 ![1] bcast_S16384_S1x16384_1 (pyDiv bcast_S_S16384 (iotaInDim S16384 32 0) (id (constantI S_ 32 64#32)))
/-- Which key each query sees. -/
def mask : IVec S1024x16384 1 :=
  ori (cmpi .eq (broadcastInDim S1024x16384 ![0, 1] bcast_S1024x1_S1024x16384_0_1 qb)
      (broadcastInDim S1024x16384 ![0, 1] bcast_S1x16384_S1024x16384_0_1 kb))
    (cmpi .eq (broadcastInDim S1024x16384 ![0, 1] bcast_S1x16384_S1024x16384_0_1 (pyRem bcast_S_S1x16384 kb (id (constantI S_ 32 4#32))))
      (broadcastInDim S1024x16384 ![0, 1] bcast_S1024x1_S1024x16384_0_1 (pyRem bcast_S_S1024x1 qb (id (constantI S_ 32 4#32)))))
/-- The queries that see a key. -/
def keep : IVec S1024 1 := Host.reduce IntOp.ori mask (constantI S_ 1 0#1) reducesTo_S1024x16384_S1024_d1 h_S_

section Values

variable (x : FVec Ideal S1x1024x1024 .bf16) (wq : FVec Ideal S1024x1024 .bf16) (k v : FVec Ideal S1x16384x8x128 .bf16)
  (wo : FVec Ideal S1024x1024 .bf16)

/-- The scores, masked. -/
def scores : FVec Ideal S1x8x1024x16384 .f32 :=
  select (broadcastInDim S1x8x1024x16384 ![0, 1, 2, 3] bcast_S1x1x1024x16384_S1x8x1024x16384_0_1_2_3
      (broadcastInDim S1x1x1024x16384 ![2, 3] bcast_S1024x16384_S1x1x1024x16384_2_3 mask))
    (mulf (extf .f32 (truncf .bf16 (Host.dotGeneral dot_S1x1024x8x128_S1x16384x8x128_S1x8x1024x16384_3_3_1_1_02_02 none
        (shapeCast S1x1024x8x128 (truncf .bf16 (Host.dotGeneral dot_S1x1024x1024_S1024x1024_S1x1024x1024_2_0_01_1_n_n none x wq
          : FVec Ideal S1x1024x1024 .f32) bitsLt_bf16_f32 : FVec Ideal S1x1024x1024 .bf16) shapeCasts_S1x1024x1024_S1x1024x8x128) k
          : FVec Ideal S1x8x1024x16384 .f32) bitsLt_bf16_f32 : FVec Ideal S1x8x1024x16384 .bf16) bitsLt_bf16_f32)
      (broadcastInDim S1x8x1024x16384 ![] bcast_S_S1x8x1024x16384 (constant S_ .f32 0x3DB504F3#32)))
    (broadcastInDim S1x8x1024x16384 ![] bcast_S_S1x8x1024x16384 (id (constant S_ .f32 0xFF800000#32)))

/-- The largest score of each row. -/
def top (s : FVec Ideal S1x8x1024x16384 .f32) : FVec Ideal S1x8x1024 .f32 :=
  Host.reduce FloatOps.maximumf s (constant S_ .f32 0xFF800000#32) reducesTo_S1x8x1024x16384_S1x8x1024_d3 h_S_
/-- The sum of each row. -/
def total (s : FVec Ideal S1x8x1024x16384 .f32) : FVec Ideal S1x8x1024 .f32 :=
  Host.reduceAdd s (constant S_ .f32 0x00000000#32) reducesTo_S1x8x1024x16384_S1x8x1024_d3 h_S_

/-- The exponentials of scores `s` less a number `t` of each row. -/
def expsOf (t : FVec Ideal S1x8x1024 .f32) (s : FVec Ideal S1x8x1024x16384 .f32) : FVec Ideal S1x8x1024x16384 .f32 :=
  Host.exp (subf s (broadcastInDim S1x8x1024x16384 ![0, 1, 2, 3] bcast_S1x8x1024x1_S1x8x1024x16384_0_1_2_3
    (broadcastInDim S1x8x1024x1 ![0, 1, 2] bcast_S1x8x1024_S1x8x1024x1_0_1_2 t)))

/-- The exponentials `p` over a number `t` of each row, in the rows `kp`. -/
def weightsOf (kp : IVec S1024 1) (t : FVec Ideal S1x8x1024 .f32) (p : FVec Ideal S1x8x1024x16384 .f32) : FVec Ideal S1x8x1024x16384 .f32 :=
  select (broadcastInDim S1x8x1024x16384 ![0, 1, 2, 3] bcast_S1x1x1024x1_S1x8x1024x16384_0_1_2_3
      (broadcastInDim S1x1x1024x1 ![2] bcast_S1024_S1x1x1024x1_2 kp))
    (Host.divf p (broadcastInDim S1x8x1024x16384 ![0, 1, 2, 3] bcast_S1x8x1024x1_S1x8x1024x16384_0_1_2_3
      (select (broadcastInDim S1x8x1024x1 ![0, 1, 2, 3] bcast_S1x1x1024x1_S1x8x1024x1_0_1_2_3
          (broadcastInDim S1x1x1024x1 ![2] bcast_S1024_S1x1x1024x1_2 kp))
        (broadcastInDim S1x8x1024x1 ![0, 1, 2] bcast_S1x8x1024_S1x8x1024x1_0_1_2 t)
        (broadcastInDim S1x8x1024x1 ![] bcast_S_S1x8x1024x1 (id (constant S_ .f32 0x3F800000#32))))))
    (broadcastInDim S1x8x1024x16384 ![] bcast_S_S1x8x1024x16384 (id (constant S_ .f32 0x00000000#32)))

/-- The exponentials of scores `s` less their row maximum. -/
def exps (s : FVec Ideal S1x8x1024x16384 .f32) : FVec Ideal S1x8x1024x16384 .f32 := expsOf (top s) s
/-- The weights: the exponentials `p` over their row sums. -/
def weights (p : FVec Ideal S1x8x1024x16384 .f32) : FVec Ideal S1x8x1024x16384 .f32 := weightsOf keep (total p) p

/-- The result of weights `w`. -/
def result (w : FVec Ideal S1x8x1024x16384 .f32) : FVec Ideal S1x1024x1024 .f32 :=
  Host.dotGeneral dot_S1x1024x1024_S1024x1024_S1x1024x1024_2_0_01_1_n_n none
    (shapeCast S1x1024x1024 (transpose S1x1024x8x128 [0, 3, 1, 2]
      (Host.dotGeneral dot_S1x16384x8x128_S1x8x1024x16384_S1x8x128x1024_1_3_3_2_02_01 none (extf .f32 v bitsLt_bf16_f32) w
        : FVec Ideal S1x8x128x1024 .f32) transposes_S1x8x128x1024_S1x1024x8x128_0_3_1_2) shapeCasts_S1x1024x8x128_S1x1024x1024)
    (extf .f32 wo bitsLt_bf16_f32)

end Values

/-- The program's result, from these. -/
theorem res_eq (m : (ℓ : Loc nD τ sig) → Buf (Elt Ideal) ℓ) (c : Dev nD) :
    res_main_v44 m c = result (m ((c.tc : Thread nD τ).loc main_arg3)) (m ((c.tc : Thread nD τ).loc main_arg4))
      (weights (exps (scores (m ((c.tc : Thread nD τ).loc main_arg0)) (m ((c.tc : Thread nD τ).loc main_arg1))
        (m ((c.tc : Thread nD τ).loc main_arg2))))) := rfl

/-- The mask's number is `⊥`. -/
theorem neg_inf : Ideal.ofBits .f32 0xFF800000#32 = ⊥ := by
  simp [Ideal.ofBits, Ideal.ieee]

/-! ## The mask -/

theorem qb_at (g : Fin 1024) : qb (ix2 g 0) = BitVec.ofNat 32 (g.val / 64) := by
  pointwise [qb]
  exact pyDiv_ap bcast_S_S1024 _ _ _ (b := 64) rfl rfl (by omega) (by decide) (by decide)

theorem kb_at (j : Fin 16384) : kb (ix2 0 j) = BitVec.ofNat 32 (j.val / 64) := by
  pointwise [kb]
  exact pyDiv_ap bcast_S_S16384 _ _ _ (b := 64) rfl rfl (by omega) (by decide) (by decide)

/-- A query sees the keys of its block's residue class. -/
theorem mask_at (g : Fin 1024) (j : Fin 16384) : mask (ix2 g j) = BitVec.ofBool (decide (j.val / 64 % 4 = g.val / 64 % 4)) := by
  have hq := pyRem_ap bcast_S_S1024x1 qb (id (constantI S_ 32 4#32)) (ix2 g 0) (b := 4) (qb_at g) rfl (by omega) (by decide) (by decide)
  have hk := pyRem_ap bcast_S_S1x16384 kb (id (constantI S_ 32 4#32)) (ix2 0 j) (b := 4) (kb_at j) rfl (by omega) (by decide) (by decide)
  pointwise [mask]
  rw [hq, hk, qb_at, kb_at, WordCmp.cmpi_eq_ofNat (by omega) (by omega), WordCmp.cmpi_eq_ofNat (by omega) (by omega)]
  by_cases h : j.val / 64 % 4 = g.val / 64 % 4
  · rw [decide_eq_true h]; rcases (g.val / 64 = j.val / 64 : Bool) <;> rfl
  · have h' : ¬ g.val / 64 = j.val / 64 := fun e => h (by rw [e])
    rw [decide_eq_false h, decide_eq_false h']; rfl

/-- Every query sees a key. -/
theorem keep_at (g : Fin 1024) : keep (ix1 g) = 1#1 := by
  pointwise [keep]
  refine (fold_ori _ _).2 ⟨⟨g.val, by omega⟩, Finset.mem_univ _, ?_⟩
  rw [mask_at, decide_eq_true rfl]; rfl

/-! ## The scores and the softmax -/

section Read

variable (x : FVec Ideal S1x1024x1024 .bf16) (wq : FVec Ideal S1024x1024 .bf16) (k v : FVec Ideal S1x16384x8x128 .bf16)
  (wo : FVec Ideal S1024x1024 .bf16)

/-- The score of query `g` against key `j`, head `h`. -/
def score (h : Fin 8) (g : Fin 1024) (j : Fin 16384) : EReal :=
  if j.val / 64 % 4 = g.val / 64 % 4 then
    (∑ d : Fin 128, (∑ f : Fin 1024, x (ix3 0 g f) * wq (ix2 f ⟨128 * h.val + d.val, by omega⟩)) * k (ix4 0 j h d))
      * Ideal.ofBits .f32 0x3DB504F3#32
  else ⊥

theorem scores_at (h : Fin 8) (g : Fin 1024) (j : Fin 16384) : scores x wq k (ix4 0 h g j) = score x wq k h g j := by
  have hinf : (id (constant S_ .f32 0xFF800000#32) : FVec Ideal S_ .f32) ix0 = ⊥ := neg_inf
  pointwise [scores]
  rw [mask_at, WordCmp.select_decide, score, hinf]
  simp only [Nat.mul_comm 128]

theorem top_at (s : FVec Ideal S1x8x1024x16384 .f32) (h : Fin 8) (g : Fin 1024) :
    top s (ix3 0 h g) = Finset.univ.fold max ⊥ fun j => s (ix4 0 h g j) := by
  rw [← neg_inf]
  pointwise [top]

theorem total_at (s : FVec Ideal S1x8x1024x16384 .f32) (h : Fin 8) (g : Fin 1024) :
    total s (ix3 0 h g) = ∑ j, s (ix4 0 h g j) := by
  pointwise [total]

theorem expsOf_at (t : FVec Ideal S1x8x1024 .f32) (s : FVec Ideal S1x8x1024x16384 .f32) (h : Fin 8) (g : Fin 1024) (j : Fin 16384) :
    expsOf t s (ix4 0 h g j) = Ideal.exp (s (ix4 0 h g j) - t (ix3 0 h g)) := by
  pointwise [expsOf]

theorem weightsOf_at (kp : IVec S1024 1) (t : FVec Ideal S1x8x1024 .f32) (p : FVec Ideal S1x8x1024x16384 .f32)
    (h : Fin 8) (g : Fin 1024) (j : Fin 16384) (hk : kp (ix1 g) = 1#1) :
    weightsOf kp t p (ix4 0 h g j) = Ideal.div (p (ix4 0 h g j)) (t (ix3 0 h g)) := by
  pointwise [weightsOf]
  rw [hk, WordCmp.select_of_eq_one rfl, WordCmp.select_of_eq_one rfl]

theorem exps_at (s : FVec Ideal S1x8x1024x16384 .f32) (h : Fin 8) (g : Fin 1024) (j : Fin 16384) :
    exps s (ix4 0 h g j) = Ideal.exp (s (ix4 0 h g j) - Finset.univ.fold max ⊥ fun j => s (ix4 0 h g j)) := by
  rw [exps, expsOf_at, top_at]

theorem weights_at (p : FVec Ideal S1x8x1024x16384 .f32) (h : Fin 8) (g : Fin 1024) (j : Fin 16384) :
    weights p (ix4 0 h g j) = Ideal.div (p (ix4 0 h g j)) (∑ j, p (ix4 0 h g j)) := by
  rw [weights, weightsOf_at _ _ _ _ _ _ (keep_at g), total_at]

theorem result_at (w : FVec Ideal S1x8x1024x16384 .f32) (g : Fin 1024) (y : Fin 1024) :
    result v wo w (ix3 0 g y) = ∑ e : Fin 1024,
      (∑ j : Fin 16384, v (ix4 0 j ⟨e.val / 128, by omega⟩ ⟨e.val % 128, by omega⟩) * w (ix4 0 ⟨e.val / 128, by omega⟩ g j)) * wo (ix2 e y) := by
  pointwise [result]

/-- **The reference at an index.** -/
theorem ref_at (g : Fin 1024) (y : Fin 1024) :
    result v wo (weights (exps (scores x wq k))) (ix3 0 g y) = ∑ e : Fin 1024,
      Cert.Pure.whole (score x wq k ⟨e.val / 128, by omega⟩ g) (fun j => v (ix4 0 j ⟨e.val / 128, by omega⟩ ⟨e.val % 128, by omega⟩))
        * wo (ix2 e y) := by
  rw [result_at]
  simp only [weights_at, exps_at, scores_at, Cert.Pure.whole, zero_add]

end Read

end Cert.ReferenceIdeal.Value
-- ==== Proof.Agree.lean ====
/- The kernel's rows are the reference's: the four devices' keys of a residue are exactly the keys a query of that residue may see, so that
   the merge of the four parts is the softmax of the whole masked row. -/
module

public import proofs.«01_k».proof.Proof.Mix
public import proofs.«01_k».proof.Proof.Ref

@[expose] public section

set_option maxRecDepth 65536
set_option maxHeartbeats 0

noncomputable section

namespace Cert.Proof

open Idealize.ShloMosaic Idealize.ShloMosaic.TcCoe
open Cert.KernelIdeal (nD rot slotScore)
open Cert.ReferenceIdeal.Value (score)

/-! ## Where the keys lie -/

/-- The query in row `w` of device `c`. -/
def rowOf (c : Dev nD) (w : Fin 256) : Fin 1024 := ⟨256 * c.val + w.val, by have : c.val < 4 := c.isLt; omega⟩

/-- Key `j` of residue `r` on device `c`, among all keys. -/
def keyAt (c : Dev nD) (r : Fin 4) (j : Fin 1024) : Fin 16384 :=
  ⟨4096 * c.val + (256 * (j.val / 64) + 64 * r.val + j.val % 64), by have : c.val < 4 := c.isLt; omega⟩

/-- Key `j` of residue `r` on the device in slot `u` of device `c`, among all keys. -/
def keyOf (c : Dev nD) (r : Fin 4) (i : Fin 4 × Fin 1024) : Fin 16384 := keyAt (rot c i.1.val) r i.2

theorem rot_val (c : Dev nD) (u : ℕ) : (rot c u).val = (c.val + u) % 4 := rfl

theorem keyOf_injective (c : Dev nD) (r : Fin 4) : Function.Injective (keyOf c r) := fun ⟨u, j⟩ ⟨u', j'⟩ e => by
  have e : 4096 * ((c.val + u.val) % 4) + (256 * (j.val / 64) + 64 * r.val + j.val % 64)
      = 4096 * ((c.val + u'.val) % 4) + (256 * (j'.val / 64) + 64 * r.val + j'.val % 64) := congrArg Fin.val e
  have hu : (c.val + u.val) % 4 = (c.val + u'.val) % 4 := by omega
  have hj : j.val / 64 = j'.val / 64 ∧ j.val % 64 = j'.val % 64 := by omega
  exact Prod.ext (Fin.ext (by show u.val = u'.val; omega)) (Fin.ext (by show j.val = j'.val; omega))

/-- They are of residue `r`, -/
theorem keyOf_residue (c : Dev nD) (r : Fin 4) (i : Fin 4 × Fin 1024) : (keyOf c r i).val / 64 % 4 = r.val := by
  show (4096 * (rot c i.1.val).val + (256 * (i.2.val / 64) + 64 * r.val + i.2.val % 64)) / 64 % 4 = r.val
  omega

/-- and there is no other. -/
theorem keyOf_onto (c : Dev nD) (r : Fin 4) (t : Fin 16384) (h : t.val / 64 % 4 = r.val) : t ∈ Set.range (keyOf c r) := by
  have hc : c.val < 4 := c.isLt
  refine ⟨(⟨(t.val / 4096 + 4 - c.val) % 4, Nat.mod_lt _ (by decide)⟩, ⟨64 * (t.val % 4096 / 256) + t.val % 64, by omega⟩), Fin.ext ?_⟩
  show 4096 * ((c.val + (t.val / 4096 + 4 - c.val) % 4) % 4)
    + (256 * ((64 * (t.val % 4096 / 256) + t.val % 64) / 64) + 64 * r.val + (64 * (t.val % 4096 / 256) + t.val % 64) % 64) = t.val
  have h₁ : (c.val + (t.val / 4096 + 4 - c.val) % 4) % 4 = t.val / 4096 := by omega
  have h₂ : (64 * (t.val % 4096 / 256) + t.val % 64) / 64 = t.val % 4096 / 256 := by omega
  have h₃ : (64 * (t.val % 4096 / 256) + t.val % 64) % 64 = t.val % 64 := by omega
  rw [h₁, h₂, h₃]
  omega

/-! ## The scores, as reals -/

variable (X : FVec Ideal ⟨3, ![1, 1024, 1024]⟩ .bf16) (WQ WO : FVec Ideal ⟨2, ![1024, 1024]⟩ .bf16) (K V : FVec Ideal ⟨4, ![1, 16384, 8, 128]⟩ .bf16)
variable (z : ℝ)

/-- A query's number. -/
def queryReal (g f : Fin 1024) : ℝ := ∑ k : Fin 1024, (X (ix3 0 g k)).toReal * (WQ (ix2 k f)).toReal

/-- The score of query `g` against key `t`, head `h`, were it not masked. -/
def scoreReal (h : Fin 8) (g : Fin 1024) (t : Fin 16384) : ℝ :=
  (∑ d : Fin 128, queryReal X WQ g ⟨128 * h.val + d.val, by omega⟩ * (K (ix4 0 t h d)).toReal) * z

variable (hX : ∀ g f, (((X (ix3 0 g f)).toReal : ℝ) : EReal) = X (ix3 0 g f))
  (hW : ∀ k f, (((WQ (ix2 k f)).toReal : ℝ) : EReal) = WQ (ix2 k f))
  (hK : ∀ t h d, (((K (ix4 0 t h d)).toReal : ℝ) : EReal) = K (ix4 0 t h d))
  (hz : Ideal.ofBits .f32 0x3DB504F3#32 = (z : EReal))

include hX hW in
theorem query_real (g f : Fin 1024) : ∑ k : Fin 1024, X (ix3 0 g k) * WQ (ix2 k f) = (queryReal X WQ g f : EReal) := by
  rw [queryReal, Cert.Pure.coe_sum]
  exact Finset.sum_congr rfl fun k _ => by rw [EReal.coe_mul, hX, hW]

include hX hW hK hz in
/-- The reference's score of a key that is seen, -/
theorem score_seen (h : Fin 8) (g : Fin 1024) (t : Fin 16384) (e : t.val / 64 % 4 = g.val / 64 % 4) :
    score X WQ K h g t = (scoreReal X WQ K z h g t : EReal) := by
  rw [score, if_pos e, hz, scoreReal, EReal.coe_mul, Cert.Pure.coe_sum]
  refine congrArg (· * (z : EReal)) (Finset.sum_congr rfl fun d _ => ?_)
  rw [EReal.coe_mul, query_real X WQ hX hW, hK]

/-- and of one that is not. -/
theorem score_hidden (h : Fin 8) (g : Fin 1024) (t : Fin 16384) (e : ¬ t.val / 64 % 4 = g.val / 64 % 4) : score X WQ K h g t = ⊥ := by
  rw [score, if_neg e]

/-! ## The kernel's rows -/

variable (Q0 : Dev nD → Vec Ideal ⟨3, ![1, 256, 1024]⟩ .bf16) (Kx Vx : Dev nD → Vec Ideal ⟨4, ![4, 8, 1024, 128]⟩ .bf16)
variable
  (hq : ∀ (c : Dev nD) (w : Fin 256) (f : Fin 1024), Q0 c (ix3 0 w f)
    = (∑ k : Fin 1024, X (ix3 0 (rowOf c w) k) * WQ (ix2 k f)) * Ideal.ofBits .f32 0x3DB504F3#32)
  (hk : ∀ (c : Dev nD) (r : Fin 4) (h : Fin 8) (j : Fin 1024) (d : Fin 128), Kx c (ix4 r h j d)
    = K (ix4 0 (keyAt c r j) h d))
  (hv : ∀ (c : Dev nD) (r : Fin 4) (h : Fin 8) (j : Fin 1024) (d : Fin 128), Vx c (ix4 r h j d)
    = V (ix4 0 (keyAt c r j) h d))

include hX hW hK hz hq hk in
/-- The kernel's score, scaled before the product and not after it, is the reference's. -/
theorem slot_real (c : Dev nD) (r : Fin 4) (h : Fin 8) (a : Fin 64) (u : Fin 4) (j : Fin 1024) :
    slotScore Q0 Kx c r h a u j = (scoreReal X WQ K z h (rowOf c ⟨64 * r.val + a.val, by omega⟩) (keyOf c r (u, j)) : EReal) := by
  rw [slotScore, scoreReal, Finset.sum_mul, Cert.Pure.coe_sum]
  refine Finset.sum_congr rfl fun d _ => ?_
  rw [hq, hk, hz, query_real X WQ hX hW, ← hK, ← EReal.coe_mul, ← EReal.coe_mul]
  exact congrArg Real.toEReal (mul_right_comm _ _ _)

include hX hW hK hz hq hk hv in
/-- **A row's merge of four parts is its softmax over all keys.** -/
theorem row_eq (c : Dev nD) (r : Fin 4) (h : Fin 8) (a : Fin 64) (d : Fin 128) :
    Cert.Pure.merged (slotScore Q0 Kx c r h a) (fun u j => Vx (rot c u.val) (ix4 r h j d))
      = Cert.Pure.whole (score X WQ K h (rowOf c ⟨64 * r.val + a.val, by omega⟩)) (fun t => V (ix4 0 t h d)) := by
  have hr : (rowOf c ⟨64 * r.val + a.val, by omega⟩).val / 64 % 4 = r.val := by
    show (256 * c.val + (64 * r.val + a.val)) / 64 % 4 = r.val
    omega
  have es : slotScore Q0 Kx c r h a = fun u j => (scoreReal X WQ K z h (rowOf c ⟨64 * r.val + a.val, by omega⟩) (keyOf c r (u, j)) : EReal) :=
    funext fun u => funext fun j => slot_real X WQ K z hX hW hK hz Q0 Kx hq hk c r h a u j
  rw [es]
  exact Cert.Pure.merged_eq_whole _ _ _ _ (keyOf c r) (keyOf_injective c r)
    (fun i => score_seen X WQ K z hX hW hK hz h _ _ ((keyOf_residue c r i).trans hr.symm))
    (fun i => (hv (rot c i.1.val) r h i.2 d).symm)
    fun t ht => score_hidden X WQ K h _ t fun e => ht (keyOf_onto c r t (e.trans hr))

include hX hW hK hz hq hk hv in
/-- **A device's block of the kernel's result is the reference's rows.** -/
theorem out_eq (c : Dev nD) (w : Fin 256) (y : Fin 1024) :
    Cert.KernelIdeal.outVal (Cert.KernelIdeal.pin Q0 Kx Vx c) WO (ix2 w y)
      = Cert.ReferenceIdeal.Value.result V WO (Cert.ReferenceIdeal.Value.weights (Cert.ReferenceIdeal.Value.exps (Cert.ReferenceIdeal.Value.scores X WQ K)))
          (ix3 0 (rowOf c w) y) := by
  rw [Cert.KernelIdeal.outVal_at, Cert.ReferenceIdeal.Value.ref_at]
  refine Finset.sum_congr rfl fun e _ => congrArg (· * WO (ix2 e y)) ?_
  have hw : w = ⟨64 * (⟨w.val / 64, by omega⟩ : Fin 4).val + (⟨w.val % 64, by omega⟩ : Fin 64).val, by
      show 64 * (w.val / 64) + w.val % 64 < 256; omega⟩ := Fin.ext (by show w.val = 64 * (w.val / 64) + w.val % 64; omega)
  have he : e = ⟨128 * (⟨e.val / 128, by omega⟩ : Fin 8).val + (⟨e.val % 128, by omega⟩ : Fin 128).val, by
      show 128 * (e.val / 128) + e.val % 128 < 1024; omega⟩ := Fin.ext (by show e.val = 128 * (e.val / 128) + e.val % 128; omega)
  refine Eq.trans (congrArg₂ (fun w e => Cert.KernelIdeal.rows (Cert.KernelIdeal.pin Q0 Kx Vx c) (ix2 w e)) hw he) ?_
  refine (Cert.KernelIdeal.ctx_at Q0 Kx Vx c _ _ _ _).trans ?_
  refine (row_eq X WQ K V z hX hW hK hz Q0 Kx Vx hq hk hv c _ _ _ _).trans ?_
  exact congrArg (fun w => Cert.Pure.whole (score X WQ K ⟨e.val / 128, by omega⟩ (rowOf c w)) _) hw.symm

end Cert.Proof
-- ==== Proof.Flat.lean ====
/- The kernel body with its calls to printed parts replaced by what those parts do, written out as one flat program. -/
module

public import proofs.«01_k».proof.Proof.Gen.KernelIdeal.Skeleton
public import Idealize.ShloMosaic.Lib.Tactic.OpenCalls

@[expose] public section
set_option maxRecDepth 65536
set_option maxHeartbeats 0

noncomputable section

namespace Cert.KernelIdeal

open Idealize.ShloMosaic Idealize.ShloMosaic.TcCoe

open_calls flatBody := cc0_body [
  k0_part1, k0_part2, k0_part3, k0_part4, k0_part5, k0_part6, k0_part7, k0_part8, k0_part9, k0_part10, k0_part11, k0_part12,
  k0_part13, k0_part14, k0_part15, k0_part16, k0_part17, k0_part18, k0_part19, k0_part20, k0_part21, k0_part22, k0_part23, k0_part24,
  k0_part25, k0_part26, k0_part27, k0_part28, k0_part29, k0_part30, k0_part31, k0_part32, k0_part33, k0_part34, k0_part35, k0_part36,
  k0_part37, k0_part38, k0_part39, k0_part40, k0_part41, k0_part42, k0_part43, k0_part44, k0_part45, k0_part46, k0_part47, k0_part48,
  k0_part49, k0_part50, k0_part51, k0_part52, k0_part53, k0_part54, k0_part55, k0_part56, k0_part57, k0_part58, k0_part59, k0_part60,
  k0_part61, k0_part62, k0_part63, k0_part64, k0_part65, k0_part66, k0_part67, k0_part68, k0_part69, k0_part70, k0_part71, k0_part72,
  k0_part73, k0_part74, k0_part75, k0_part76, k0_part77, k0_part78, k0_part79, k0_part80, k0_part81, k0_part82, k0_part83, k0_part84]

end Cert.KernelIdeal
-- ==== Proof.Cut.lean ====
/- The flattened body cut into stretches: the queries (`s1`), the two rounds of the barrier (`s2`), the query copies (`s3`) and their
   waits (`s4`), then per residue class its computation (`s5`, `s7`, `s9`, `s11`) and its copies (`s6`, `s8`, `s10`, `s12`), the waits for
   those (`s13`), and the merge (`s14`). -/
module

public import Idealize.ShloMosaic.Lib.Tactic.Stretches
public import proofs.«01_k».proof.Proof.Flat

@[expose] public section

set_option maxRecDepth 65536
set_option maxHeartbeats 0

noncomputable section

namespace Cert.KernelIdeal

open Idealize.ShloMosaic Idealize.ShloMosaic.TcCoe

cut_chain s := flatBody at 6, 14, 17, 23, 49, 55, 81, 87, 113, 119, 145, 151, 175

end Cert.KernelIdeal
-- ==== Proof.Proto.lean ====
/- The protocol of the kernel as a schedule of duties: which semaphore cell is paid by whom, and what each payment hands over.

   * The barrier cell of a device is paid six units: in each of the two rounds of the barrier one by each other device. A first-round unit
     hands over the slots of the payer that the owner will write into. A second-round unit hands over nothing.
   * Copies run in five channels: channel 0 carries the queries, channel `r + 1` the blocks of rows of residue class `r`.
   * The receive cell of a channel is paid by another device's copy and hands over the slot it landed in, at the contents sent.
   * The send cell of a channel is paid by the device's own copy and hands back the source lent to it. -/
module

public import Idealize.ShloMosaic.Lib.Pipeline.Regions
public import Idealize.ShloMosaic.Lib.Pipeline.RegionTalk
public import Idealize.ShloMosaic.Lib.Pipeline.Kit
public import Idealize.ShloMosaic.Lib.Rounds
public import Idealize.ShloMosaic.Lib.StableHlo
public import Idealize.ShloMosaic.Lib.Tactic
public import Idealize.ShloMosaic.PureOps
public import proofs.«01_k».proof.Proof.Spec

@[expose] public section

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

/-! ## The algebra -/

/-- Which of a cell's credits a wait spends: `1` for the second round of the barrier, `0` for every other. -/
abbrev Ix : Type := Fin 2
/-- A duty: the round of the barrier and the payer. A cell of a copy has the one duty `(0, 0)`. -/
abbrev D : Type := Fin 2 × Fin 3
abbrev UU : Type := UR sig nD τ × URounds (GSem nD τ sig) D

local notation "𝕄" => MT nD τ sig Ix (Elt F) ℕ UU ℕ

abbrev EP : Emb (UR sig nD τ) (MT nD τ sig Ix (Elt F) ℕ UU ℕ) := embL
abbrev ER : Emb (URounds (GSem nD τ sig) D) (MT nD τ sig Ix (Elt F) ℕ UU ℕ) := embR

/-! ## Slots -/

theorem qs_inb (u : Fin 4) : ∀ a, (![u.val, 0, 0] : Fin 3 → Nat) a + S1x256x1024.size a ≤ S4x256x1024.size a := by revert u; decide
theorem ps_inb (u r : Fin 4) : ∀ a, (![u.val, r.val, 0, 0] : Fin 4 → Nat) a + S1x1x64x1152.size a ≤ S4x4x64x1152.size a := by
  revert u r; decide

/-- Slot `u` of the gathered queries. -/
abbrev qSlot (u : Fin 4) : Memref sig .tc .vmem S256x1024 .bf16 :=
  ((Memref.whole cc0_scratch0).slice (Rect.unit (s := S4x256x1024) ![u.val, 0, 0] S1x256x1024.size (qs_inb u)) (fun _ => rfl)).squeeze
    S256x1024 squeezes_S1x256x1024_S256x1024
/-- Slot `u`, residue `r` of the send buffer. -/
abbrev oSlot (u r : Fin 4) : Memref sig .tc .vmem S64x1152 .bf16 :=
  ((Memref.whole cc0_scratch1).slice (Rect.unit (s := S4x4x64x1152) ![u.val, r.val, 0, 0] S1x1x64x1152.size (ps_inb u r)) (fun _ => rfl)).squeeze
    S64x1152 squeezes_S1x1x64x1152_S64x1152
/-- Slot `u`, residue `r` of the receive buffer. -/
abbrev iSlot (u r : Fin 4) : Memref sig .tc .vmem S64x1152 .bf16 :=
  ((Memref.whole cc0_scratch2).slice (Rect.unit (s := S4x4x64x1152) ![u.val, r.val, 0, 0] S1x1x64x1152.size (ps_inb u r)) (fun _ => rfl)).squeeze
    S64x1152 squeezes_S1x1x64x1152_S64x1152

/-- The slot of the `k`-th other device that this device's copies land in; also the slot the `k`-th last's copies land in here. -/
abbrev dstSlot (k : Fin 3) : Fin 4 := ⟨3 - k.val, by omega⟩
/-- The slot of the send buffer that goes to the `k`-th other device. -/
abbrev srcSlot (k : Fin 3) : Fin 4 := ⟨k.val + 1, by omega⟩

/-- A buffer of the device held whole. -/
abbrev bufAt (c : Dev nD) (b : Ref sig .tc) (q : PosShare TreeShare) (f : b.ty.Contents (Elt F)) : sProp 𝕄 :=
  (Memref.whole b).view.loc (c : Thread nD τ) ↦{q} f
abbrev qAt (c : Dev nD) (u : Fin 4) (q : PosShare TreeShare) (f : cc0_scratch0.ty.Contents (Elt F)) : sProp 𝕄 :=
  (qSlot u).view.loc (c : Thread nD τ) ↦[(qSlot u).view.set]{q} f
abbrev oAt (c : Dev nD) (u r : Fin 4) (f : cc0_scratch1.ty.Contents (Elt F)) : sProp 𝕄 :=
  (oSlot u r).view.loc (c : Thread nD τ) ↦[(oSlot u r).view.set]{fullShare} f
abbrev iAt (c : Dev nD) (u r : Fin 4) (f : cc0_scratch2.ty.Contents (Elt F)) : sProp 𝕄 :=
  (iSlot u r).view.loc (c : Thread nD τ) ↦[(iSlot u r).view.set]{fullShare} f

/-! ## Semaphores -/

theorem s3_inb (k : Fin 3) : ∀ a, (![k.val] : Fin 1 → Nat) a + S1.size a ≤ S3.size a := by revert k; decide
theorem s34_inb (k : Fin 3) (r : Fin 4) : ∀ a, (![k.val, r.val] : Fin 2 → Nat) a + S1x1.size a ≤ S3x4.size a := by revert k r; decide

abbrev barS : Sem sig := (SemArray.scalar (sig.barrier 0 rfl) : Sems sig S_).sem
abbrev qsS (k : Fin 3) : DmaSem sig := ((cc0_scratch3.slice (Rect.unit (s := S3) ![k.val] S1.size (s3_inb k))).squeeze S_ squeezes_S1_S_).sem
abbrev qrS (k : Fin 3) : DmaSem sig := ((cc0_scratch4.slice (Rect.unit (s := S3) ![k.val] S1.size (s3_inb k))).squeeze S_ squeezes_S1_S_).sem
abbrev psS (k : Fin 3) (r : Fin 4) : DmaSem sig :=
  ((cc0_scratch5.slice (Rect.unit (s := S3x4) ![k.val, r.val] S1x1.size (s34_inb k r))).squeeze S_ squeezes_S1x1_S_).sem
abbrev prS (k : Fin 3) (r : Fin 4) : DmaSem sig :=
  ((cc0_scratch6.slice (Rect.unit (s := S3x4) ![k.val, r.val] S1x1.size (s34_inb k r))).squeeze S_ squeezes_S1x1_S_).sem

/-- What a semaphore is for: the barrier, a copy to the `k`-th other device in a channel, a copy arriving from there, or the pipeline. -/
inductive Kd where
  | bar | snd (k : Fin 3) (ch : Fin 5) | rcv (k : Fin 3) (ch : Fin 5) | other
  deriving DecidableEq

abbrev sndS (k : Fin 3) : (ch : Fin 5) → DmaSem sig := Fin.cases (qsS k) fun r => psS k r
abbrev rcvS (k : Fin 3) : (ch : Fin 5) → DmaSem sig := Fin.cases (qrS k) fun r => prS k r

/-- The semaphore of each purpose. -/
abbrev sloc : Kd → SemLoc sig
  | .bar => .reg barS
  | .snd k ch => .dma (sndS k ch)
  | .rcv k ch => .dma (rcvS k ch)
  | .other => .dma 0

/-- The purpose of each semaphore. -/
def kd : SemLoc sig → Kd
  | .reg _ => .bar
  | .dma s =>
    if s.val < 6 then .other
    else if s.val < 9 then .snd ⟨(s.val - 6) % 3, Nat.mod_lt _ (by decide)⟩ 0
    else if s.val < 12 then .rcv ⟨(s.val - 9) % 3, Nat.mod_lt _ (by decide)⟩ 0
    else if s.val < 24 then .snd ⟨(s.val - 12) / 4 % 3, Nat.mod_lt _ (by decide)⟩ ⟨(s.val - 12) % 4 + 1, by omega⟩
    else .rcv ⟨(s.val - 24) / 4 % 3, Nat.mod_lt _ (by decide)⟩ ⟨(s.val - 24) % 4 + 1, by omega⟩

theorem kd_snd (k : Fin 3) (ch : Fin 5) : kd (.dma (sndS k ch)) = .snd k ch := by revert k ch; decide
theorem kd_rcv (k : Fin 3) (ch : Fin 5) : kd (.dma (rcvS k ch)) = .rcv k ch := by revert k ch; decide

theorem kd_sloc : (x : Kd) → kd (sloc x) = x
  | .bar => rfl
  | .snd k ch => kd_snd k ch
  | .rcv k ch => kd_rcv k ch
  | .other => by decide

theorem sloc_inj {x y : Kd} (h : sloc x = sloc y) : x = y := by rw [← kd_sloc x, h, kd_sloc]

/-- The cell of a purpose on a device. -/
abbrev cell (c : Dev nD) (x : Kd) : GSem nD τ sig := ((c : Thread nD τ), sloc x)

theorem cell_inj {c d : Dev nD} {x y : Kd} : cell c x = cell d y ↔ c = d ∧ x = y :=
  ⟨fun h => ⟨Fin.ext (congrArg (fun g : GSem nD τ sig => g.1.1.val) h), sloc_inj (congrArg Prod.snd h)⟩, fun h => by rw [h.1, h.2]⟩

/-- What a copy of queries, and of a block of rows, credits. -/
abbrev NQ : ℕ := (qSlot 0).view.dmaCredit
abbrev NP : ℕ := (iSlot 0 0).view.dmaCredit
abbrev amtC : Fin 5 → ℕ := Fin.cases NQ fun _ => NP
theorem amtC_pos (ch : Fin 5) : 0 < amtC ch := by
  refine Fin.cases (View.dmaCredit_pos _ (by decide)) (fun r => View.dmaCredit_pos _ (by decide)) ch

/-! ## The schedule -/

section Schedule

variable (Q0 : Dev nD → Vec F S1x256x1024 .bf16) (Kx Vx : Dev nD → Vec F S4x8x1024x128 .bf16)

/-- Handed to device `c` by the `k`-th other device in the first round of the barrier: the slots over there that `c` copies into, and that
    the cells their landing pays are open. -/
def barPay (c : Dev nD) (k : Fin 3) : sProp 𝕄 :=
  iprop((∃ f, qAt (peer c k) (dstSlot k) fullShare f) ∗ (bigSep Finset.univ fun r : Fin 4 => iprop(∃ f, iAt (F := F) (peer c k) (dstSlot k) r f))
    ∗ bigSep Finset.univ fun ch : Fin 5 => reached ER (cell (peer c k) (.rcv k ch)) 0)

/-- What the device's own copy in a channel hands back. -/
def sndPay (c : Dev nD) (k : Fin 3) : (ch : Fin 5) → sProp 𝕄 :=
  Fin.cases (qAt c 0 (Transfers.shareTok fullShare 3 k) (qrel Q0 c)) fun r => oAt c (srcSlot k) r (pout Q0 Kx Vx c)
/-- What a copy arriving in a channel hands over. -/
def rcvPay (c : Dev nD) (k : Fin 3) : (ch : Fin 5) → sProp 𝕄 :=
  Fin.cases (qAt c (dstSlot k) fullShare (qrel Q0 c)) fun r => iAt c (dstSlot k) r (pin Q0 Kx Vx c)

instance sndPay_storable (c : Dev nD) (k : Fin 3) (ch : Fin 5) : BI.Storable (upEmb : UEmb _ 𝕄) (sndPay Q0 Kx Vx c k ch) := by
  refine Fin.cases ?_ (fun r => ?_) ch
  · show BI.Storable upEmb (qAt c 0 (Transfers.shareTok fullShare 3 k) (qrel Q0 c)); infer_instance
  · show BI.Storable upEmb (oAt c (srcSlot k) r (pout Q0 Kx Vx c)); infer_instance
instance rcvPay_storable (c : Dev nD) (k : Fin 3) (ch : Fin 5) : BI.Storable (upEmb : UEmb _ 𝕄) (rcvPay Q0 Kx Vx c k ch) := by
  refine Fin.cases ?_ (fun r => ?_) ch
  · show BI.Storable upEmb (qAt c (dstSlot k) fullShare (qrel Q0 c)); infer_instance
  · show BI.Storable upEmb (iAt c (dstSlot k) r (pin Q0 Kx Vx c)); infer_instance

/-- What a duty of a purpose hands over on device `c`. -/
def pay (c : Dev nD) : Kd → D → sProp 𝕄
  | .bar, d => if d.1 = 0 then barPay c d.2 else iprop(emp)
  | .snd k ch, _ => sndPay Q0 Kx Vx c k ch
  | .rcv k ch, _ => rcvPay Q0 Kx Vx c k ch
  | .other, _ => iprop(emp)

instance pay_storable (c : Dev nD) (x : Kd) (d : D) : BI.Storable (upEmb : UEmb _ 𝕄) (pay Q0 Kx Vx c x d) := by
  cases x <;> dsimp only [pay, barPay]
  case bar => split <;> infer_instance
  all_goals infer_instance

/-- The duties of a purpose. -/
def dutyOf : Kd → Finset D
  | .bar => Finset.univ
  | .other => ∅
  | _ => {(0, 0)}

/-- What one duty of a purpose pays. -/
abbrev amt : Kd → ℕ
  | .bar => 1
  | .snd _ ch => amtC ch
  | .rcv _ ch => amtC ch
  | .other => 1

theorem amt_pos : (x : Kd) → 0 < amt x
  | .bar => Nat.one_pos
  | .snd _ ch => amtC_pos ch
  | .rcv _ ch => amtC_pos ch
  | .other => Nat.one_pos

/-- The schedule: one round per cell. -/
def rd : Rounds.Schedule (GSem nD τ sig) D 𝕄 where
  duties g r := if r = 0 ∧ g.1.2 = .tc then dutyOf (kd g.2) else ∅
  unitless _ := False
  amount g _ _ := amt (kd g.2)
  payload g _ d := pay Q0 Kx Vx g.1.1 (kd g.2) d
  amount_pos g _ _ _ := amt_pos (kd g.2)

instance rd_storable (g : GSem nD τ sig) (r : ℕ) (d : D) :
    BI.Storable (upEmb : UEmb _ 𝕄) ((rd Q0 Kx Vx).payload g r d) := by
  show BI.Storable upEmb (pay Q0 Kx Vx g.1.1 (kd g.2) d)
  infer_instance

theorem duties_cell (c : Dev nD) (x : Kd) : (rd Q0 Kx Vx).duties (cell c x) 0 = dutyOf x := by
  dsimp only [rd]; rw [if_pos ⟨rfl, rfl⟩, kd_sloc]
theorem duties_later (g : GSem nD τ sig) : ∀ r, 1 ≤ r → (rd Q0 Kx Vx).duties g r = ∅ :=
  fun r hr => by dsimp only [rd]; rw [if_neg (fun h => by omega)]
theorem amount_cell (c : Dev nD) (x : Kd) (d : D) : (rd Q0 Kx Vx).amount (cell c x) 0 d = amt x := by dsimp only [rd]; rw [kd_sloc]
theorem payload_cell (c : Dev nD) (x : Kd) (d : D) : (rd Q0 Kx Vx).payload (cell c x) 0 d = pay Q0 Kx Vx c x d := by
  dsimp only [rd]; rw [kd_sloc]
theorem expect_bar (c : Dev nD) : (rd Q0 Kx Vx).expect (cell c .bar) 0 = 6 := by
  unfold Schedule.expect Schedule.amountOf
  rw [duties_cell, Finset.sum_congr rfl (fun d _ => amount_cell Q0 Kx Vx c .bar d)]
  decide
theorem expect_one (c : Dev nD) (x : Kd) (hx : dutyOf x = {(0, 0)}) : (rd Q0 Kx Vx).expect (cell c x) 0 = amt x := by
  unfold Schedule.expect Schedule.amountOf; rw [duties_cell, hx, Finset.sum_singleton, amount_cell]
theorem rest_one (c : Dev nD) (x : Kd) (hx : dutyOf x = {(0, 0)}) :
    bigSep ((rd Q0 Kx Vx).duties (cell c x) 0 \ ∅) (fun d => (rd Q0 Kx Vx).payload (cell c x) 0 d) = pay Q0 Kx Vx c x (0, 0) := by
  rw [Finset.sdiff_empty, duties_cell, hx, bigSep_singleton, payload_cell]

end Schedule

/-! ## Levels, and what each core owes at the start -/

/-- A cell a core waits on carries both indices. -/
def L (g : GSem nD τ sig) : Finset Ix := if g.1.2 = .tc then Finset.univ else ∅
/-- The barrier's rounds below the queries, these below the blocks of rows; what a core's own copies pay at the bottom. -/
def lvOf : Kd → Ix → ℕ
  | .bar, i => 1 + i.val
  | .rcv _ ch, _ => if ch = 0 then 3 else 4
  | _, _ => 0
def lv (g : GSem nD τ sig) (i : Ix) : ℕ := lvOf (kd g.2) i

theorem L_of_ne (g : GSem nD τ sig) (h : g.1.2 ≠ .tc) : L g = ∅ := if_neg h
theorem L_tc (c : Dev nD) (sm : SemLoc sig) : L ((c : Thread nD τ), sm) = Finset.univ := if_pos rfl
theorem lv_cell (c : Dev nD) (x : Kd) (i : Ix) : lv (cell c x) i = lvOf x i := by dsimp only [lv]; rw [kd_sloc]

/-- On top of `O`, what is owed to the other devices in round `i` of the barrier: one unit each. -/
def oB (c : Dev nD) (i : Ix) (O : CellTallies nD τ sig Ix) : CellTallies nD τ sig Ix :=
  O + tallyAt (cell (peer c 1) .bar) i 1 + tallyAt (cell (peer c 0) .bar) i 1 + tallyAt (cell (peer c 2) .bar) i 1
/-- On top of `O`, what is owed to the other devices in a channel: one copy each. -/
def oC (c : Dev nD) (ch : Fin 5) (O : CellTallies nD τ sig Ix) : CellTallies nD τ sig Ix :=
  O + tallyAt (cell (peer c 2) (.rcv 2 ch)) 0 (amtC ch) + tallyAt (cell (peer c 1) (.rcv 1 ch)) 0 (amtC ch)
    + tallyAt (cell (peer c 0) (.rcv 0 ch)) 0 (amtC ch)
/-- What a core owes once the queries are sent; -/
def oP (c : Dev nD) : CellTallies nD τ sig Ix := oC c 1 (oC c 2 (oC c 3 (oC c 4 0)))
/-- and when the kernel starts. -/
def O₀ (c : Dev nD) : CellTallies nD τ sig Ix := oB c 0 (oB c 1 (oC c 0 (oP c)))

/-- Everything in `O` is owed to cores, at levels above `b`. -/
def Above (b : ℕ) (O : CellTallies nD τ sig Ix) : Prop := ∀ g ι, 0 < O g ι → g.1.2 = .tc ∧ b < lv g ι

theorem Above.zero (b : ℕ) : Above b 0 := fun _ _ h => absurd h (Nat.lt_irrefl 0)
theorem Above.add {b : ℕ} {O : CellTallies nD τ sig Ix} (h : Above b O) {c : Dev nD} {x : Kd} {i : Ix} {n : ℕ} (hx : b < lvOf x i) :
    Above b (O + tallyAt (cell c x) i n) := fun g ι hg => by
  rw [Pi.add_apply, Finsupp.add_apply] at hg
  rcases Nat.add_pos_iff_pos_or_pos.mp hg with hg | hg
  · exact h g ι hg
  · rw [tallyAt_apply] at hg
    split at hg
    · next e => rw [e.1, e.2, lv_cell]; exact ⟨rfl, hx⟩
    · exact absurd hg (Nat.lt_irrefl 0)
theorem Above.oB {b : ℕ} {O : CellTallies nD τ sig Ix} (h : Above b O) (c : Dev nD) (i : Ix) (hb : b < 1 + i.val) : Above b (oB c i O) :=
  ((h.add (x := .bar) hb).add (x := .bar) hb).add (x := .bar) hb
theorem Above.oC {b : ℕ} {O : CellTallies nD τ sig Ix} (h : Above b O) (c : Dev nD) (ch : Fin 5) (hb : b < if ch = 0 then 3 else 4) :
    Above b (oC c ch O) :=
  ((h.add (x := .rcv 2 ch) hb).add (x := .rcv 1 ch) hb).add (x := .rcv 0 ch) hb
theorem above_oP (c : Dev nD) {b : ℕ} (hb : b < 4) : Above b (oP c) :=
  ((((Above.zero b).oC c 4 hb).oC c 3 hb).oC c 2 hb).oC c 1 hb

/-- A core may wait on one of its cells while it owes only above it. -/
theorem mayWait {O : CellTallies nD τ sig Ix} {b : ℕ} (c : Dev nD) (x : Kd) (i : Ix) (h : Above b O) (hb : lvOf x i ≤ b) :
    (levAts L lv : sProp 𝕄) ⊢ MayWait (c : Thread nD τ) (sloc x) i O :=
  MayOwe.of_cut (L := L) (lev := lv) b
    (fun p hp => by rw [Finset.mem_singleton.mp hp, L_tc]; exact Finset.mem_univ _)
    (fun g u hg => by unfold L; rw [if_pos (h g u hg).1]; exact Finset.mem_univ _)
    (fun p hp => by rw [Finset.mem_singleton.mp hp]; exact (lv_cell c x i).le.trans hb)
    (fun g u hg => (h g u hg).2)

end Cert.KernelIdeal
-- ==== Proof.Geometry.lean ====
/- The slots of the scratch buffers: which elements each covers, how a whole buffer is its slots, and what the stores and copies leave in
   them — always the contents named in `Spec` (`qrel`, `pout`, `pin`). -/
module

public import Idealize.ShloMosaic.Lib.Pipeline.ValueKit.Geometry
public import proofs.«01_k».proof.Proof.Proto

@[expose] public section

set_option maxRecDepth 65536

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Ix (Elt F) ℕ UU ℕ

/-! ## Elements -/

/-- Slot `u` of the gathered queries is the elements whose first coordinate is `u`. -/
theorem mem_qSlot (u : Fin 4) (i : S4x256x1024.Idx) : i ∈ (qSlot u).view.set ↔ i 0 = u := by
  rw [show (qSlot u).view.set = _ from Memref.set_view_squeeze _ _]
  refine ValueKit.mem_set_slice_whole_iff cc0_scratch0 _ i (Rect.mem_set_unit.trans ⟨fun h => ?_, fun h a => ?_⟩)
  · have h0 : u.val ≤ (i 0).val ∧ (i 0).val < u.val + 1 := h 0
    exact Fin.ext (by omega)
  · subst h
    have h1 : (i 1).val < 256 := (i 1).isLt
    have h2 : (i 2).val < 1024 := (i 2).isLt
    match a with
    | ⟨0, _⟩ => exact ⟨le_rfl, Nat.lt_succ_self _⟩
    | ⟨1, _⟩ => exact ⟨Nat.zero_le _, (show (i 1).val < 0 + 256 by omega)⟩
    | ⟨2, _⟩ => exact ⟨Nat.zero_le _, (show (i 2).val < 0 + 1024 by omega)⟩

/-- A one-by-one-by-64-by-1152 rectangle at `u`, `r` is the elements whose first two coordinates are `u` and `r`. -/
theorem mem_blk (u r : Fin 4) (i : S4x4x64x1152.Idx) :
    i ∈ (Rect.unit (s := S4x4x64x1152) ![u.val, r.val, 0, 0] S1x1x64x1152.size (ps_inb u r)).set ↔ i 0 = u ∧ i 1 = r := by
  refine Rect.mem_set_unit.trans ⟨fun h => ?_, fun h a => ?_⟩
  · have h0 : u.val ≤ (i 0).val ∧ (i 0).val < u.val + 1 := h 0
    have h1 : r.val ≤ (i 1).val ∧ (i 1).val < r.val + 1 := h 1
    exact ⟨Fin.ext (by omega), Fin.ext (by omega)⟩
  · obtain ⟨h0, h1⟩ := h
    subst h0; subst h1
    have h2 : (i 2).val < 64 := (i 2).isLt
    have h3 : (i 3).val < 1152 := (i 3).isLt
    match a with
    | ⟨0, _⟩ => exact ⟨le_rfl, Nat.lt_succ_self _⟩
    | ⟨1, _⟩ => exact ⟨le_rfl, Nat.lt_succ_self _⟩
    | ⟨2, _⟩ => exact ⟨Nat.zero_le _, (show (i 2).val < 0 + 64 by omega)⟩
    | ⟨3, _⟩ => exact ⟨Nat.zero_le _, (show (i 3).val < 0 + 1152 by omega)⟩

theorem mem_oSlot (u r : Fin 4) (i : S4x4x64x1152.Idx) : i ∈ (oSlot u r).view.set ↔ i 0 = u ∧ i 1 = r := by
  rw [show (oSlot u r).view.set = _ from Memref.set_view_squeeze _ _]
  exact ValueKit.mem_set_slice_whole_iff cc0_scratch1 _ i (mem_blk u r i)
theorem mem_iSlot (u r : Fin 4) (i : S4x4x64x1152.Idx) : i ∈ (iSlot u r).view.set ↔ i 0 = u ∧ i 1 = r := by
  rw [show (iSlot u r).view.set = _ from Memref.set_view_squeeze _ _]
  exact ValueKit.mem_set_slice_whole_iff cc0_scratch2 _ i (mem_blk u r i)

/-- The slice of the send buffer that residue class `r` fills. -/
theorem col_inb (r : Fin 4) : ∀ a, (![0, r.val, 0, 0] : Fin 4 → Nat) a + S4x1x64x1152.size a ≤ S4x4x64x1152.size a := by revert r; decide
abbrev colR (r : Fin 4) : Rect S4x4x64x1152 := Rect.unit (s := S4x4x64x1152) ![0, r.val, 0, 0] S4x1x64x1152.size (col_inb r)
abbrev colAt (c : Dev nD) (r : Fin 4) (f : cc0_scratch1.ty.Contents (Elt F)) : sProp 𝕄 :=
  ((Memref.whole cc0_scratch1).access (colR r)).loc (c : Thread nD τ) ↦[((Memref.whole cc0_scratch1).access (colR r)).set]{fullShare} f

theorem mem_col (r : Fin 4) (i : S4x4x64x1152.Idx) : i ∈ ((Memref.whole cc0_scratch1).access (colR r)).set ↔ i 1 = r := by
  refine ValueKit.mem_set_slice_whole_iff cc0_scratch1 _ i (Rect.mem_set_unit.trans ⟨fun h => ?_, fun h a => ?_⟩)
  · have h1 : r.val ≤ (i 1).val ∧ (i 1).val < r.val + 1 := h 1
    exact Fin.ext (by omega)
  · subst h
    have h0 : (i 0).val < 4 := (i 0).isLt
    have h2 : (i 2).val < 64 := (i 2).isLt
    have h3 : (i 3).val < 1152 := (i 3).isLt
    match a with
    | ⟨0, _⟩ => exact ⟨Nat.zero_le _, (show (i 0).val < 0 + 4 by omega)⟩
    | ⟨1, _⟩ => exact ⟨le_rfl, Nat.lt_succ_self _⟩
    | ⟨2, _⟩ => exact ⟨Nat.zero_le _, (show (i 2).val < 0 + 64 by omega)⟩
    | ⟨3, _⟩ => exact ⟨Nat.zero_le _, (show (i 3).val < 0 + 1152 by omega)⟩

/-! ## A whole buffer as its slots -/

/-- A buffer cut by a function of its elements. -/
theorem split_by {ℓ : Loc nD τ sig} {q : PosShare TreeShare} {f : Buf (Elt F) ℓ} {T : Type} [Fintype T] [DecidableEq T]
    (I : Finset (Idx ℓ)) (K : T → Finset (Idx ℓ)) (p : Idx ℓ → T) (hK : ∀ t i, i ∈ K t ↔ i ∈ I ∧ p i = t) :
    (ℓ ↦[I]{q} f : sProp 𝕄) = bigSep Finset.univ fun t => ℓ ↦[K t]{q} f := by
  rw [← pointsTo_biUnion Finset.univ K fun t _ t' _ h => Finset.disjoint_left.mpr fun i h₁ h₂ =>
    h (((hK t i).mp h₁).2.symm.trans ((hK t' i).mp h₂).2)]
  congr 1
  ext i
  simp only [Finset.mem_biUnion, Finset.mem_univ, true_and]
  exact ⟨fun h => ⟨p i, (hK _ _).mpr ⟨h, rfl⟩⟩, fun ⟨t, h⟩ => ((hK t i).mp h).1⟩

/-- The gathered queries are four slots; -/
theorem q_split (c : Dev nD) (q : PosShare TreeShare) (f : cc0_scratch0.ty.Contents (Elt F)) :
    (bufAt c cc0_scratch0 q f : sProp 𝕄) = bigSep Finset.univ fun u : Fin 4 => qAt c u q f :=
  split_by (ℓ := (Memref.whole cc0_scratch0).view.loc (c : Thread nD τ)) Finset.univ (fun u => (qSlot u).view.set)
    (fun i => (show S4x256x1024.Idx from i) 0)
    fun u i => (mem_qSlot u i).trans ⟨fun h => ⟨Finset.mem_univ _, h⟩, fun h => h.2⟩
/-- the send buffer is four residue classes; -/
theorem o_cols (c : Dev nD) (f : cc0_scratch1.ty.Contents (Elt F)) :
    (bufAt c cc0_scratch1 fullShare f : sProp 𝕄) = bigSep Finset.univ fun r : Fin 4 => colAt c r f :=
  split_by (ℓ := (Memref.whole cc0_scratch1).view.loc (c : Thread nD τ)) Finset.univ
    (fun r => ((Memref.whole cc0_scratch1).access (colR r)).set) (fun i => (show S4x4x64x1152.Idx from i) 1)
    fun r i => (mem_col r i).trans ⟨fun h => ⟨Finset.mem_univ _, h⟩, fun h => h.2⟩
/-- each of these four slots; -/
theorem col_split (c : Dev nD) (r : Fin 4) (f : cc0_scratch1.ty.Contents (Elt F)) :
    (colAt c r f : sProp 𝕄) = bigSep Finset.univ fun u : Fin 4 => oAt c u r f :=
  split_by (ℓ := (Memref.whole cc0_scratch1).view.loc (c : Thread nD τ)) ((Memref.whole cc0_scratch1).access (colR r)).set
    (fun u => (oSlot u r).view.set) (fun i => (show S4x4x64x1152.Idx from i) 0)
    fun u i => (mem_oSlot u r i).trans ⟨fun h => ⟨(mem_col r i).mpr h.2, h.1⟩, fun h => ⟨h.2, (mem_col r i).mp h.1⟩⟩

/-- Slot `u` of the receive buffer, all residue classes. -/
def iRow (u : Fin 4) : Finset S4x4x64x1152.Idx := Finset.univ.filter fun i => (i 0).val = u.val
theorem mem_iRow (u : Fin 4) (i : S4x4x64x1152.Idx) : i ∈ iRow u ↔ i 0 = u :=
  (Finset.mem_filter).trans ⟨fun h => Fin.ext h.2, fun h => ⟨Finset.mem_univ _, congrArg Fin.val h⟩⟩
/-- The receive buffer is four slots of four residue classes. -/
theorem i_split (c : Dev nD) (f : cc0_scratch2.ty.Contents (Elt F)) :
    (bufAt c cc0_scratch2 fullShare f : sProp 𝕄)
      = bigSep Finset.univ fun u : Fin 4 => bigSep Finset.univ fun r : Fin 4 => iAt c u r f := by
  refine (split_by (ℓ := (Memref.whole cc0_scratch2).view.loc (c : Thread nD τ)) Finset.univ iRow
    (fun i => (show S4x4x64x1152.Idx from i) 0)
    fun u i => (mem_iRow u i).trans ⟨fun h => ⟨Finset.mem_univ _, h⟩, fun h => h.2⟩).trans ?_
  congr 1; funext u
  exact split_by (ℓ := (Memref.whole cc0_scratch2).view.loc (c : Thread nD τ)) (iRow u) (fun r => (iSlot u r).view.set)
    (fun i => (show S4x4x64x1152.Idx from i) 1)
    fun r i => (mem_iSlot u r i).trans (and_congr_left' (mem_iRow u i).symm)

/-! ## What lands -/

section Values

variable (Q0 : Dev nD → Vec F S1x256x1024 .bf16) (Kx Vx : Dev nD → Vec F S4x8x1024x128 .bf16)

theorem rot_peer (c : Dev nD) (k : Fin 3) : rot (peer c k) (dstSlot k).val = c := by revert c k; decide

theorem slot_turn (k : Fin 3) : (4 - (dstSlot k).val) % 4 = (srcSlot k).val := by revert k; decide

/-- Where index `y` of slot `u` lies: in slot `u`, at a place inside the slot that `y` alone decides. -/
theorem qSlot_emb (u v : Fin 4) (y : S256x1024.Idx) :
    (show S4x256x1024.Idx from (qSlot u).view.emb y) 0 = u
      ∧ (show S4x256x1024.Idx from (qSlot u).view.emb y) 1 = (show S4x256x1024.Idx from (qSlot v).view.emb y) 1
      ∧ (show S4x256x1024.Idx from (qSlot u).view.emb y) 2 = (show S4x256x1024.Idx from (qSlot v).view.emb y) 2 := by
  have e : ∀ w : Fin 4, ∀ a : Fin 3, ((show S4x256x1024.Idx from (qSlot w).view.emb y) a : ℕ)
      = (![w.val, 0, 0] : Fin 3 → Nat) a
        + ((show S1x256x1024.Idx from Shape.reshapeEquiv (squeezes_S1x256x1024_S256x1024.numel_eq) y) a : ℕ) := fun w a =>
    ValueKit.rect_emb_unit_val (s := S4x256x1024) _ _ (qs_inb w) _ a
  refine ⟨Fin.ext ?_, Fin.ext ?_, Fin.ext ?_⟩
  · rw [e u 0]
    have hz : ((show S1x256x1024.Idx from Shape.reshapeEquiv (squeezes_S1x256x1024_S256x1024.numel_eq) y) 0 : ℕ) < 1 := Fin.isLt _
    show u.val + _ = u.val
    omega
  · rw [e u 1, e v 1]; rfl
  · rw [e u 2, e v 2]; rfl

/-- The copy of the queries to the `k`-th other device leaves what the gathered queries there should be. -/
theorem q_lands (c : Dev nD) (k : Fin 3) (fd : cc0_scratch0.ty.Contents (Elt F)) :
    ∀ i ∈ (qSlot (dstSlot k)).view.set,
      (qSlot (dstSlot k)).view.write (Elt F) fd ((qSlot 0).view.read (Elt F) (qrel Q0 c)) Finset.univ i = qrel Q0 (peer c k) i := by
  intro i hi
  obtain ⟨y, -, rfl⟩ := Finset.mem_map.mp hi
  rw [View.write_emb_of_mem _ _ (Finset.mem_univ _)]
  show qrel Q0 c ((qSlot 0).view.emb y) = _
  obtain ⟨h0, -, -⟩ := qSlot_emb 0 0 y
  obtain ⟨k0, k1, k2⟩ := qSlot_emb (dstSlot k) 0 y
  unfold qrel
  dsimp only at h0 k0 k1 k2 ⊢
  rw [h0, k0, k1, k2, rot_peer]
  show Q0 (rot c 0) _ = _
  rw [rot_zero]

/-- Where index `y` of block `u`, `r` of the send buffer lies, and of the receive buffer. -/
theorem blk_emb (u r : Fin 4) (z : S1x1x64x1152.Idx) (a : Fin 4) :
    ((show S4x4x64x1152.Idx from (Rect.unit (s := S4x4x64x1152) ![u.val, r.val, 0, 0] S1x1x64x1152.size (ps_inb u r)).emb z) a : ℕ)
      = (![u.val, r.val, 0, 0] : Fin 4 → Nat) a + (z a : ℕ) := ValueKit.rect_emb_unit_val (s := S4x4x64x1152) _ _ (ps_inb u r) z a

/-- The same, coordinate by coordinate. -/
theorem blk_emb_eq (u r : Fin 4) (z : S1x1x64x1152.Idx) :
    (Rect.unit (s := S4x4x64x1152) ![u.val, r.val, 0, 0] S1x1x64x1152.size (ps_inb u r)).emb z
      = (ValueIdx.ix4 u r (z 2) (z 3) : S4x4x64x1152.Idx) := by
  have hz0 : (z 0 : ℕ) < 1 := Fin.isLt _
  have hz1 : (z 1 : ℕ) < 1 := Fin.isLt _
  funext a
  refine Fin.ext ((blk_emb u r z a).trans ?_)
  match a with
  | ⟨0, _⟩ => show u.val + (z 0 : ℕ) = u.val; omega
  | ⟨1, _⟩ => show r.val + (z 1 : ℕ) = r.val; omega
  | ⟨2, _⟩ => show 0 + (z 2 : ℕ) = (z 2 : ℕ); omega
  | ⟨3, _⟩ => show 0 + (z 3 : ℕ) = (z 3 : ℕ); omega

/-- A block of the send buffer, as the receive buffer of the device it is for should hold it. -/
theorem pout_pin (c d : Dev nD) (s u r : Fin 4) (hd : rot d u.val = c) (hs : (4 - u.val) % 4 = s.val) (x : Fin 64) (y : Fin 1152) :
    pout Q0 Kx Vx c (ValueIdx.ix4 s r x y) = pin Q0 Kx Vx d (ValueIdx.ix4 u r x y) := by
  unfold pin
  show _ = pout Q0 Kx Vx (rot d u.val) (ValueIdx.ix4 ⟨(4 - u.val) % 4, _⟩ r x y)
  have h4 : (⟨(4 - u.val) % 4, Nat.mod_lt _ (by decide)⟩ : Fin 4) = s := Fin.ext hs
  rw [hd, h4]

/-- The copy of a block of rows to the `k`-th other device leaves what the receive buffer there should hold. -/
theorem p_lands (c : Dev nD) (k : Fin 3) (r : Fin 4) (fd : cc0_scratch2.ty.Contents (Elt F)) :
    ∀ i ∈ (iSlot (dstSlot k) r).view.set,
      (iSlot (dstSlot k) r).view.write (Elt F) fd ((oSlot (srcSlot k) r).view.read (Elt F) (pout Q0 Kx Vx c)) Finset.univ i
        = pin Q0 Kx Vx (peer c k) i := by
  intro i hi
  obtain ⟨y, -, rfl⟩ := Finset.mem_map.mp hi
  rw [View.write_emb_of_mem _ _ (Finset.mem_univ _)]
  have e : ∀ u : Fin 4, (Rect.unit (s := S4x4x64x1152) ![u.val, r.val, 0, 0] S1x1x64x1152.size (ps_inb u r)).emb
      (Shape.reshapeEquiv (squeezes_S1x1x64x1152_S64x1152.numel_eq) y) = _ := fun u => blk_emb_eq u r _
  show pout Q0 Kx Vx c ((Rect.unit (s := S4x4x64x1152) ![(srcSlot k).val, r.val, 0, 0] S1x1x64x1152.size (ps_inb (srcSlot k) r)).emb
      (Shape.reshapeEquiv (squeezes_S1x1x64x1152_S64x1152.numel_eq) y))
    = pin Q0 Kx Vx (peer c k) ((Rect.unit (s := S4x4x64x1152) ![(dstSlot k).val, r.val, 0, 0] S1x1x64x1152.size (ps_inb (dstSlot k) r)).emb
      (Shape.reshapeEquiv (squeezes_S1x1x64x1152_S64x1152.numel_eq) y))
  rw [e, e]
  exact pout_pin Q0 Kx Vx c (peer c k) (srcSlot k) (dstSlot k) r (rot_peer c k) (slot_turn k) _ _

/-- The device's own block of rows, stored: what its receive buffer should hold. -/
theorem self_lands (c : Dev nD) (r : Fin 4) (fd : cc0_scratch2.ty.Contents (Elt F)) :
    ∀ i ∈ (iSlot 0 r).view.set,
      ((Memref.whole cc0_scratch2).access (Rect.unit (s := S4x4x64x1152) ![(0 : Fin 4).val, r.val, 0, 0] S1x1x64x1152.size (ps_inb 0 r))).write (Elt F) fd
        (((Memref.whole cc0_scratch1).access (Rect.unit (s := S4x4x64x1152) ![(0 : Fin 4).val, r.val, 0, 0] S1x1x64x1152.size (ps_inb 0 r))).read (Elt F)
          (pout Q0 Kx Vx c)) Finset.univ i
        = pin Q0 Kx Vx c i := by
  intro i hi
  rw [show (iSlot 0 r).view.set = _ from Memref.set_view_squeeze _ _] at hi
  obtain ⟨z, -, rfl⟩ := Finset.mem_map.mp hi
  refine (View.write_emb_of_mem (v := (Memref.whole cc0_scratch2).access
    (Rect.unit (s := S4x4x64x1152) ![(0 : Fin 4).val, r.val, 0, 0] S1x1x64x1152.size (ps_inb 0 r))) _ _ (Finset.mem_univ z)).trans ?_
  show pout Q0 Kx Vx c ((Rect.unit (s := S4x4x64x1152) ![(0 : Fin 4).val, r.val, 0, 0] S1x1x64x1152.size (ps_inb 0 r)).emb z)
    = pin Q0 Kx Vx c ((Rect.unit (s := S4x4x64x1152) ![(0 : Fin 4).val, r.val, 0, 0] S1x1x64x1152.size (ps_inb 0 r)).emb z)
  rw [blk_emb_eq]
  exact pout_pin Q0 Kx Vx c c 0 0 r (rot_zero c) rfl _ _

/-- The rows of residue class `r`, stored: what the send buffer should hold. -/
theorem col_lands (c : Dev nD) (r : Fin 4) (fd : cc0_scratch1.ty.Contents (Elt F)) :
    ∀ i ∈ ((Memref.whole cc0_scratch1).access (colR r)).set,
      ((Memref.whole cc0_scratch1).access (colR r)).write (Elt F) fd (colVal (qrel Q0 c) (Kx c) (Vx c) r) Finset.univ i
        = pout Q0 Kx Vx c i := by
  intro i hi
  obtain ⟨z, -, rfl⟩ := Finset.mem_map.mp hi
  rw [View.write_emb_of_mem _ _ (Finset.mem_univ _)]
  have e : ∀ a : Fin 4, ((show S4x4x64x1152.Idx from (colR r).emb z) a : ℕ) = (![0, r.val, 0, 0] : Fin 4 → Nat) a + (z a : ℕ) := fun a =>
    ValueKit.rect_emb_unit_val (s := S4x4x64x1152) _ _ (col_inb r) z a
  have hz1 : (z 1 : ℕ) < 1 := Fin.isLt _
  have e1 : (show S4x4x64x1152.Idx from (colR r).emb z) 1 = r := Fin.ext ((e 1).trans (show r.val + (z 1 : ℕ) = r.val by omega))
  have ez : (ValueIdx.ix4 ((show S4x4x64x1152.Idx from (colR r).emb z) 0) 0 ((show S4x4x64x1152.Idx from (colR r).emb z) 2)
      ((show S4x4x64x1152.Idx from (colR r).emb z) 3) : S4x1x64x1152.Idx) = z := by
    funext a
    refine Fin.ext ?_
    match a with
    | ⟨0, _⟩ => exact (e 0).trans (Nat.zero_add _)
    | ⟨1, _⟩ => show 0 = (z 1 : ℕ); omega
    | ⟨2, _⟩ => exact (e 2).trans (Nat.zero_add _)
    | ⟨3, _⟩ => exact (e 3).trans (Nat.zero_add _)
  show colVal (qrel Q0 c) (Kx c) (Vx c) r z = pout Q0 Kx Vx c (show S4x4x64x1152.Idx from (colR r).emb z)
  unfold pout
  dsimp only at e1 ez ⊢
  rw [ez, e1]

/-- The device's own queries, stored in slot 0: what the gathered queries there should be. -/
theorem q_stored (c : Dev nD) (fd : cc0_scratch0.ty.Contents (Elt F)) :
    ∀ i ∈ (qSlot 0).view.set,
      ((Memref.whole cc0_scratch0).access (Rect.unit (s := S4x256x1024) ![(0 : Fin 4).val, 0, 0] S1x256x1024.size (qs_inb 0))).write (Elt F) fd
        (Q0 c) Finset.univ i = qrel Q0 c i := by
  intro i hi
  rw [show (qSlot 0).view.set = _ from Memref.set_view_squeeze _ _] at hi
  obtain ⟨z, -, rfl⟩ := Finset.mem_map.mp hi
  refine (View.write_emb_of_mem (v := (Memref.whole cc0_scratch0).access
    (Rect.unit (s := S4x256x1024) ![(0 : Fin 4).val, 0, 0] S1x256x1024.size (qs_inb 0))) _ _ (Finset.mem_univ z)).trans ?_
  have e : ∀ a : Fin 3, ((show S4x256x1024.Idx from (Rect.unit (s := S4x256x1024) ![(0 : Fin 4).val, 0, 0] S1x256x1024.size (qs_inb 0)).emb z) a : ℕ)
      = (![(0 : Fin 4).val, 0, 0] : Fin 3 → Nat) a + (z a : ℕ) := fun a =>
    ValueKit.rect_emb_unit_val (s := S4x256x1024) _ _ (qs_inb 0) z a
  have hz0 : (z 0 : ℕ) < 1 := Fin.isLt _
  show Q0 c z = qrel Q0 c (show S4x256x1024.Idx from
    (Rect.unit (s := S4x256x1024) ![(0 : Fin 4).val, 0, 0] S1x256x1024.size (qs_inb 0)).emb z)
  unfold qrel
  have h0 : ((show S4x256x1024.Idx from (Rect.unit (s := S4x256x1024) ![(0 : Fin 4).val, 0, 0] S1x256x1024.size (qs_inb 0)).emb z) 0 : ℕ) = 0 :=
    (e 0).trans (show 0 + (z 0 : ℕ) = 0 by omega)
  dsimp only at h0 ⊢
  rw [h0, rot_zero]
  refine congrArg (Q0 c) (funext fun a => Fin.ext ?_)
  match a with
  | ⟨0, _⟩ => show (z 0 : ℕ) = 0; omega
  | ⟨1, _⟩ => exact ((e 1).trans (Nat.zero_add _)).symm
  | ⟨2, _⟩ => exact ((e 2).trans (Nat.zero_add _)).symm

end Values

end Cert.KernelIdeal
-- ==== Proof.Comp.lean ====
/- The stretches that only compute, each from the buffers it reads to the values it stores. -/
module

public import proofs.«01_k».proof.Proof.Cut
public import proofs.«01_k».proof.Proof.Geometry

@[expose] public section

set_option maxRecDepth 65536
set_option maxHeartbeats 0

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Ix (Elt F) ℕ UU ℕ

variable (Q0 : Dev nD → Vec F S1x256x1024 .bf16) (Kx Vx : Dev nD → Vec F S4x8x1024x128 .bf16)

/-- Residue class 0: its rows are stored, the inputs stay. -/
theorem s5_spec (c : Dev nD) {R : Type} {κ : Prog (TpuEff nD τ sig (Elt F) Λ₀ .tc) R} {Q : R → sProp 𝕄}
    (of : cc0_scratch1.ty.Contents (Elt F)) (q2 q3 : PosShare TreeShare) :
    iprop(bufAt c cc0_scratch0 fullShare (qrel Q0 c) ∗ bufAt c cc0_stg2_0 q2 (Kx c) ∗ bufAt c cc0_stg3_0 q3 (Vx c) ∗ colAt c 0 of)
      ⊢ iprop(((bufAt c cc0_scratch0 fullShare (qrel Q0 c) ∗ bufAt c cc0_stg2_0 q2 (Kx c) ∗ bufAt c cc0_stg3_0 q3 (Vx c)
            ∗ colAt c 0 (pout Q0 Kx Vx c))
          -∗ wp frame (wpE (defs₀ (F := F)) Variants.none (c : Thread nD τ) none) Set.univ κ Q)
        -∗ wp frame (wpE (defs₀ (F := F)) Variants.none (c : Thread nD τ) none) Set.univ
          (s5 (Memref.whole cc0_stg2_0) (Memref.whole cc0_stg3_0) (Memref.whole cc0_scratch0) (Memref.whole cc0_scratch1) (Memref.isWhole_whole _) κ) Q) := by
  iintro ⟨HQ, HK, HV, HO⟩ Hκ
  unfold s5
  sl_exec
  iapply (wp_load_rect (defs := defs₀ (F := F)) Variants.none (c : Thread nD τ) none Set.univ (m := Memref.whole cc0_scratch1) (r := colR 0)
    (S := ((Memref.whole cc0_scratch1).access (colR 0)).set) (q := fullShare) (f := of) (Finset.Subset.refl _)) $$ [HO]
  · iexact HO
  iintro HO
  iapply (wp_store (defs := defs₀ (F := F)) Variants.none (c : Thread nD τ) none Set.univ (m := Memref.whole cc0_scratch1) (r := colR 0)
    (w := colVal (qrel Q0 c) (Kx c) (Vx c) 0) (S := ((Memref.whole cc0_scratch1).access (colR 0)).set) (f := of) (by rw [View.setOn_univ])) $$ [HO]
  · iexact HO
  iintro HO
  ihave HO := (Entails.of_eq (pointsTo_congr (col_lands Q0 Kx Vx c 0 of))) $$ HO
  iapply Hκ
  isplitl [HQ]; · iexact HQ
  isplitl [HK]; · iexact HK
  isplitl [HV]; · iexact HV
  iexact HO

/-- Residue class 1: its rows are stored, the inputs stay. -/
theorem s7_spec (c : Dev nD) {R : Type} {κ : Prog (TpuEff nD τ sig (Elt F) Λ₀ .tc) R} {Q : R → sProp 𝕄}
    (of : cc0_scratch1.ty.Contents (Elt F)) (q2 q3 : PosShare TreeShare) :
    iprop(bufAt c cc0_scratch0 fullShare (qrel Q0 c) ∗ bufAt c cc0_stg2_0 q2 (Kx c) ∗ bufAt c cc0_stg3_0 q3 (Vx c) ∗ colAt c 1 of)
      ⊢ iprop(((bufAt c cc0_scratch0 fullShare (qrel Q0 c) ∗ bufAt c cc0_stg2_0 q2 (Kx c) ∗ bufAt c cc0_stg3_0 q3 (Vx c)
            ∗ colAt c 1 (pout Q0 Kx Vx c))
          -∗ wp frame (wpE (defs₀ (F := F)) Variants.none (c : Thread nD τ) none) Set.univ κ Q)
        -∗ wp frame (wpE (defs₀ (F := F)) Variants.none (c : Thread nD τ) none) Set.univ
          (s7 (Memref.whole cc0_stg2_0) (Memref.whole cc0_stg3_0) (Memref.whole cc0_scratch0) (Memref.whole cc0_scratch1) (Memref.isWhole_whole _) κ) Q) := by
  iintro ⟨HQ, HK, HV, HO⟩ Hκ
  unfold s7
  sl_exec
  iapply (wp_load_rect (defs := defs₀ (F := F)) Variants.none (c : Thread nD τ) none Set.univ (m := Memref.whole cc0_scratch1) (r := colR 1)
    (S := ((Memref.whole cc0_scratch1).access (colR 1)).set) (q := fullShare) (f := of) (Finset.Subset.refl _)) $$ [HO]
  · iexact HO
  iintro HO
  iapply (wp_store (defs := defs₀ (F := F)) Variants.none (c : Thread nD τ) none Set.univ (m := Memref.whole cc0_scratch1) (r := colR 1)
    (w := colVal (qrel Q0 c) (Kx c) (Vx c) 1) (S := ((Memref.whole cc0_scratch1).access (colR 1)).set) (f := of) (by rw [View.setOn_univ])) $$ [HO]
  · iexact HO
  iintro HO
  ihave HO := (Entails.of_eq (pointsTo_congr (col_lands Q0 Kx Vx c 1 of))) $$ HO
  iapply Hκ
  isplitl [HQ]; · iexact HQ
  isplitl [HK]; · iexact HK
  isplitl [HV]; · iexact HV
  iexact HO

/-- Residue class 2: its rows are stored, the inputs stay. -/
theorem s9_spec (c : Dev nD) {R : Type} {κ : Prog (TpuEff nD τ sig (Elt F) Λ₀ .tc) R} {Q : R → sProp 𝕄}
    (of : cc0_scratch1.ty.Contents (Elt F)) (q2 q3 : PosShare TreeShare) :
    iprop(bufAt c cc0_scratch0 fullShare (qrel Q0 c) ∗ bufAt c cc0_stg2_0 q2 (Kx c) ∗ bufAt c cc0_stg3_0 q3 (Vx c) ∗ colAt c 2 of)
      ⊢ iprop(((bufAt c cc0_scratch0 fullShare (qrel Q0 c) ∗ bufAt c cc0_stg2_0 q2 (Kx c) ∗ bufAt c cc0_stg3_0 q3 (Vx c)
            ∗ colAt c 2 (pout Q0 Kx Vx c))
          -∗ wp frame (wpE (defs₀ (F := F)) Variants.none (c : Thread nD τ) none) Set.univ κ Q)
        -∗ wp frame (wpE (defs₀ (F := F)) Variants.none (c : Thread nD τ) none) Set.univ
          (s9 (Memref.whole cc0_stg2_0) (Memref.whole cc0_stg3_0) (Memref.whole cc0_scratch0) (Memref.whole cc0_scratch1) (Memref.isWhole_whole _) κ) Q) := by
  iintro ⟨HQ, HK, HV, HO⟩ Hκ
  unfold s9
  sl_exec
  iapply (wp_load_rect (defs := defs₀ (F := F)) Variants.none (c : Thread nD τ) none Set.univ (m := Memref.whole cc0_scratch1) (r := colR 2)
    (S := ((Memref.whole cc0_scratch1).access (colR 2)).set) (q := fullShare) (f := of) (Finset.Subset.refl _)) $$ [HO]
  · iexact HO
  iintro HO
  iapply (wp_store (defs := defs₀ (F := F)) Variants.none (c : Thread nD τ) none Set.univ (m := Memref.whole cc0_scratch1) (r := colR 2)
    (w := colVal (qrel Q0 c) (Kx c) (Vx c) 2) (S := ((Memref.whole cc0_scratch1).access (colR 2)).set) (f := of) (by rw [View.setOn_univ])) $$ [HO]
  · iexact HO
  iintro HO
  ihave HO := (Entails.of_eq (pointsTo_congr (col_lands Q0 Kx Vx c 2 of))) $$ HO
  iapply Hκ
  isplitl [HQ]; · iexact HQ
  isplitl [HK]; · iexact HK
  isplitl [HV]; · iexact HV
  iexact HO

/-- Residue class 3: its rows are stored, the inputs stay. -/
theorem s11_spec (c : Dev nD) {R : Type} {κ : Prog (TpuEff nD τ sig (Elt F) Λ₀ .tc) R} {Q : R → sProp 𝕄}
    (of : cc0_scratch1.ty.Contents (Elt F)) (q2 q3 : PosShare TreeShare) :
    iprop(bufAt c cc0_scratch0 fullShare (qrel Q0 c) ∗ bufAt c cc0_stg2_0 q2 (Kx c) ∗ bufAt c cc0_stg3_0 q3 (Vx c) ∗ colAt c 3 of)
      ⊢ iprop(((bufAt c cc0_scratch0 fullShare (qrel Q0 c) ∗ bufAt c cc0_stg2_0 q2 (Kx c) ∗ bufAt c cc0_stg3_0 q3 (Vx c)
            ∗ colAt c 3 (pout Q0 Kx Vx c))
          -∗ wp frame (wpE (defs₀ (F := F)) Variants.none (c : Thread nD τ) none) Set.univ κ Q)
        -∗ wp frame (wpE (defs₀ (F := F)) Variants.none (c : Thread nD τ) none) Set.univ
          (s11 (Memref.whole cc0_stg2_0) (Memref.whole cc0_stg3_0) (Memref.whole cc0_scratch0) (Memref.whole cc0_scratch1) (Memref.isWhole_whole _) κ) Q) := by
  iintro ⟨HQ, HK, HV, HO⟩ Hκ
  unfold s11
  sl_exec
  iapply (wp_load_rect (defs := defs₀ (F := F)) Variants.none (c : Thread nD τ) none Set.univ (m := Memref.whole cc0_scratch1) (r := colR 3)
    (S := ((Memref.whole cc0_scratch1).access (colR 3)).set) (q := fullShare) (f := of) (Finset.Subset.refl _)) $$ [HO]
  · iexact HO
  iintro HO
  iapply (wp_store (defs := defs₀ (F := F)) Variants.none (c : Thread nD τ) none Set.univ (m := Memref.whole cc0_scratch1) (r := colR 3)
    (w := colVal (qrel Q0 c) (Kx c) (Vx c) 3) (S := ((Memref.whole cc0_scratch1).access (colR 3)).set) (f := of) (by rw [View.setOn_univ])) $$ [HO]
  · iexact HO
  iintro HO
  ihave HO := (Entails.of_eq (pointsTo_congr (col_lands Q0 Kx Vx c 3 of))) $$ HO
  iapply Hκ
  isplitl [HQ]; · iexact HQ
  isplitl [HK]; · iexact HK
  isplitl [HV]; · iexact HV
  iexact HO

theorem x_inb : ∀ a, (![0, 0] : Fin 2 → Nat) a + S256x1024.size a ≤ S256x1024.size a := by decide
theorem wq_inb : ∀ a, (![0, 0] : Fin 2 → Nat) a + S1024x1024.size a ≤ S1024x1024.size a := by decide

theorem x_read (x : Vec F S256x1024 .bf16) :
    (Memref.whole cc0_stg0_0).view.readAt (Elt F) (Rect.unit (s := S256x1024) ![0, 0] S256x1024.size x_inb).toLoadRect x = x :=
  Memref.readAt_unit_zero (Elt F) cc0_stg0_0 (off := ![0, 0]) (by funext a; fin_cases a <;> rfl) x_inb x
theorem wq_read (wq : Vec F S1024x1024 .bf16) :
    (Memref.whole cc0_stg1_0).view.readAt (Elt F) (Rect.unit (s := S1024x1024) ![0, 0] S1024x1024.size wq_inb).toLoadRect wq = wq :=
  Memref.readAt_unit_zero (Elt F) cc0_stg1_0 (off := ![0, 0]) (by funext a; fin_cases a <;> rfl) wq_inb wq

/-- The queries are computed and stored in slot 0. -/
theorem s1_spec (c : Dev nD) {R : Type} {κ : Dev nD → Prog (TpuEff nD τ sig (Elt F) Λ₀ .tc) R} {Q : R → sProp 𝕄}
    (q0 q1 : PosShare TreeShare) (x : Vec F S256x1024 .bf16) (wq : Vec F S1024x1024 .bf16) (f : cc0_scratch0.ty.Contents (Elt F))
    (hQ : Q0 c = k0_pay3 x wq) :
    iprop(bufAt c cc0_stg0_0 q0 x ∗ bufAt c cc0_stg1_0 q1 wq ∗ qAt c 0 fullShare f)
      ⊢ iprop(((bufAt c cc0_stg0_0 q0 x ∗ bufAt c cc0_stg1_0 q1 wq ∗ qAt c 0 fullShare (qrel Q0 c))
          -∗ wp frame (wpE (defs₀ (F := F)) Variants.none (c : Thread nD τ) none) Set.univ (κ c) Q)
        -∗ wp frame (wpE (defs₀ (F := F)) Variants.none (c : Thread nD τ) none) Set.univ
          (s1 (Memref.whole cc0_stg0_0) (Memref.whole cc0_stg1_0) (Memref.whole cc0_scratch0) (Memref.isWhole_whole _) κ) Q) := by
  generalize hP : (qAt c 0 fullShare f : sProp 𝕄) = P
  iintro ⟨HX, HW, HQ⟩ Hκ
  unfold s1
  sl_exec
  rw [x_read, wq_read]
  simp only [Prog.lift, Prog.bind_op, Prog.bind_ret]
  subst hP
  iapply (wp_load_rect (defs := defs₀ (F := F)) Variants.none (c : Thread nD τ) none Set.univ (m := Memref.whole cc0_scratch0)
    (r := Rect.unit (s := S4x256x1024) ![(0 : Fin 4).val, 0, 0] S1x256x1024.size (qs_inb 0))
    (S := (qSlot 0).view.set) (q := fullShare) (f := f) (Memref.set_view_squeeze _ _).symm.subset) $$ [HQ]
  · iexact HQ
  iintro HQ
  iapply (wp_store (defs := defs₀ (F := F)) Variants.none (c : Thread nD τ) none Set.univ (m := Memref.whole cc0_scratch0)
    (r := Rect.unit (s := S4x256x1024) ![(0 : Fin 4).val, 0, 0] S1x256x1024.size (qs_inb 0))
    (w := k0_pay3 x wq) (S := (qSlot 0).view.set) (f := f) (by rw [View.setOn_univ]; exact (Memref.set_view_squeeze _ _).symm.subset)) $$ [HQ]
  · iexact HQ
  iintro HQ
  have hs := q_stored Q0 c f
  rw [hQ] at hs
  ihave HQ := (Entails.of_eq (pointsTo_congr hs)) $$ HQ
  iapply Hκ
  isplitl [HX]; · iexact HX
  isplitl [HW]; · iexact HW
  iexact HQ

end Cert.KernelIdeal
-- ==== Proof.Comm.lean ====
/- One operation of the protocol at a time: a signal of the barrier, a copy in a channel, a wait. Each is stated from what the device holds
   before it to what it holds after. -/
module

public import proofs.«01_k».proof.Proof.Geometry

@[expose] public section

set_option maxRecDepth 65536
set_option maxHeartbeats 1000000

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Ix (Elt F) ℕ UU ℕ

/-! ## What every device knows -/

/-- The cells that the kernel call owns on a device: a direction, a peer, a channel. -/
abbrev Sx : Type := Fin 2 × Fin 3 × Fin 5
abbrev skd (s : Sx) : Kd := if s.1 = 0 then .snd s.2.1 s.2.2 else .rcv s.2.1 s.2.2
/-- These and the barrier. -/
abbrev okd : Option Sx → Kd
  | none => .bar
  | some s => skd s

section Know

variable (Q0 : Dev nD → Vec F S1x256x1024 .bf16) (Kx Vx : Dev nD → Vec F S4x8x1024x128 .bf16)

/-- Every cell of the protocol runs by the schedule. -/
def Inv (K : GSem nD τ sig → ℕ) : sProp 𝕄 :=
  bigSep Finset.univ fun p : Dev nD × Option Sx => cellInv ER (rd Q0 Kx Vx) (K (cell p.1 (okd p.2))) (cell p.1 (okd p.2))
/-- That, and the levels of the cells. -/
def Env (K : GSem nD τ sig → ℕ) : sProp 𝕄 := iprop(levAts L lv ∗ Inv Q0 Kx Vx K)

instance Inv_persistent (K : GSem nD τ sig → ℕ) : BI.Persistent (Inv Q0 Kx Vx K) := by unfold Inv; infer_instance
instance Env_persistent (K : GSem nD τ sig → ℕ) : BI.Persistent (Env Q0 Kx Vx K) := by unfold Env; infer_instance

theorem okd_onto : (x : Kd) → x ≠ .other → ∃ o, okd o = x
  | .bar, _ => ⟨none, rfl⟩
  | .snd k ch, _ => ⟨some (0, k, ch), rfl⟩
  | .rcv k ch, _ => ⟨some (1, k, ch), rfl⟩
  | .other, h => absurd rfl h

theorem Env_at (K : GSem nD τ sig → ℕ) (c : Dev nD) (x : Kd) (hx : x ≠ .other) :
    (Env Q0 Kx Vx K : sProp 𝕄) ⊢ cellInv ER (rd Q0 Kx Vx) (K (cell c x)) (cell c x) := by
  obtain ⟨o, rfl⟩ := okd_onto x hx
  unfold Env Inv
  exact sep_elim_right.trans (bigSep_elim (Finset.mem_univ ((c, o) : Dev nD × Option Sx)))

theorem Env_lev (K : GSem nD τ sig → ℕ) : (Env Q0 Kx Vx K : sProp 𝕄) ⊢ levAts L lv := by unfold Env; exact sep_elim_left

end Know

/-! ## What a device holds for a channel -/

/-- To send to the `k`-th other device: the duties at both ends, and that both cells are open. -/
def tick (c : Dev nD) (k : Fin 3) (ch : Fin 5) : sProp 𝕄 :=
  iprop(dutyTok ER (cell c (.snd k ch)) 0 (0, 0) ∗ reached ER (cell c (.snd k ch)) 0
    ∗ dutyTok ER (cell (peer c k) (.rcv k ch)) 0 (0, 0) ∗ reached ER (cell (peer c k) (.rcv k ch)) 0)
/-- To wait for the copy sent: the position on its cell, and the credit the copy gave. -/
def wsnd (c : Dev nD) (k : Fin 3) (ch : Fin 5) : sProp 𝕄 :=
  iprop(atPos ER (cell c (.snd k ch)) 0 ∅ 0 ∗ cred (tallyAt (cell c (.snd k ch)) 0 (amtC ch)))
/-- To wait for the copy arriving: the same. -/
def wrcv (c : Dev nD) (k : Fin 3) (ch : Fin 5) : sProp 𝕄 :=
  iprop(atPos ER (cell c (.rcv k ch)) 0 ∅ 0 ∗ cred (tallyAt (cell c (.rcv k ch)) 0 (amtC ch)))

/-- Something for each of the three other devices. -/
abbrev three (P : Fin 3 → sProp 𝕄) : sProp 𝕄 := iprop(P 0 ∗ P 1 ∗ P 2)

/-! ## The operations -/

section Ops

variable (Q0 : Dev nD → Vec F S1x256x1024 .bf16) (Kx Vx : Dev nD → Vec F S4x8x1024x128 .bf16)

/-- What a copy credits does not depend on the slot. -/
theorem q_credit (u : Fin 4) : (qSlot u).view.dmaCredit = NQ := by revert u; decide
theorem p_credit (u r : Fin 4) : (iSlot u r).view.dmaCredit = NP := by revert u r; decide
theorem o_credit (u r : Fin 4) : (oSlot u r).view.dmaCredit = NP := by revert u r; decide

/-- The queries go to the `k`-th other device. -/
theorem send_q (K : GSem nD τ sig → ℕ) (c : Dev nD) (k : Fin 3) {d : Dev nD} (hd : d = peer c k)
    {hsc : (qSlot (dstSlot k)).view.ref.isScScratch = false} {hsrc : (qSlot 0).view.WordExact} {hdst : (qSlot (dstSlot k)).view.WordExact}
    {hsem : DmaTarget.Typed .vmem (.dma (qrS k)) (.remote (d : Thread nD τ) (qSlot (dstSlot k)) (.dma (qsS k)) hsc)}
    {R : Type} {κ : PUnit → Prog (TpuEff nD τ sig (Elt F) Λ₀ .tc) R} {Q : R → sProp 𝕄}
    (O : CellTallies nD τ sig Ix) (W : Waits sig Ix) (fd : cc0_scratch0.ty.Contents (Elt F)) :
    iprop(Env Q0 Kx Vx K ∗ qAt c 0 (Transfers.shareTok fullShare 3 k) (qrel Q0 c) ∗ qAt (peer c k) (dstSlot k) fullShare fd
        ∗ owes (c : Thread nD τ) (O + tallyAt (cell (peer c k) (.rcv k 0)) 0 (amtC 0)) W ∗ tick c k 0)
      ⊢ iprop(((cred (tallyAt (cell c (.snd k 0)) 0 (amtC 0)) ∗ owes (c : Thread nD τ) O W)
          -∗ wp frame (wpE (defs₀ (F := F)) Variants.none (c : Thread nD τ) none) Set.univ (κ ⟨⟩) Q)
        -∗ wp frame (wpE (defs₀ (F := F)) Variants.none (c : Thread nD τ) none) Set.univ
          (.op (.enqueueDma (qSlot 0) (.remote (d : Thread nD τ) (qSlot (dstSlot k)) (.dma (qsS k)) hsc) (.dma (qrS k)) hsrc hdst hsem) κ) Q) := by
  subst hd
  unfold tick
  iintro ⟨#HE, Hs, Hd, HO, Ht, #Hr, Ht', #Hr'⟩ Hk
  iapply (Rounds.wp_send_pointsTo Variants.none ER (rd Q0 Kx Vx) (c : Thread nD τ) none (c' := (peer c k : Thread nD τ))
      (src := qSlot 0) (dst := qSlot (dstSlot k)) (sS := .dma (qsS k)) (sem := .dma (qrS k))
      (q := Transfers.shareTok fullShare 3 k) (fs := qrel Q0 c) (κ₁ := K (cell c (.snd k 0))) (κ₂ := K (cell (peer c k) (.rcv k 0)))
      (r₁ := 0) (r₂ := 0) (d₁ := (0, 0)) (d₂ := (0, 0)) (fd := fd)
      (by rw [show (((c : Thread nD τ), SemLoc.dma (qsS k)) : GSem nD τ sig) = cell c (.snd k 0) from rfl, duties_cell]; exact Finset.mem_singleton_self _)
      (by rw [show (((peer c k : Thread nD τ), SemLoc.dma (qrS k)) : GSem nD τ sig) = cell (peer c k) (.rcv k 0) from rfl, duties_cell]
          exact Finset.mem_singleton_self _)
      0 0 (amtC 0) (q_credit (dstSlot k)) (amount_cell Q0 Kx Vx c (.snd k 0) (0, 0)) (amount_cell Q0 Kx Vx (peer c k) (.rcv k 0) (0, 0)) O rfl (W := W)
      (by rw [show (((c : Thread nD τ), SemLoc.dma (qsS k)) : GSem nD τ sig) = cell c (.snd k 0) from rfl, payload_cell]; exact BI.Entails.refl _)
      (by rw [show (((peer c k : Thread nD τ), SemLoc.dma (qrS k)) : GSem nD τ sig) = cell (peer c k) (.rcv k 0) from rfl, payload_cell]
          exact Entails.of_eq (pointsTo_congr (q_lands Q0 c k fd)))) $$ [Hs Hd HO Ht Ht']
  · isplitr; · iapply (Env_at Q0 Kx Vx K c (.snd k 0) (fun h => by cases h)); iexact HE
    isplitr; · iapply (Env_at Q0 Kx Vx K (peer c k) (.rcv k 0) (fun h => by cases h)); iexact HE
    isplitl [Hs]; · iexact Hs
    isplitl [Hd]; · iexact Hd
    isplitl [HO]; · iexact HO
    isplitl [Ht]; · iexact Ht
    isplitr; · iexact Hr
    isplitl [Ht']; · iexact Ht'
    iexact Hr'
  iexact Hk

/-- A block of rows of residue class `r` goes to the `k`-th other device. -/
theorem send_p (K : GSem nD τ sig → ℕ) (c : Dev nD) (k : Fin 3) (r : Fin 4) {d : Dev nD} (hd : d = peer c k)
    {hsc : (iSlot (dstSlot k) r).view.ref.isScScratch = false} {hsrc : (oSlot (srcSlot k) r).view.WordExact}
    {hdst : (iSlot (dstSlot k) r).view.WordExact}
    {hsem : DmaTarget.Typed .vmem (.dma (prS k r)) (.remote (d : Thread nD τ) (iSlot (dstSlot k) r) (.dma (psS k r)) hsc)}
    {R : Type} {κ : PUnit → Prog (TpuEff nD τ sig (Elt F) Λ₀ .tc) R} {Q : R → sProp 𝕄}
    (O : CellTallies nD τ sig Ix) (W : Waits sig Ix) (fd : cc0_scratch2.ty.Contents (Elt F)) :
    iprop(Env Q0 Kx Vx K ∗ oAt c (srcSlot k) r (pout Q0 Kx Vx c) ∗ iAt (peer c k) (dstSlot k) r fd
        ∗ owes (c : Thread nD τ) (O + tallyAt (cell (peer c k) (.rcv k r.succ)) 0 (amtC r.succ)) W ∗ tick c k r.succ)
      ⊢ iprop(((cred (tallyAt (cell c (.snd k r.succ)) 0 (amtC r.succ)) ∗ owes (c : Thread nD τ) O W)
          -∗ wp frame (wpE (defs₀ (F := F)) Variants.none (c : Thread nD τ) none) Set.univ (κ ⟨⟩) Q)
        -∗ wp frame (wpE (defs₀ (F := F)) Variants.none (c : Thread nD τ) none) Set.univ
          (.op (.enqueueDma (oSlot (srcSlot k) r) (.remote (d : Thread nD τ) (iSlot (dstSlot k) r) (.dma (psS k r)) hsc) (.dma (prS k r)) hsrc hdst hsem) κ) Q) := by
  subst hd
  unfold tick
  iintro ⟨#HE, Hs, Hd, HO, Ht, #Hr, Ht', #Hr'⟩ Hk
  iapply (Rounds.wp_send_pointsTo Variants.none ER (rd Q0 Kx Vx) (c : Thread nD τ) none (c' := (peer c k : Thread nD τ))
      (src := oSlot (srcSlot k) r) (dst := iSlot (dstSlot k) r) (sS := .dma (psS k r)) (sem := .dma (prS k r))
      (q := fullShare) (fs := pout Q0 Kx Vx c) (κ₁ := K (cell c (.snd k r.succ))) (κ₂ := K (cell (peer c k) (.rcv k r.succ)))
      (r₁ := 0) (r₂ := 0) (d₁ := (0, 0)) (d₂ := (0, 0)) (fd := fd)
      (by rw [show (((c : Thread nD τ), SemLoc.dma (psS k r)) : GSem nD τ sig) = cell c (.snd k r.succ) from rfl, duties_cell]; exact Finset.mem_singleton_self _)
      (by rw [show (((peer c k : Thread nD τ), SemLoc.dma (prS k r)) : GSem nD τ sig) = cell (peer c k) (.rcv k r.succ) from rfl, duties_cell]
          exact Finset.mem_singleton_self _)
      0 0 (amtC r.succ) (p_credit (dstSlot k) r) (amount_cell Q0 Kx Vx c (.snd k r.succ) (0, 0)) (amount_cell Q0 Kx Vx (peer c k) (.rcv k r.succ) (0, 0)) O rfl (W := W)
      (by rw [show (((c : Thread nD τ), SemLoc.dma (psS k r)) : GSem nD τ sig) = cell c (.snd k r.succ) from rfl, payload_cell]; exact BI.Entails.refl _)
      (by rw [show (((peer c k : Thread nD τ), SemLoc.dma (prS k r)) : GSem nD τ sig) = cell (peer c k) (.rcv k r.succ) from rfl, payload_cell]
          exact Entails.of_eq (pointsTo_congr (p_lands Q0 Kx Vx c k r fd)))) $$ [Hs Hd HO Ht Ht']
  · isplitr; · iapply (Env_at Q0 Kx Vx K c (.snd k r.succ) (fun h => by cases h)); iexact HE
    isplitr; · iapply (Env_at Q0 Kx Vx K (peer c k) (.rcv k r.succ) (fun h => by cases h)); iexact HE
    isplitl [Hs]; · iexact Hs
    isplitl [Hd]; · iexact Hd
    isplitl [HO]; · iexact HO
    isplitl [Ht]; · iexact Ht
    isplitr; · iexact Hr
    isplitl [Ht']; · iexact Ht'
    iexact Hr'
  iexact Hk

/-- A wait for the whole of a cell of one duty: its payload, and the cell closed at zero. -/
theorem wait_one (K : GSem nD τ sig → ℕ) (c : Dev nD) (x : Kd) (hx : dutyOf x = {(0, 0)}) (hxo : x ≠ .other)
    {sem : DmaSem sig} (hs : SemLoc.dma sem = sloc x) {sp sp' : Space} {s s' : Shape} {e e' : EltTy}
    {src : Memref sig .tc sp' s' e'} {dst : Memref sig .tc sp s e} (hN : dst.view.dmaCredit = amt x)
    {h₁ : src.view.WordExact} {h₂ : dst.view.WordExact}
    {R : Type} {κ : PUnit → Prog (TpuEff nD τ sig (Elt F) Λ₀ .tc) R} {Q : R → sProp 𝕄}
    {O : CellTallies nD τ sig Ix} {b : ℕ} (hO : Above b O) (hb : lvOf x 0 ≤ b) :
    iprop(Env Q0 Kx Vx K ∗ (atPos ER (cell c x) 0 ∅ 0 ∗ cred (tallyAt (cell c x) 0 (amt x))) ∗ ∃ W, owes (c : Thread nD τ) O W)
      ⊢ iprop(((pay Q0 Kx Vx c x (0, 0) ∗ semVal (cell c x) 0 ∗ ∃ W, owes (c : Thread nD τ) O W)
          -∗ wp frame (wpE (defs₀ (F := F)) Variants.none (c : Thread nD τ) none) Set.univ (κ ⟨⟩) Q)
        -∗ wp frame (wpE (defs₀ (F := F)) Variants.none (c : Thread nD τ) none) Set.univ (.op (.waitDma2 sem src dst h₁ h₂) κ) Q) := by
  iintro ⟨#HE, ⟨Hat, Hc⟩, ⟨%W, HO⟩⟩ Hk
  rw [← hN]
  iapply (Rounds.wp_wait_rest_token Variants.none ER (rd Q0 Kx Vx) (c : Thread nD τ) none (sm := SemLoc.dma sem) (κ := K (cell c x))
      (wpE_waitDma2_eq (src := src) (dst := dst) Variants.none (c : Thread nD τ) none Set.univ) (Set.mem_univ _) 0 (O := O) (W := W) (R := 0) (m := 0) (T := ∅)
      (by rw [hs, expect_one Q0 Kx Vx c x hx, Nat.zero_add]; exact hN)) $$ [Hat Hc HO]
  · rw [hs]
    isplitr; · iapply (Env_at Q0 Kx Vx K c x hxo); iexact HE
    isplitl [Hc]; · iexact Hc
    isplitl [HO]; · iexact HO
    isplitr; · iapply (mayWait c x 0 hO hb); iapply (Env_lev Q0 Kx Vx K); iexact HE
    iexact Hat
  rw [hs, rest_one Q0 Kx Vx c x hx]
  iintro ⟨HO, Hat, -, Hp⟩
  imod (Rounds.cell_close ER (rd Q0 Kx Vx) (κ := K (cell c x)) (Set.mem_univ _) id (duties_later Q0 Kx Vx (cell c x))) $$ [Hat] with H0
  · isplitr; · iapply (Env_at Q0 Kx Vx K c x hxo); iexact HE
    iexact Hat
  iapply Hk
  isplitl [Hp]; · iexact Hp
  isplitl [H0]; · iexact H0
  iexists _; iexact HO

end Ops

end Cert.KernelIdeal
-- ==== Proof.Talk.lean ====
/- The stretches that talk: the two rounds of the barrier, the copies of the queries and of the blocks of rows, and the waits for them. -/
module

public import proofs.«01_k».proof.Proof.Cut
public import proofs.«01_k».proof.Proof.Comm
public import Idealize.ShloMosaic.Lib.Pipeline.Value

@[expose] public section

set_option maxRecDepth 65536
set_option maxHeartbeats 2000000

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Ix (Elt F) ℕ UU ℕ

/-! ## The devices the body names -/

theorem dev_left (c : Dev nD) (h : k0_dev1 c < nD) : (⟨k0_dev1 c, h⟩ : Dev nD) = peer c 2 := Fin.ext (by revert c; decide)
theorem dev_right (c : Dev nD) (h : k0_dev2 c < nD) : (⟨k0_dev2 c, h⟩ : Dev nD) = peer c 0 := Fin.ext (by revert c; decide)
theorem dev_across (c : Dev nD) (h : k0_dev3 c < nD) : (⟨k0_dev3 c, h⟩ : Dev nD) = peer c 1 := Fin.ext (by revert c; decide)
theorem dev_left' (c : Dev nD) (h : k0_dev4 c < nD) : (⟨k0_dev4 c, h⟩ : Dev nD) = peer c 2 := Fin.ext (by revert c; decide)
theorem dev_right' (c : Dev nD) (h : k0_dev5 c < nD) : (⟨k0_dev5 c, h⟩ : Dev nD) = peer c 0 := Fin.ext (by revert c; decide)
theorem dev_across' (c : Dev nD) (h : k0_dev6 c < nD) : (⟨k0_dev6 c, h⟩ : Dev nD) = peer c 1 := Fin.ext (by revert c; decide)
theorem dev_q0 (c : Dev nD) (h : k0_dev7 c < nD) : (⟨k0_dev7 c, h⟩ : Dev nD) = peer c 0 := Fin.ext (by revert c; decide)
theorem dev_q1 (c : Dev nD) (h : k0_dev8 c < nD) : (⟨k0_dev8 c, h⟩ : Dev nD) = peer c 1 := Fin.ext (by revert c; decide)
theorem dev_q2 (c : Dev nD) (h : k0_dev9 c < nD) : (⟨k0_dev9 c, h⟩ : Dev nD) = peer c 2 := Fin.ext (by revert c; decide)

theorem dev_p00 (c : Dev nD) (h : k0_dev10 c < nD) : (⟨k0_dev10 c, h⟩ : Dev nD) = peer c 0 := Fin.ext (by revert c; decide)
theorem dev_p10 (c : Dev nD) (h : k0_dev11 c < nD) : (⟨k0_dev11 c, h⟩ : Dev nD) = peer c 1 := Fin.ext (by revert c; decide)
theorem dev_p20 (c : Dev nD) (h : k0_dev12 c < nD) : (⟨k0_dev12 c, h⟩ : Dev nD) = peer c 2 := Fin.ext (by revert c; decide)
theorem dev_p01 (c : Dev nD) (h : k0_dev13 c < nD) : (⟨k0_dev13 c, h⟩ : Dev nD) = peer c 0 := Fin.ext (by revert c; decide)
theorem dev_p11 (c : Dev nD) (h : k0_dev14 c < nD) : (⟨k0_dev14 c, h⟩ : Dev nD) = peer c 1 := Fin.ext (by revert c; decide)
theorem dev_p21 (c : Dev nD) (h : k0_dev15 c < nD) : (⟨k0_dev15 c, h⟩ : Dev nD) = peer c 2 := Fin.ext (by revert c; decide)
theorem dev_p02 (c : Dev nD) (h : k0_dev16 c < nD) : (⟨k0_dev16 c, h⟩ : Dev nD) = peer c 0 := Fin.ext (by revert c; decide)
theorem dev_p12 (c : Dev nD) (h : k0_dev17 c < nD) : (⟨k0_dev17 c, h⟩ : Dev nD) = peer c 1 := Fin.ext (by revert c; decide)
theorem dev_p22 (c : Dev nD) (h : k0_dev18 c < nD) : (⟨k0_dev18 c, h⟩ : Dev nD) = peer c 2 := Fin.ext (by revert c; decide)
theorem dev_p03 (c : Dev nD) (h : k0_dev19 c < nD) : (⟨k0_dev19 c, h⟩ : Dev nD) = peer c 0 := Fin.ext (by revert c; decide)
theorem dev_p13 (c : Dev nD) (h : k0_dev20 c < nD) : (⟨k0_dev20 c, h⟩ : Dev nD) = peer c 1 := Fin.ext (by revert c; decide)
theorem dev_p23 (c : Dev nD) (h : k0_dev21 c < nD) : (⟨k0_dev21 c, h⟩ : Dev nD) = peer c 2 := Fin.ext (by revert c; decide)

section Talk

variable (Q0 : Dev nD → Vec F S1x256x1024 .bf16) (Kx Vx : Dev nD → Vec F S4x8x1024x128 .bf16)

/-! ## The barrier -/

/-- A device tells its `k`-th other device, in round `t` of the barrier. -/
theorem signal_one (K : GSem nD τ sig → ℕ) (c : Dev nD) (k : Fin 3) (t : Fin 2) {d : Dev nD} (hd : d = peer c k)
    {R : Type} {κ : PUnit → Prog (TpuEff nD τ sig (Elt F) Λ₀ .tc) R} {Q : R → sProp 𝕄}
    (O : CellTallies nD τ sig Ix) (W : Waits sig Ix) :
    iprop(Env Q0 Kx Vx K ∗ dutyTok ER (cell (peer c k) .bar) 0 (t, k.rev) ∗ reached ER (cell (peer c k) .bar) 0
        ∗ pay Q0 Kx Vx (peer c k) .bar (t, k.rev) ∗ owes (c : Thread nD τ) (O + tallyAt (cell (peer c k) .bar) t 1) W)
      ⊢ iprop((owes (c : Thread nD τ) O W
          -∗ wp frame (wpE (defs₀ (F := F)) Variants.none (c : Thread nD τ) none) Set.univ (κ ⟨⟩) Q)
        -∗ wp frame (wpE (defs₀ (F := F)) Variants.none (c : Thread nD τ) none) Set.univ
          (.op (.semSignal (d : Thread nD τ) barS ((1 : ℕ) : ℤ)) κ) Q) := by
  subst hd
  iintro ⟨#HE, Ht, #Hr, Hp, HO⟩ Hk
  iapply (Rounds.wp_signal Variants.none ER (rd Q0 Kx Vx) (c : Thread nD τ) none (dst := (peer c k : Thread nD τ)) (sem := barS) (r := 0)
      (d := (t, k.rev)) (κ := K (cell (peer c k) .bar))
      (by rw [show (((peer c k : Thread nD τ), SemLoc.reg barS) : GSem nD τ sig) = cell (peer c k) .bar from rfl, duties_cell]; exact Finset.mem_univ _)
      (amount_cell Q0 Kx Vx (peer c k) .bar (t, k.rev)) t O rfl) $$ [Ht Hp HO]
  · isplitr; · iapply (Env_at Q0 Kx Vx K (peer c k) .bar (fun h => by cases h)); iexact HE
    isplitl [HO]; · iexact HO
    isplitl [Ht]; · iexact Ht
    isplitl [Hp]
    · rw [show (((peer c k : Thread nD τ), SemLoc.reg barS) : GSem nD τ sig) = cell (peer c k) .bar from rfl, payload_cell]; iexact Hp
    iexact Hr
  iexact Hk

/-- What a device hands over in the first round is its own slots. -/
theorem pay_bar (c : Dev nD) (k : Fin 3) : (pay Q0 Kx Vx (peer c k) .bar (0, k.rev) : sProp 𝕄)
    = iprop((∃ f, qAt c (dstSlot k.rev) fullShare f) ∗ (bigSep Finset.univ fun r : Fin 4 => iprop(∃ f, iAt (F := F) c (dstSlot k.rev) r f))
      ∗ bigSep Finset.univ fun ch : Fin 5 => reached ER (cell c (.rcv k.rev ch)) 0) := by
  show barPay (peer c k) k.rev = _
  unfold barPay
  rw [peer_rev]

/-- The second round hands over nothing. -/
theorem pay_free (c : Dev nD) (k : Fin 3) : (iprop(emp) : sProp 𝕄) ⊢ pay Q0 Kx Vx c .bar (1, k) := Entails.refl _

/-- All six payloads of the barrier are the three of its first round. -/
theorem pays_bar (c : Dev nD) (S : Finset D) :
    iprop(bigSep (S \ ∅) (fun d => pay Q0 Kx Vx c .bar d) ∗ bigSep (Finset.univ \ S) (fun d => pay Q0 Kx Vx c .bar d))
      ⊢ (three fun k => barPay (F := F) c k : sProp 𝕄) := by
  rw [Finset.sdiff_empty]
  refine (Entails.of_eq (bigSep_sdiff_split (Finset.subset_univ S) (Φ := fun d => pay Q0 Kx Vx c .bar d)).symm).trans ?_
  rw [
    bigSep_univ_eq_bigSepL [((0, 0) : D), (0, 1), (0, 2), (1, 0), (1, 1), (1, 2)] (by decide) (by decide)]
  show iprop(barPay (F := F) c 0 ∗ barPay (F := F) c 1 ∗ barPay (F := F) c 2
    ∗ bigSepL [((1, 0) : D), (1, 1), (1, 2)] fun d => pay Q0 Kx Vx c .bar d) ⊢ _
  iintro ⟨H0, H1, H2, -⟩
  isplitl [H0]; · iexact H0
  isplitl [H1]; · iexact H1
  iexact H2

/-- The barrier's payloads by name. -/
theorem pays_named (c : Dev nD) (S : Finset D) :
    (bigSep S (fun d => (rd Q0 Kx Vx).payload ((c : Thread nD τ), SemLoc.reg barS) 0 d) : sProp 𝕄) ⊢ bigSep S (fun d => pay Q0 Kx Vx c .bar d) :=
  Entails.of_eq (congrArg (bigSep S) (funext fun d => payload_cell Q0 Kx Vx c .bar d))

/-- Those still to come, by name. -/
theorem pays_rest (c : Dev nD) (S : Finset D) :
    (bigSep ((rd Q0 Kx Vx).duties ((c : Thread nD τ), SemLoc.reg barS) 0 \ S)
        (fun d => (rd Q0 Kx Vx).payload ((c : Thread nD τ), SemLoc.reg barS) 0 d) : sProp 𝕄) ⊢ bigSep (Finset.univ \ S) (fun d => pay Q0 Kx Vx c .bar d) := by
  have h : (rd Q0 Kx Vx).duties ((c : Thread nD τ), SemLoc.reg barS) 0 = Finset.univ := duties_cell Q0 Kx Vx c .bar
  rw [h]
  exact pays_named Q0 Kx Vx c _

/-- The barrier: what the device gave the others it has from them. -/
theorem s2_spec (K : GSem nD τ sig → ℕ) (c : Dev nD) {R : Type} {κ : Prog (TpuEff nD τ sig (Elt F) Λ₀ .tc) R} {Q : R → sProp 𝕄}
    {O : CellTallies nD τ sig Ix} (hO : Above 2 O) :
    iprop(Env Q0 Kx Vx K
        ∗ (three fun k => iprop(dutyTok ER (cell (peer c k) .bar) 0 (0, k.rev) ∗ dutyTok ER (cell (peer c k) .bar) 0 (1, k.rev)
            ∗ reached ER (cell (peer c k) .bar) 0 ∗ pay Q0 Kx Vx (peer c k) .bar (0, k.rev)))
        ∗ cred (tallyAt (cell c .bar) 0 3) ∗ cred (tallyAt (cell c .bar) 1 3) ∗ atPos ER (cell c .bar) 0 ∅ 0
        ∗ ∃ W, owes (c : Thread nD τ) (oB c 0 (oB c 1 O)) W)
      ⊢ iprop((((three fun k => barPay (F := F) c k) ∗ semVal (cell c .bar) 0 ∗ ∃ W, owes (c : Thread nD τ) O W)
          -∗ wp frame (wpE (defs₀ (F := F)) Variants.none (c : Thread nD τ) none) Set.univ κ Q)
        -∗ wp frame (wpE (defs₀ (F := F)) Variants.none (c : Thread nD τ) none) Set.univ (s2 c κ) Q) := by
  unfold s2
  simp only [semSignalWord, semWaitWord, Prog.lift, Prog.bind_op, Prog.bind_ret]
  iintro ⟨#HE, ⟨⟨T00, T01, #R0, P0⟩, ⟨T10, T11, #R1, P1⟩, ⟨T20, T21, #R2, P2⟩⟩, C0, C1, Hat, ⟨%W, HO⟩⟩ Hk
  iapply (signal_one Q0 Kx Vx K c 2 0 (dev_left c _) (oB c 1 O + tallyAt (cell (peer c 1) .bar) 0 1 + tallyAt (cell (peer c 0) .bar) 0 1) W) $$ [HO T20 P2]
  · isplitr; · iexact HE
    isplitl [T20]; · iexact T20
    isplitr; · iexact R2
    isplitl [P2]; · iexact P2
    iexact HO
  iintro HO
  iapply (signal_one Q0 Kx Vx K c 0 0 (dev_right c _) (oB c 1 O + tallyAt (cell (peer c 1) .bar) 0 1) W) $$ [HO T00 P0]
  · isplitr; · iexact HE
    isplitl [T00]; · iexact T00
    isplitr; · iexact R0
    isplitl [P0]; · iexact P0
    iexact HO
  iintro HO
  iapply (signal_one Q0 Kx Vx K c 1 0 (dev_across c _) (oB c 1 O) W) $$ [HO T10 P1]
  · isplitr; · iexact HE
    isplitl [T10]; · iexact T10
    isplitr; · iexact R1
    isplitl [P1]; · iexact P1
    iexact HO
  iintro HO
  iapply (Rounds.wp_wait Variants.none ER (rd Q0 Kx Vx) (c : Thread nD τ) none (sm := SemLoc.reg barS) (k' := 3) (κ := K (cell c .bar))
      (wpE_semWait_eq Variants.none (c : Thread nD τ) none Set.univ) (Set.mem_univ _) (cr := Finsupp.single 0 3) (O := oB c 1 O) (W := W)
      {(SemLoc.reg barS, 0)} (R := 0) (m := 0) (T := ∅) (Util.total_single _ _) (image_single_subset (SemLoc.reg barS) 0 3)) $$ [C0 HO Hat]
  · isplitr; · iapply (Env_at Q0 Kx Vx K c .bar (fun h => by cases h)); iexact HE
    isplitl [C0]; · iexact C0
    isplitl [HO]; · iexact HO
    isplitr; · iapply (mayWait c .bar 0 ((show Above 1 O from fun g i h => ⟨(hO g i h).1, Nat.lt_trans (Nat.lt_succ_self 1) (hO g i h).2⟩).oB c 1 (by decide)) (le_refl 1)); iapply (Env_lev Q0 Kx Vx K); iexact HE
    iexact Hat
  iintro %S ⟨%hS, HO, Hat, Hp⟩
  iapply (signal_one Q0 Kx Vx K c 2 1 (dev_left' c _) (O + tallyAt (cell (peer c 1) .bar) 1 1 + tallyAt (cell (peer c 0) .bar) 1 1) _) $$ [HO T21]
  · isplitr; · iexact HE
    isplitl [T21]; · iexact T21
    isplitr; · iexact R2
    isplitr; · iapply (pay_free Q0 Kx Vx _ _); iempintro
    iexact HO
  iintro HO
  iapply (signal_one Q0 Kx Vx K c 0 1 (dev_right' c _) (O + tallyAt (cell (peer c 1) .bar) 1 1) _) $$ [HO T01]
  · isplitr; · iexact HE
    isplitl [T01]; · iexact T01
    isplitr; · iexact R0
    isplitr; · iapply (pay_free Q0 Kx Vx _ _); iempintro
    iexact HO
  iintro HO
  iapply (signal_one Q0 Kx Vx K c 1 1 (dev_across' c _) O _) $$ [HO T11]
  · isplitr; · iexact HE
    isplitl [T11]; · iexact T11
    isplitr; · iexact R1
    isplitr; · iapply (pay_free Q0 Kx Vx _ _); iempintro
    iexact HO
  iintro HO
  iapply (Rounds.wp_wait_rest Variants.none ER (rd Q0 Kx Vx) (c : Thread nD τ) none (sm := SemLoc.reg barS) (k' := 3) (κ := K (cell c .bar))
      (wpE_semWait_eq Variants.none (c : Thread nD τ) none Set.univ) (Set.mem_univ _) (cr := Finsupp.single 1 3) (O := O)
      {(SemLoc.reg barS, 1)} (R := 0) (m := 0 + 3) (T := S) (by rw [show (((c : Thread nD τ), SemLoc.reg barS) : GSem nD τ sig) = cell c .bar from rfl, expect_bar])
      (Util.total_single _ _) (image_single_subset (SemLoc.reg barS) 1 3)) $$ [C1 HO Hat]
  · isplitr; · iapply (Env_at Q0 Kx Vx K c .bar (fun h => by cases h)); iexact HE
    isplitl [C1]; · iexact C1
    isplitl [HO]; · iexact HO
    isplitr; · iapply (mayWait c .bar 1 hO (le_refl 2)); iapply (Env_lev Q0 Kx Vx K); iexact HE
    iexact Hat
  iintro ⟨HO, Hat, -, Hp'⟩
  imod (Rounds.cell_close ER (rd Q0 Kx Vx) (κ := K (cell c .bar)) (Set.mem_univ _) id (duties_later Q0 Kx Vx (cell c .bar))) $$ [Hat] with H0
  · isplitr; · iapply (Env_at Q0 Kx Vx K c .bar (fun h => by cases h)); iexact HE
    iexact Hat
  iapply Hk
  isplitl [Hp Hp']
  · iapply (pays_bar Q0 Kx Vx c S)
    isplitl [Hp]
    · ihave Hq := (pays_named Q0 Kx Vx c (S \ ∅)) $$ Hp; iexact Hq
    · ihave Hq := (pays_rest Q0 Kx Vx c S) $$ Hp'; iexact Hq
  isplitl [H0]; · iexact H0
  iexists _; iexact HO

/-! ## The queries go out, and come in -/

/-- The queries are sent to the three others: three shares of them go, the landing slots go. -/
theorem s3_spec (K : GSem nD τ sig → ℕ) (c : Dev nD) {R : Type} {κ : Prog (TpuEff nD τ sig (Elt F) Λ₀ .tc) R} {Q : R → sProp 𝕄}
    {O : CellTallies nD τ sig Ix} :
    iprop(Env Q0 Kx Vx K ∗ (three fun k => qAt c 0 (Transfers.shareTok fullShare 3 k) (qrel Q0 c))
        ∗ (three fun k => iprop(∃ f, qAt (F := F) (peer c k) (dstSlot k) fullShare f)) ∗ (three fun k => tick c k 0)
        ∗ ∃ W, owes (c : Thread nD τ) (oC c 0 O) W)
      ⊢ iprop((((three fun k => cred (tallyAt (cell c (.snd k 0)) 0 (amtC 0))) ∗ ∃ W, owes (c : Thread nD τ) O W)
          -∗ wp frame (wpE (defs₀ (F := F)) Variants.none (c : Thread nD τ) none) Set.univ κ Q)
        -∗ wp frame (wpE (defs₀ (F := F)) Variants.none (c : Thread nD τ) none) Set.univ
          (s3 (Memref.whole cc0_scratch0) (Memref.isWhole_whole _) cc0_scratch3 cc0_scratch4 c κ) Q) := by
  unfold s3
  simp only [Prog.lift, Prog.bind_op, Prog.bind_ret]
  iintro ⟨#HE, ⟨S0, S1, S2⟩, ⟨⟨%f0, D0⟩, ⟨%f1, D1⟩, ⟨%f2, D2⟩⟩, ⟨T0, T1, T2⟩, ⟨%W, HO⟩⟩ Hk
  iapply (send_q Q0 Kx Vx K c 0 (dev_q0 c _)
    (O + tallyAt (cell (peer c 2) (.rcv 2 0)) 0 (amtC 0) + tallyAt (cell (peer c 1) (.rcv 1 0)) 0 (amtC 0)) W f0) $$ [S0 D0 T0 HO]
  · isplitr; · iexact HE
    isplitl [S0]; · iexact S0
    isplitl [D0]; · iexact D0
    isplitl [HO]; · iexact HO
    iexact T0
  iintro ⟨C0, HO⟩
  iapply (send_q Q0 Kx Vx K c 1 (dev_q1 c _)
    (O + tallyAt (cell (peer c 2) (.rcv 2 0)) 0 (amtC 0)) W f1) $$ [S1 D1 T1 HO]
  · isplitr; · iexact HE
    isplitl [S1]; · iexact S1
    isplitl [D1]; · iexact D1
    isplitl [HO]; · iexact HO
    iexact T1
  iintro ⟨C1, HO⟩
  iapply (send_q Q0 Kx Vx K c 2 (dev_q2 c _) O W f2) $$ [S2 D2 T2 HO]
  · isplitr; · iexact HE
    isplitl [S2]; · iexact S2
    isplitl [D2]; · iexact D2
    isplitl [HO]; · iexact HO
    iexact T2
  iintro ⟨C2, HO⟩
  iapply Hk
  isplitl [C0 C1 C2]
  · isplitl [C0]; · iexact C0
    isplitl [C1]; · iexact C1
    iexact C2
  iexists W; iexact HO

/-- What a device brings to the two waits of a channel. -/
def inq (c : Dev nD) (k : Fin 3) (ch : Fin 5) : sProp 𝕄 := iprop(wsnd c k ch ∗ wrcv c k ch)
/-- What it takes away. -/
def outq (c : Dev nD) (k : Fin 3) (ch : Fin 5) : sProp 𝕄 :=
  iprop((pay Q0 Kx Vx c (.snd k ch) (0, 0) ∗ semVal (cell c (.snd k ch)) 0) ∗ pay Q0 Kx Vx c (.rcv k ch) (0, 0) ∗ semVal (cell c (.rcv k ch)) 0)

/-- The two waits of a channel. -/
theorem wait_pair (K : GSem nD τ sig → ℕ) (c : Dev nD) (k : Fin 3) (ch : Fin 5)
    {sem sem' : DmaSem sig} (hs : SemLoc.dma sem = sloc (.snd k ch)) (hs' : SemLoc.dma sem' = sloc (.rcv k ch))
    {sp₁ sp₂ sp₃ sp₄ : Space} {s₁ s₂ s₃ s₄ : Shape} {e₁ e₂ e₃ e₄ : EltTy}
    {src : Memref sig .tc sp₁ s₁ e₁} {dst : Memref sig .tc sp₂ s₂ e₂} (hN : dst.view.dmaCredit = amtC ch)
    {src' : Memref sig .tc sp₃ s₃ e₃} {dst' : Memref sig .tc sp₄ s₄ e₄} (hN' : dst'.view.dmaCredit = amtC ch)
    {h₁ : src.view.WordExact} {h₂ : dst.view.WordExact} {h₃ : src'.view.WordExact} {h₄ : dst'.view.WordExact}
    {R : Type} {κ : PUnit → Prog (TpuEff nD τ sig (Elt F) Λ₀ .tc) R} {Q : R → sProp 𝕄}
    {O : CellTallies nD τ sig Ix} {b : ℕ} (hO : Above b O) (hb : lvOf (.rcv k ch) 0 ≤ b) :
    iprop(Env Q0 Kx Vx K ∗ inq (F := F) c k ch ∗ ∃ W, owes (c : Thread nD τ) O W)
      ⊢ iprop(((outq Q0 Kx Vx c k ch ∗ ∃ W, owes (c : Thread nD τ) O W)
          -∗ wp frame (wpE (defs₀ (F := F)) Variants.none (c : Thread nD τ) none) Set.univ (κ ⟨⟩) Q)
        -∗ wp frame (wpE (defs₀ (F := F)) Variants.none (c : Thread nD τ) none) Set.univ
          (.op (.waitDma2 sem src dst h₁ h₂) fun _ => .op (.waitDma2 sem' src' dst' h₃ h₄) κ) Q) := by
  unfold inq wsnd wrcv outq
  iintro ⟨#HE, ⟨Hs, Hr⟩, HO⟩ Hk
  iapply (wait_one Q0 Kx Vx K c (.snd k ch) rfl (fun h => by cases h) hs (dst := dst) hN hO (Nat.zero_le b)) $$ [Hs HO]
  · isplitr; · iexact HE
    isplitl [Hs]; · iexact Hs
    iexact HO
  iintro ⟨Ps, Vs, HO⟩
  iapply (wait_one Q0 Kx Vx K c (.rcv k ch) rfl (fun h => by cases h) hs' (dst := dst') hN' hO hb) $$ [Hr HO]
  · isplitr; · iexact HE
    isplitl [Hr]; · iexact Hr
    iexact HO
  iintro ⟨Pr, Vr, HO⟩
  iapply Hk
  isplitl [Ps Vs Pr Vr]
  · isplitl [Ps Vs]
    · isplitl [Ps]; · iexact Ps
      iexact Vs
    isplitl [Pr]; · iexact Pr
    iexact Vr
  iexact HO

/-- The queries have gone and those of the others are here. -/
theorem s4_spec (K : GSem nD τ sig → ℕ) (c : Dev nD) {R : Type} {κ : Prog (TpuEff nD τ sig (Elt F) Λ₀ .tc) R} {Q : R → sProp 𝕄}
    {O : CellTallies nD τ sig Ix} (hO : Above 3 O) :
    iprop(Env Q0 Kx Vx K ∗ (three fun k => inq (F := F) c k 0) ∗ ∃ W, owes (c : Thread nD τ) O W)
      ⊢ iprop((((three fun k => outq Q0 Kx Vx c k 0) ∗ ∃ W, owes (c : Thread nD τ) O W)
          -∗ wp frame (wpE (defs₀ (F := F)) Variants.none (c : Thread nD τ) none) Set.univ κ Q)
        -∗ wp frame (wpE (defs₀ (F := F)) Variants.none (c : Thread nD τ) none) Set.univ
          (s4 (Memref.whole cc0_scratch0) (Memref.isWhole_whole _) cc0_scratch3 cc0_scratch4 κ) Q) := by
  unfold s4
  simp only [Prog.lift, Prog.bind_op, Prog.bind_ret]
  iintro ⟨#HE, ⟨I0, I1, I2⟩, HO⟩ Hk
  iapply (wait_pair Q0 Kx Vx K c 0 0 rfl rfl (dst := qSlot 0) (q_credit 0) (dst' := qSlot (dstSlot 0)) (q_credit (dstSlot 0)) hO (le_refl 3)) $$ [I0 HO]
  · isplitr; · iexact HE
    isplitl [I0]; · iexact I0
    iexact HO
  iintro ⟨I0, HO⟩
  iapply (wait_pair Q0 Kx Vx K c 1 0 rfl rfl (dst := qSlot 0) (q_credit 0) (dst' := qSlot (dstSlot 1)) (q_credit (dstSlot 1)) hO (le_refl 3)) $$ [I1 HO]
  · isplitr; · iexact HE
    isplitl [I1]; · iexact I1
    iexact HO
  iintro ⟨I1, HO⟩
  iapply (wait_pair Q0 Kx Vx K c 2 0 rfl rfl (dst := qSlot 0) (q_credit 0) (dst' := qSlot (dstSlot 2)) (q_credit (dstSlot 2)) hO (le_refl 3)) $$ [I2 HO]
  · isplitr; · iexact HE
    isplitl [I2]; · iexact I2
    iexact HO
  iintro ⟨I2, HO⟩
  iapply Hk
  isplitl [I0 I1 I2]
  · isplitl [I0]; · iexact I0
    isplitl [I1]; · iexact I1
    iexact I2
  iexact HO

/-! ## A residue class goes out -/

/-- One block of rows in the send buffer or the receive buffer: slot 0, class `r`. -/
abbrev ownR (r : Fin 4) : Rect S4x4x64x1152 := Rect.unit (s := S4x4x64x1152) ![(0 : Fin 4).val, r.val, 0, 0] S1x1x64x1152.size (ps_inb 0 r)

theorem own_i (r : Fin 4) : ((Memref.whole cc0_scratch2).access (ownR r)).set = (iSlot 0 r).view.set := (Memref.set_view_squeeze _ _).symm
theorem own_o (r : Fin 4) : ((Memref.whole cc0_scratch1).access (ownR r)).set = (oSlot 0 r).view.set := (Memref.set_view_squeeze _ _).symm

/-- What a device brings to send its rows of class `r`. -/
def inr (c : Dev nD) (r : Fin 4) : sProp 𝕄 :=
  iprop((three fun k => oAt c (srcSlot k) r (pout Q0 Kx Vx c)) ∗ oAt c 0 r (pout Q0 Kx Vx c)
    ∗ (three fun k => iprop(∃ f, iAt (F := F) (peer c k) (dstSlot k) r f)) ∗ (∃ f, iAt (F := F) c 0 r f) ∗ three fun k => tick c k r.succ)
/-- What it takes away. -/
def outr (c : Dev nD) (r : Fin 4) : sProp 𝕄 :=
  iprop((three fun k => cred (tallyAt (cell c (.snd k r.succ)) 0 (amtC r.succ))) ∗ oAt c 0 r (pout Q0 Kx Vx c) ∗ iAt c 0 r (pin Q0 Kx Vx c))

/-- The rows of one residue class: three blocks go to the three others, the fourth into the own receive buffer. -/
theorem rows_out (K : GSem nD τ sig → ℕ) (c : Dev nD) (r : Fin 4) {d₀ d₁ d₂ : Dev nD}
    (e₀ : d₀ = peer c 0) (e₁ : d₁ = peer c 1) (e₂ : d₂ = peer c 2)
    {hsc₀ : (iSlot (dstSlot 0) r).view.ref.isScScratch = false} {hsrc₀ : (oSlot (srcSlot 0) r).view.WordExact}
    {hdst₀ : (iSlot (dstSlot 0) r).view.WordExact}
    {hsem₀ : DmaTarget.Typed .vmem (.dma (prS 0 r)) (.remote (d₀ : Thread nD τ) (iSlot (dstSlot 0) r) (.dma (psS 0 r)) hsc₀)}
    {hsc₁ : (iSlot (dstSlot 1) r).view.ref.isScScratch = false} {hsrc₁ : (oSlot (srcSlot 1) r).view.WordExact}
    {hdst₁ : (iSlot (dstSlot 1) r).view.WordExact}
    {hsem₁ : DmaTarget.Typed .vmem (.dma (prS 1 r)) (.remote (d₁ : Thread nD τ) (iSlot (dstSlot 1) r) (.dma (psS 1 r)) hsc₁)}
    {hsc₂ : (iSlot (dstSlot 2) r).view.ref.isScScratch = false} {hsrc₂ : (oSlot (srcSlot 2) r).view.WordExact}
    {hdst₂ : (iSlot (dstSlot 2) r).view.WordExact}
    {hsem₂ : DmaTarget.Typed .vmem (.dma (prS 2 r)) (.remote (d₂ : Thread nD τ) (iSlot (dstSlot 2) r) (.dma (psS 2 r)) hsc₂)}
    {hl : (Memref.whole cc0_scratch1).view.LoadsAt (ownR r).toLoadRect} {hl' : (Memref.whole cc0_scratch2).view.LoadsAt (ownR r).toLoadRect}
    {hx : ((Memref.whole cc0_scratch2).access (ownR r)).Stores Finset.univ} {hm : (Finset.univ : Finset (ownR r).shape.Idx) = Finset.univ ∨ ∀ a, (ownR r).stride a = 1}
    {hc : S1x1x64x1152.ShapeCasts S64x1152} {hc' : S64x1152.ShapeCasts S1x1x64x1152}
    {R : Type} {κ : PUnit → Prog (TpuEff nD τ sig (Elt F) Λ₀ .tc) R} {Q : R → sProp 𝕄}
    {O : CellTallies nD τ sig Ix} :
    iprop(Env Q0 Kx Vx K ∗ inr Q0 Kx Vx c r ∗ ∃ W, owes (c : Thread nD τ) (oC c r.succ O) W)
      ⊢ iprop(((outr Q0 Kx Vx c r ∗ ∃ W, owes (c : Thread nD τ) O W)
          -∗ wp frame (wpE (defs₀ (F := F)) Variants.none (c : Thread nD τ) none) Set.univ (κ ⟨⟩) Q)
        -∗ wp frame (wpE (defs₀ (F := F)) Variants.none (c : Thread nD τ) none) Set.univ
          (.op (.enqueueDma (oSlot (srcSlot 0) r) (.remote (d₀ : Thread nD τ) (iSlot (dstSlot 0) r) (.dma (psS 0 r)) hsc₀) (.dma (prS 0 r)) hsrc₀ hdst₀ hsem₀) fun _ =>
            .op (.enqueueDma (oSlot (srcSlot 1) r) (.remote (d₁ : Thread nD τ) (iSlot (dstSlot 1) r) (.dma (psS 1 r)) hsc₁) (.dma (prS 1 r)) hsrc₁ hdst₁ hsem₁) fun _ =>
            .op (.enqueueDma (oSlot (srcSlot 2) r) (.remote (d₂ : Thread nD τ) (iSlot (dstSlot 2) r) (.dma (psS 2 r)) hsc₂) (.dma (prS 2 r)) hsrc₂ hdst₂ hsem₂) fun _ =>
            .op (.load (Memref.whole cc0_scratch1) (ownR r).toLoadRect hl) fun v =>
            .op (.load (Memref.whole cc0_scratch2) (ownR r).toLoadRect hl') fun _ =>
            .op (.store (Memref.whole cc0_scratch2) (ownR r)
              (shapeCast S1x1x64x1152 (shapeCast (s := S1x1x64x1152) S64x1152 v hc) hc') Finset.univ hx hm) κ) Q) := by
  unfold inr outr
  iintro ⟨#HE, ⟨⟨S0, S1, S2⟩, So, ⟨⟨%f0, D0⟩, ⟨%f1, D1⟩, ⟨%f2, D2⟩⟩, ⟨%f, Si⟩, ⟨T0, T1, T2⟩⟩, ⟨%W, HO⟩⟩ Hk
  iapply (send_p Q0 Kx Vx K c 0 r e₀
    (O + tallyAt (cell (peer c 2) (.rcv 2 r.succ)) 0 (amtC r.succ) + tallyAt (cell (peer c 1) (.rcv 1 r.succ)) 0 (amtC r.succ)) W f0) $$ [S0 D0 T0 HO]
  · isplitr; · iexact HE
    isplitl [S0]; · iexact S0
    isplitl [D0]; · iexact D0
    isplitl [HO]; · iexact HO
    iexact T0
  iintro ⟨C0, HO⟩
  iapply (send_p Q0 Kx Vx K c 1 r e₁ (O + tallyAt (cell (peer c 2) (.rcv 2 r.succ)) 0 (amtC r.succ)) W f1) $$ [S1 D1 T1 HO]
  · isplitr; · iexact HE
    isplitl [S1]; · iexact S1
    isplitl [D1]; · iexact D1
    isplitl [HO]; · iexact HO
    iexact T1
  iintro ⟨C1, HO⟩
  iapply (send_p Q0 Kx Vx K c 2 r e₂ O W f2) $$ [S2 D2 T2 HO]
  · isplitr; · iexact HE
    isplitl [S2]; · iexact S2
    isplitl [D2]; · iexact D2
    isplitl [HO]; · iexact HO
    iexact T2
  iintro ⟨C2, HO⟩
  iapply (wp_load_rect (defs := defs₀ (F := F)) Variants.none (c : Thread nD τ) none Set.univ (m := Memref.whole cc0_scratch1) (r := ownR r)
    (S := (oSlot 0 r).view.set) (q := fullShare) (f := pout Q0 Kx Vx c) (own_o r).subset) $$ [So]
  · iexact So
  iintro So
  iapply (wp_load_rect (defs := defs₀ (F := F)) Variants.none (c : Thread nD τ) none Set.univ (m := Memref.whole cc0_scratch2) (r := ownR r)
    (S := (iSlot 0 r).view.set) (q := fullShare) (f := f) (own_i r).subset) $$ [Si]
  · iexact Si
  iintro Si
  rw [shapeCast_shapeCast]
  iapply (wp_store (defs := defs₀ (F := F)) Variants.none (c : Thread nD τ) none Set.univ (m := Memref.whole cc0_scratch2) (r := ownR r)
    (S := (iSlot 0 r).view.set) (f := f) (by rw [View.setOn_univ]; exact (own_i r).subset)) $$ [Si]
  · iexact Si
  iintro Si
  iapply Hk
  isplitr [HO]
  · isplitl [C0 C1 C2]
    · isplitl [C0]; · iexact C0
      isplitl [C1]; · iexact C1
      iexact C2
    isplitl [So]; · iexact So
    ihave Sj := (Entails.of_eq (pointsTo_congr (self_lands Q0 Kx Vx c r f))) $$ Si
    iexact Sj
  iexists W; iexact HO

/-- Class 0. -/
theorem s6_spec (K : GSem nD τ sig → ℕ) (c : Dev nD) {R : Type} {κ : Prog (TpuEff nD τ sig (Elt F) Λ₀ .tc) R} {Q : R → sProp 𝕄}
    {O : CellTallies nD τ sig Ix} :
    iprop(Env Q0 Kx Vx K ∗ inr Q0 Kx Vx c 0 ∗ ∃ W, owes (c : Thread nD τ) (oC c 1 O) W)
      ⊢ iprop(((outr Q0 Kx Vx c 0 ∗ ∃ W, owes (c : Thread nD τ) O W)
          -∗ wp frame (wpE (defs₀ (F := F)) Variants.none (c : Thread nD τ) none) Set.univ κ Q)
        -∗ wp frame (wpE (defs₀ (F := F)) Variants.none (c : Thread nD τ) none) Set.univ
          (s6 (Memref.whole cc0_scratch1) (Memref.isWhole_whole _) (Memref.whole cc0_scratch2) (Memref.isWhole_whole _) cc0_scratch5 cc0_scratch6 c κ) Q) := by
  unfold s6
  simp only [Prog.lift, Prog.bind_op, Prog.bind_ret]
  exact rows_out Q0 Kx Vx K c 0 (dev_p00 c _) (dev_p10 c _) (dev_p20 c _) (κ := fun _ => κ)

/-- Class 1. -/
theorem s8_spec (K : GSem nD τ sig → ℕ) (c : Dev nD) {R : Type} {κ : Prog (TpuEff nD τ sig (Elt F) Λ₀ .tc) R} {Q : R → sProp 𝕄}
    {O : CellTallies nD τ sig Ix} :
    iprop(Env Q0 Kx Vx K ∗ inr Q0 Kx Vx c 1 ∗ ∃ W, owes (c : Thread nD τ) (oC c 2 O) W)
      ⊢ iprop(((outr Q0 Kx Vx c 1 ∗ ∃ W, owes (c : Thread nD τ) O W)
          -∗ wp frame (wpE (defs₀ (F := F)) Variants.none (c : Thread nD τ) none) Set.univ κ Q)
        -∗ wp frame (wpE (defs₀ (F := F)) Variants.none (c : Thread nD τ) none) Set.univ
          (s8 (Memref.whole cc0_scratch1) (Memref.isWhole_whole _) (Memref.whole cc0_scratch2) (Memref.isWhole_whole _) cc0_scratch5 cc0_scratch6 c κ) Q) := by
  unfold s8
  simp only [Prog.lift, Prog.bind_op, Prog.bind_ret]
  exact rows_out Q0 Kx Vx K c 1 (dev_p01 c _) (dev_p11 c _) (dev_p21 c _) (κ := fun _ => κ)

/-- Class 2. -/
theorem s10_spec (K : GSem nD τ sig → ℕ) (c : Dev nD) {R : Type} {κ : Prog (TpuEff nD τ sig (Elt F) Λ₀ .tc) R} {Q : R → sProp 𝕄}
    {O : CellTallies nD τ sig Ix} :
    iprop(Env Q0 Kx Vx K ∗ inr Q0 Kx Vx c 2 ∗ ∃ W, owes (c : Thread nD τ) (oC c 3 O) W)
      ⊢ iprop(((outr Q0 Kx Vx c 2 ∗ ∃ W, owes (c : Thread nD τ) O W)
          -∗ wp frame (wpE (defs₀ (F := F)) Variants.none (c : Thread nD τ) none) Set.univ κ Q)
        -∗ wp frame (wpE (defs₀ (F := F)) Variants.none (c : Thread nD τ) none) Set.univ
          (s10 (Memref.whole cc0_scratch1) (Memref.isWhole_whole _) (Memref.whole cc0_scratch2) (Memref.isWhole_whole _) cc0_scratch5 cc0_scratch6 c κ) Q) := by
  unfold s10
  simp only [Prog.lift, Prog.bind_op, Prog.bind_ret]
  exact rows_out Q0 Kx Vx K c 2 (dev_p02 c _) (dev_p12 c _) (dev_p22 c _) (κ := fun _ => κ)

/-- Class 3. -/
theorem s12_spec (K : GSem nD τ sig → ℕ) (c : Dev nD) {R : Type} {κ : Prog (TpuEff nD τ sig (Elt F) Λ₀ .tc) R} {Q : R → sProp 𝕄}
    {O : CellTallies nD τ sig Ix} :
    iprop(Env Q0 Kx Vx K ∗ inr Q0 Kx Vx c 3 ∗ ∃ W, owes (c : Thread nD τ) (oC c 4 O) W)
      ⊢ iprop(((outr Q0 Kx Vx c 3 ∗ ∃ W, owes (c : Thread nD τ) O W)
          -∗ wp frame (wpE (defs₀ (F := F)) Variants.none (c : Thread nD τ) none) Set.univ κ Q)
        -∗ wp frame (wpE (defs₀ (F := F)) Variants.none (c : Thread nD τ) none) Set.univ
          (s12 (Memref.whole cc0_scratch1) (Memref.isWhole_whole _) (Memref.whole cc0_scratch2) (Memref.isWhole_whole _) cc0_scratch5 cc0_scratch6 c κ) Q) := by
  unfold s12
  simp only [Prog.lift, Prog.bind_op, Prog.bind_ret]
  exact rows_out Q0 Kx Vx K c 3 (dev_p03 c _) (dev_p13 c _) (dev_p23 c _) (κ := fun _ => κ)

/-- Every block sent has gone and every block awaited is here. -/
theorem s13_spec (K : GSem nD τ sig → ℕ) (c : Dev nD) {R : Type} {κ : Prog (TpuEff nD τ sig (Elt F) Λ₀ .tc) R} {Q : R → sProp 𝕄} :
    iprop(Env Q0 Kx Vx K ∗ (three fun k => inq (F := F) c k 1) ∗ (three fun k => inq (F := F) c k 2)
        ∗ (three fun k => inq (F := F) c k 3) ∗ (three fun k => inq (F := F) c k 4) ∗ ∃ W, owes (c : Thread nD τ) 0 W)
      ⊢ iprop((((three fun k => outq Q0 Kx Vx c k 1) ∗ (three fun k => outq Q0 Kx Vx c k 2)
            ∗ (three fun k => outq Q0 Kx Vx c k 3) ∗ (three fun k => outq Q0 Kx Vx c k 4) ∗ ∃ W, owes (c : Thread nD τ) 0 W)
          -∗ wp frame (wpE (defs₀ (F := F)) Variants.none (c : Thread nD τ) none) Set.univ κ Q)
        -∗ wp frame (wpE (defs₀ (F := F)) Variants.none (c : Thread nD τ) none) Set.univ
          (s13 (Memref.whole cc0_scratch1) (Memref.isWhole_whole _) (Memref.whole cc0_scratch2) (Memref.isWhole_whole _) cc0_scratch5 cc0_scratch6 κ) Q) := by
  unfold s13
  simp only [Prog.lift, Prog.bind_op, Prog.bind_ret]
  iintro ⟨#HE, ⟨I01, I11, I21⟩, ⟨I02, I12, I22⟩, ⟨I03, I13, I23⟩, ⟨I04, I14, I24⟩, HO⟩ Hk
  iapply (wait_pair Q0 Kx Vx K c 0 1 rfl rfl (dst := oSlot (srcSlot 0) 0) (o_credit (srcSlot 0) 0) (dst' := iSlot (dstSlot 0) 0) (p_credit (dstSlot 0) 0)
    (Above.zero 4) (by decide)) $$ [I01 HO]
  · isplitr; · iexact HE
    isplitl [I01]; · iexact I01
    iexact HO
  iintro ⟨I01, HO⟩
  iapply (wait_pair Q0 Kx Vx K c 1 1 rfl rfl (dst := oSlot (srcSlot 1) 0) (o_credit (srcSlot 1) 0) (dst' := iSlot (dstSlot 1) 0) (p_credit (dstSlot 1) 0)
    (Above.zero 4) (by decide)) $$ [I11 HO]
  · isplitr; · iexact HE
    isplitl [I11]; · iexact I11
    iexact HO
  iintro ⟨I11, HO⟩
  iapply (wait_pair Q0 Kx Vx K c 2 1 rfl rfl (dst := oSlot (srcSlot 2) 0) (o_credit (srcSlot 2) 0) (dst' := iSlot (dstSlot 2) 0) (p_credit (dstSlot 2) 0)
    (Above.zero 4) (by decide)) $$ [I21 HO]
  · isplitr; · iexact HE
    isplitl [I21]; · iexact I21
    iexact HO
  iintro ⟨I21, HO⟩
  iapply (wait_pair Q0 Kx Vx K c 0 2 rfl rfl (dst := oSlot (srcSlot 0) 1) (o_credit (srcSlot 0) 1) (dst' := iSlot (dstSlot 0) 1) (p_credit (dstSlot 0) 1)
    (Above.zero 4) (by decide)) $$ [I02 HO]
  · isplitr; · iexact HE
    isplitl [I02]; · iexact I02
    iexact HO
  iintro ⟨I02, HO⟩
  iapply (wait_pair Q0 Kx Vx K c 1 2 rfl rfl (dst := oSlot (srcSlot 1) 1) (o_credit (srcSlot 1) 1) (dst' := iSlot (dstSlot 1) 1) (p_credit (dstSlot 1) 1)
    (Above.zero 4) (by decide)) $$ [I12 HO]
  · isplitr; · iexact HE
    isplitl [I12]; · iexact I12
    iexact HO
  iintro ⟨I12, HO⟩
  iapply (wait_pair Q0 Kx Vx K c 2 2 rfl rfl (dst := oSlot (srcSlot 2) 1) (o_credit (srcSlot 2) 1) (dst' := iSlot (dstSlot 2) 1) (p_credit (dstSlot 2) 1)
    (Above.zero 4) (by decide)) $$ [I22 HO]
  · isplitr; · iexact HE
    isplitl [I22]; · iexact I22
    iexact HO
  iintro ⟨I22, HO⟩
  iapply (wait_pair Q0 Kx Vx K c 0 3 rfl rfl (dst := oSlot (srcSlot 0) 2) (o_credit (srcSlot 0) 2) (dst' := iSlot (dstSlot 0) 2) (p_credit (dstSlot 0) 2)
    (Above.zero 4) (by decide)) $$ [I03 HO]
  · isplitr; · iexact HE
    isplitl [I03]; · iexact I03
    iexact HO
  iintro ⟨I03, HO⟩
  iapply (wait_pair Q0 Kx Vx K c 1 3 rfl rfl (dst := oSlot (srcSlot 1) 2) (o_credit (srcSlot 1) 2) (dst' := iSlot (dstSlot 1) 2) (p_credit (dstSlot 1) 2)
    (Above.zero 4) (by decide)) $$ [I13 HO]
  · isplitr; · iexact HE
    isplitl [I13]; · iexact I13
    iexact HO
  iintro ⟨I13, HO⟩
  iapply (wait_pair Q0 Kx Vx K c 2 3 rfl rfl (dst := oSlot (srcSlot 2) 2) (o_credit (srcSlot 2) 2) (dst' := iSlot (dstSlot 2) 2) (p_credit (dstSlot 2) 2)
    (Above.zero 4) (by decide)) $$ [I23 HO]
  · isplitr; · iexact HE
    isplitl [I23]; · iexact I23
    iexact HO
  iintro ⟨I23, HO⟩
  iapply (wait_pair Q0 Kx Vx K c 0 4 rfl rfl (dst := oSlot (srcSlot 0) 3) (o_credit (srcSlot 0) 3) (dst' := iSlot (dstSlot 0) 3) (p_credit (dstSlot 0) 3)
    (Above.zero 4) (by decide)) $$ [I04 HO]
  · isplitr; · iexact HE
    isplitl [I04]; · iexact I04
    iexact HO
  iintro ⟨I04, HO⟩
  iapply (wait_pair Q0 Kx Vx K c 1 4 rfl rfl (dst := oSlot (srcSlot 1) 3) (o_credit (srcSlot 1) 3) (dst' := iSlot (dstSlot 1) 3) (p_credit (dstSlot 1) 3)
    (Above.zero 4) (by decide)) $$ [I14 HO]
  · isplitr; · iexact HE
    isplitl [I14]; · iexact I14
    iexact HO
  iintro ⟨I14, HO⟩
  iapply (wait_pair Q0 Kx Vx K c 2 4 rfl rfl (dst := oSlot (srcSlot 2) 3) (o_credit (srcSlot 2) 3) (dst' := iSlot (dstSlot 2) 3) (p_credit (dstSlot 2) 3)
    (Above.zero 4) (by decide)) $$ [I24 HO]
  · isplitr; · iexact HE
    isplitl [I24]; · iexact I24
    iexact HO
  iintro ⟨I24, HO⟩
  iapply Hk
  isplitl [I01 I11 I21]
  · isplitl [I01]; · iexact I01
    isplitl [I11]; · iexact I11
    iexact I21
  isplitl [I02 I12 I22]
  · isplitl [I02]; · iexact I02
    isplitl [I12]; · iexact I12
    iexact I22
  isplitl [I03 I13 I23]
  · isplitl [I03]; · iexact I03
    isplitl [I13]; · iexact I13
    iexact I23
  isplitl [I04 I14 I24]
  · isplitl [I04]; · iexact I04
    isplitl [I14]; · iexact I14
    iexact I24
  iexact HO

end Talk

end Cert.KernelIdeal
-- ==== Proof.Deal.lean ====
/- What a device holds is cut up and put together: the scratch buffers into the slots the copies use and back, the payloads and tokens by
   channel. Every statement here only moves things about. -/
module

public import proofs.«01_k».proof.Proof.Comp
public import proofs.«01_k».proof.Proof.Talk

@[expose] public section

set_option maxRecDepth 65536
set_option maxHeartbeats 0

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Ix (Elt F) ℕ UU ℕ

/-- Something for each residue class, and for each channel. -/
abbrev four (P : Fin 4 → sProp 𝕄) : sProp 𝕄 := iprop(P 0 ∗ P 1 ∗ P 2 ∗ P 3)
abbrev five (P : Fin 5 → sProp 𝕄) : sProp 𝕄 := iprop(P 0 ∗ P 1 ∗ P 2 ∗ P 3 ∗ P 4)

/-- A separating product over a short range, written out. -/
theorem three_eq (P : Fin 3 → sProp 𝕄) : bigSep Finset.univ P = three P :=
  bigSep_univ_eq_bigSepL [0, 1, 2] (by decide) (by decide) P
theorem four_eq (P : Fin 4 → sProp 𝕄) : bigSep Finset.univ P = four P :=
  bigSep_univ_eq_bigSepL [0, 1, 2, 3] (by decide) (by decide) P
theorem five_eq (P : Fin 5 → sProp 𝕄) : bigSep Finset.univ P = five P :=
  bigSep_univ_eq_bigSepL [0, 1, 2, 3, 4] (by decide) (by decide) P

theorem three_join (P P' P'' : Fin 3 → sProp 𝕄) (h : ∀ k, iprop(P k ∗ P' k) ⊢ P'' k) : iprop(three P ∗ three P') ⊢ three P'' := by
  iintro ⟨⟨A0, A1, A2⟩, B0, B1, B2⟩
  isplitl [A0 B0]
  · iapply (h 0); isplitl [A0]; · iexact A0
    iexact B0
  isplitl [A1 B1]
  · iapply (h 1); isplitl [A1]; · iexact A1
    iexact B1
  iapply (h 2); isplitl [A2]; · iexact A2
  iexact B2

/-! ## The scratch buffers -/

/-- The query buffer opened: the own slot, and the slots lent to the others. -/
theorem q_open (c : Dev nD) (f : cc0_scratch0.ty.Contents (Elt F)) :
    (bufAt c cc0_scratch0 fullShare f : sProp 𝕄)
      ⊢ iprop(qAt c 0 fullShare f ∗ three fun k => iprop(∃ f, qAt (F := F) c (dstSlot k.rev) fullShare f)) := by
  rw [q_split, four_eq]
  iintro ⟨H0, H1, H2, H3⟩
  isplitl [H0]; · iexact H0
  isplitl [H1]; · iexists f; iexact H1
  isplitl [H2]; · iexists f; iexact H2
  iexists f; iexact H3

/-- The query buffer closed. -/
theorem q_close (c : Dev nD) (f : cc0_scratch0.ty.Contents (Elt F)) :
    iprop(qAt c 0 fullShare f ∗ three fun k => qAt c (dstSlot k) fullShare f) ⊢ (bufAt c cc0_scratch0 fullShare f : sProp 𝕄) := by
  rw [q_split, four_eq]
  iintro ⟨H0, H3, H2, H1⟩
  isplitl [H0]; · iexact H0
  isplitl [H1]; · iexact H1
  isplitl [H2]; · iexact H2
  iexact H3

/-- The own queries, three shares of them for the copies; -/
theorem q_lend (c : Dev nD) (f : cc0_scratch0.ty.Contents (Elt F)) :
    (qAt c 0 fullShare f : sProp 𝕄)
      ⊢ iprop(qAt c 0 (Transfers.shareDrop fullShare 3) f ∗ three fun k => qAt c 0 (Transfers.shareTok fullShare 3 k) f) := by
  refine (Transfers.pointsTo_toks_split fullShare 3).trans ?_
  rw [three_eq]
/-- and back. -/
theorem q_back (c : Dev nD) (f : cc0_scratch0.ty.Contents (Elt F)) :
    iprop(qAt c 0 (Transfers.shareDrop fullShare 3) f ∗ three fun k => qAt c 0 (Transfers.shareTok fullShare 3 k) f)
      ⊢ (qAt c 0 fullShare f : sProp 𝕄) := by
  rw [← three_eq]
  exact Transfers.pointsTo_toks_join fullShare 3

/-- The send buffer by residue classes; -/
theorem o_open (c : Dev nD) (f : cc0_scratch1.ty.Contents (Elt F)) :
    (bufAt c cc0_scratch1 fullShare f : sProp 𝕄) = four fun r => colAt c r f := by rw [o_cols, four_eq]
/-- one class of it by slots. -/
theorem col_open (c : Dev nD) (r : Fin 4) (f : cc0_scratch1.ty.Contents (Elt F)) :
    (colAt c r f : sProp 𝕄) = iprop(oAt c 0 r f ∗ three fun k => oAt c (srcSlot k) r f) := by rw [col_split, four_eq]; rfl

/-- The receive buffer opened: the own slots, and the slots lent to the others. -/
theorem i_open (c : Dev nD) (f : cc0_scratch2.ty.Contents (Elt F)) :
    (bufAt c cc0_scratch2 fullShare f : sProp 𝕄)
      ⊢ iprop((four fun r => iprop(∃ f, iAt (F := F) c 0 r f))
        ∗ three fun k => bigSep Finset.univ fun r : Fin 4 => iprop(∃ f, iAt (F := F) c (dstSlot k.rev) r f)) := by
  have e : ∀ u r : Fin 4, (iAt c u r f : sProp 𝕄) ⊢ iprop(∃ f, iAt (F := F) c u r f) := fun u r => by
    iintro H; iexists f; iexact H
  have row : ∀ u : Fin 4, (bigSep Finset.univ fun r : Fin 4 => iAt c u r f : sProp 𝕄)
      ⊢ bigSep Finset.univ fun r : Fin 4 => iprop(∃ f, iAt (F := F) c u r f) := fun u => bigSep_mono fun r _ => e u r
  rw [i_split, four_eq]
  iintro ⟨H0, H1, H2, H3⟩
  isplitl [H0]; · rw [← four_eq]; iapply (row 0); iexact H0
  isplitl [H1]; · iapply (row 1); iexact H1
  isplitl [H2]; · iapply (row 2); iexact H2
  iapply (row 3); iexact H3

/-- The receive buffer closed. -/
theorem i_close (c : Dev nD) (f : cc0_scratch2.ty.Contents (Elt F)) :
    iprop((four fun r => iAt c 0 r f) ∗ four fun r => three fun k => iAt c (dstSlot k) r f) ⊢ (bufAt c cc0_scratch2 fullShare f : sProp 𝕄) := by
  rw [i_split, four_eq]
  simp only [four_eq]
  iintro ⟨H0, ⟨A3, A2, A1⟩, ⟨B3, B2, B1⟩, ⟨C3, C2, C1⟩, D3, D2, D1⟩
  isplitl [H0]; · iexact H0
  isplitl [A1 B1 C1 D1]
  · isplitl [A1]; · iexact A1
    isplitl [B1]; · iexact B1
    isplitl [C1]; · iexact C1
    iexact D1
  isplitl [A2 B2 C2 D2]
  · isplitl [A2]; · iexact A2
    isplitl [B2]; · iexact B2
    isplitl [C2]; · iexact C2
    iexact D2
  isplitl [A3]; · iexact A3
  isplitl [B3]; · iexact B3
  isplitl [C3]; · iexact C3
  iexact D3

/-! ## Tokens and payloads -/

/-- What a device starts with to send in a channel: the duties, and that its own cell is open. -/
def own (c : Dev nD) (k : Fin 3) (ch : Fin 5) : sProp 𝕄 :=
  iprop(dutyTok ER (cell c (.snd k ch)) 0 (0, 0) ∗ reached ER (cell c (.snd k ch)) 0 ∗ dutyTok ER (cell (peer c k) (.rcv k ch)) 0 (0, 0))
/-- What it starts with to wait. -/
def wts (c : Dev nD) (k : Fin 3) (ch : Fin 5) : sProp 𝕄 := iprop(atPos ER (cell c (.snd k ch)) 0 ∅ 0 ∗ wrcv c k ch)

theorem tick_of (c : Dev nD) (ch : Fin 5) :
    iprop((three fun k => own c k ch) ∗ three fun k => reached ER (cell (peer c k) (.rcv k ch)) 0) ⊢ (three fun k => tick c k ch : sProp 𝕄) :=
  three_join _ _ _ fun k => by
    unfold own tick
    iintro ⟨⟨A, B, C⟩, D⟩
    isplitl [A]; · iexact A
    isplitl [B]; · iexact B
    isplitl [C]; · iexact C
    iexact D

theorem inq_of (c : Dev nD) (ch : Fin 5) :
    iprop((three fun k => wts c k ch) ∗ three fun k => cred (tallyAt (cell c (.snd k ch)) 0 (amtC ch))) ⊢ (three fun k => inq c k ch : sProp 𝕄) :=
  three_join _ _ _ fun k => by
    unfold wts inq wsnd
    iintro ⟨⟨A, B⟩, C⟩
    isplitl [A C]
    · isplitl [A]; · iexact A
      iexact C
    iexact B

/-- A channel's two cells at zero, for the three others. -/
def sems (c : Dev nD) (ch : Fin 5) : sProp 𝕄 :=
  three fun k => iprop(semVal (cell c (.snd k ch)) 0 ∗ semVal (cell c (.rcv k ch)) 0)

/-- What the others gave in the barrier, by use. -/
theorem bar_got (c : Dev nD) :
    (three fun k => barPay (F := F) c k)
      ⊢ iprop((three fun k => iprop(∃ f, qAt (F := F) (peer c k) (dstSlot k) fullShare f))
        ∗ (four fun r => three fun k => iprop(∃ f, iAt (F := F) (peer c k) (dstSlot k) r f))
        ∗ five fun ch => three fun k => reached ER (cell (peer c k) (.rcv k ch)) 0) := by
  unfold barPay
  simp only [four_eq, five_eq]
  iintro ⟨⟨Q0, ⟨A0, B0, C0, D0⟩, ⟨R0, S0, T0, U0, V0⟩⟩, ⟨Q1, ⟨A1, B1, C1, D1⟩, ⟨R1, S1, T1, U1, V1⟩⟩, Q2, ⟨A2, B2, C2, D2⟩, R2, S2, T2, U2, V2⟩
  isplitl [Q0 Q1 Q2]
  · isplitl [Q0]; · iexact Q0
    isplitl [Q1]; · iexact Q1
    iexact Q2
  isplitl [A0 A1 A2 B0 B1 B2 C0 C1 C2 D0 D1 D2]
  · isplitl [A0 A1 A2]
    · isplitl [A0]; · iexact A0
      isplitl [A1]; · iexact A1
      iexact A2
    isplitl [B0 B1 B2]
    · isplitl [B0]; · iexact B0
      isplitl [B1]; · iexact B1
      iexact B2
    isplitl [C0 C1 C2]
    · isplitl [C0]; · iexact C0
      isplitl [C1]; · iexact C1
      iexact C2
    isplitl [D0]; · iexact D0
    isplitl [D1]; · iexact D1
    iexact D2
  isplitl [R0 R1 R2]
  · isplitl [R0]; · iexact R0
    isplitl [R1]; · iexact R1
    iexact R2
  isplitl [S0 S1 S2]
  · isplitl [S0]; · iexact S0
    isplitl [S1]; · iexact S1
    iexact S2
  isplitl [T0 T1 T2]
  · isplitl [T0]; · iexact T0
    isplitl [T1]; · iexact T1
    iexact T2
  isplitl [U0 U1 U2]
  · isplitl [U0]; · iexact U0
    isplitl [U1]; · iexact U1
    iexact U2
  isplitl [V0]; · iexact V0
  isplitl [V1]; · iexact V1
  iexact V2

section Vals

variable (Q0 : Dev nD → Vec F S1x256x1024 .bf16) (Kx Vx : Dev nD → Vec F S4x8x1024x128 .bf16)

/-- What the waits of a channel gave, by use. -/
theorem outq_got (c : Dev nD) (ch : Fin 5) :
    (three fun k => outq Q0 Kx Vx c k ch)
      ⊢ iprop((three fun k => sndPay Q0 Kx Vx c k ch) ∗ (three fun k => rcvPay Q0 Kx Vx c k ch) ∗ sems (F := F) c ch) := by
  unfold outq sems
  show iprop(((sndPay Q0 Kx Vx c 0 ch ∗ semVal (cell c (.snd 0 ch)) 0) ∗ rcvPay Q0 Kx Vx c 0 ch ∗ semVal (cell c (.rcv 0 ch)) 0)
    ∗ ((sndPay Q0 Kx Vx c 1 ch ∗ semVal (cell c (.snd 1 ch)) 0) ∗ rcvPay Q0 Kx Vx c 1 ch ∗ semVal (cell c (.rcv 1 ch)) 0)
    ∗ ((sndPay Q0 Kx Vx c 2 ch ∗ semVal (cell c (.snd 2 ch)) 0) ∗ rcvPay Q0 Kx Vx c 2 ch ∗ semVal (cell c (.rcv 2 ch)) 0)) ⊢ _
  iintro ⟨⟨⟨S0, A0⟩, R0, B0⟩, ⟨⟨S1, A1⟩, R1, B1⟩, ⟨S2, A2⟩, R2, B2⟩
  isplitl [S0 S1 S2]
  · isplitl [S0]; · iexact S0
    isplitl [S1]; · iexact S1
    iexact S2
  isplitl [R0 R1 R2]
  · isplitl [R0]; · iexact R0
    isplitl [R1]; · iexact R1
    iexact R2
  isplitl [A0 B0]
  · isplitl [A0]; · iexact A0
    iexact B0
  isplitl [A1 B1]
  · isplitl [A1]; · iexact A1
    iexact B1
  isplitl [A2]; · iexact A2
  iexact B2

/-- The barrier's first-round tokens with what is handed over. -/
theorem bar_give (c : Dev nD) :
    iprop((three fun k => iprop(dutyTok ER (cell (peer c k) .bar) 0 (0, k.rev) ∗ dutyTok ER (cell (peer c k) .bar) 0 (1, k.rev)
          ∗ reached ER (cell (peer c k) .bar) 0))
        ∗ (three fun k => iprop(∃ f, qAt (F := F) c (dstSlot k.rev) fullShare f))
        ∗ (three fun k => bigSep Finset.univ fun r : Fin 4 => iprop(∃ f, iAt (F := F) c (dstSlot k.rev) r f))
        ∗ three fun k => bigSep Finset.univ fun ch : Fin 5 => reached ER (cell c (.rcv k.rev ch)) 0)
      ⊢ three fun k => iprop(dutyTok ER (cell (peer c k) .bar) 0 (0, k.rev) ∗ dutyTok ER (cell (peer c k) .bar) 0 (1, k.rev)
            ∗ reached ER (cell (peer c k) .bar) 0 ∗ pay Q0 Kx Vx (peer c k) .bar (0, k.rev)) := by
  simp only [pay_bar]
  iintro ⟨⟨⟨T0, S0, R0⟩, ⟨T1, S1, R1⟩, T2, S2, R2⟩, ⟨Q0, Q1, Q2⟩, ⟨I0, I1, I2⟩, H0, H1, H2⟩
  isplitl [T0 S0 R0 Q0 I0 H0]
  · isplitl [T0]; · iexact T0
    isplitl [S0]; · iexact S0
    isplitl [R0]; · iexact R0
    isplitl [Q0]; · iexact Q0
    isplitl [I0]; · iexact I0
    iexact H0
  isplitl [T1 S1 R1 Q1 I1 H1]
  · isplitl [T1]; · iexact T1
    isplitl [S1]; · iexact S1
    isplitl [R1]; · iexact R1
    isplitl [Q1]; · iexact Q1
    isplitl [I1]; · iexact I1
    iexact H1
  isplitl [T2]; · iexact T2
  isplitl [S2]; · iexact S2
  isplitl [R2]; · iexact R2
  isplitl [Q2]; · iexact Q2
  isplitl [I2]; · iexact I2
  iexact H2

end Vals

end Cert.KernelIdeal
-- ==== Proof.Merge.lean ====
/- The last stretch: the partial results merged, multiplied out and stored. -/
module

public import proofs.«01_k».proof.Proof.Cut
public import proofs.«01_k».proof.Proof.Geometry

@[expose] public section

set_option maxRecDepth 65536
set_option maxHeartbeats 0

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Ix (Elt F) ℕ UU ℕ

theorem out_inb : ∀ a, (![0, 0] : Fin 2 → Nat) a + S256x1024.size a ≤ S256x1024.size a := by decide

theorem wo_inb : ∀ a, (![0, 0] : Fin 2 → Nat) a + S1024x1024.size a ≤ S1024x1024.size a := by decide

theorem wo_read (wo : Vec F S1024x1024 .bf16) :
    (Memref.whole cc0_stg4_0).view.readAt (Elt F) (Rect.unit (s := S1024x1024) ![0, 0] S1024x1024.size wo_inb).toLoadRect wo = wo :=
  Memref.readAt_unit_zero (Elt F) cc0_stg4_0 (off := ![0, 0]) (by funext a; fin_cases a <;> rfl) wo_inb wo

/-- One store covers the result's block. -/
theorem out_stored (c : Dev nD) (f w : Vec F S256x1024 .f32) :
    ((Memref.whole cc0_stg5_0).view.loc (c : Thread nD τ) ↦{fullShare}
        (Memref.whole cc0_stg5_0).view.writes (Elt F) f [⟨Rect.unit (s := S256x1024) ![0, 0] S256x1024.size out_inb, w⟩] : sProp 𝕄)
      ⊢ bufAt c cc0_stg5_0 fullShare w := by
  have h : (Memref.whole cc0_stg5_0).view.writes (Elt F) f [⟨Rect.unit (s := S256x1024) ![0, 0] S256x1024.size out_inb, w⟩] = w :=
    Memref.write_access_unit_zero_univ (Elt F) cc0_stg5_0 (off := ![0, 0]) (by funext a; fin_cases a <;> rfl) out_inb f w
  rw [h]

set_option pp.maxSteps 150 in
set_option pp.deepTerms false in
/-- The four partial results of every row are merged and multiplied out. -/
theorem s14_spec (c : Dev nD) {Q : PUnit → sProp 𝕄}
    (q4 : PosShare TreeShare) (wo : Vec F S1024x1024 .bf16) (p : Vec F S4x4x64x1152 .bf16) (f : Vec F S256x1024 .f32) :
    iprop(bufAt c cc0_scratch2 fullShare p ∗ bufAt c cc0_stg4_0 q4 wo ∗ bufAt c cc0_stg5_0 fullShare f)
      ⊢ iprop(((bufAt c cc0_scratch2 fullShare p ∗ bufAt c cc0_stg4_0 q4 wo ∗ bufAt c cc0_stg5_0 fullShare (outVal p wo)) -∗ Q ⟨⟩)
        -∗ wp frame (wpE (defs₀ (F := F)) Variants.none (c : Thread nD τ) none) Set.univ
          (s14 (Memref.whole cc0_stg4_0) (Memref.whole cc0_stg5_0) (Memref.whole cc0_scratch2) s14.tail) Q) := by
  iintro ⟨HP, HW, HO⟩ Hκ
  unfold s14 s14.tail
  sl_exec
  sl_step
  ihave HO := (out_stored c f _) $$ HO
  rw [wo_read]
  iapply Hκ
  isplitl [HP]; · iexact HP
  isplitl [HW]; · iexact HW
  iexact HO

end Cert.KernelIdeal
-- ==== Proof.Body.lean ====
/- The whole run of one device's kernel, from its stretches. -/
module

public import proofs.«01_k».proof.Proof.Deal
public import proofs.«01_k».proof.Proof.Merge
public import proofs.«01_k».proof.Proof.Gen.KernelIdeal.Launch
public import proofs.«01_k».proof.Proof.Gen.KernelIdeal.Points

@[expose] public section

set_option maxRecDepth 65536
set_option maxHeartbeats 0

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Ix (Elt F) ℕ UU ℕ

/-- What a device holds of the protocol when its kernel starts. -/
def Held (c : Dev nD) : sProp 𝕄 :=
  iprop((three fun k => iprop(dutyTok ER (cell (peer c k) .bar) 0 (0, k.rev) ∗ dutyTok ER (cell (peer c k) .bar) 0 (1, k.rev)
          ∗ reached ER (cell (peer c k) .bar) 0))
    ∗ (three fun k => bigSep Finset.univ fun ch : Fin 5 => reached ER (cell c (.rcv k.rev ch)) 0)
    ∗ (cred (tallyAt (cell c .bar) 0 3) ∗ cred (tallyAt (cell c .bar) 1 3) ∗ atPos ER (cell c .bar) 0 ∅ 0)
    ∗ (five fun ch => three fun k => own c k ch) ∗ five fun ch => three fun k => wts c k ch)

/-- All the cells of the protocol at zero. -/
def Zero (c : Dev nD) : sProp 𝕄 := iprop(semVal (cell c .bar) 0 ∗ five fun ch => sems c ch)

/-- The scratch buffers, holding anything. -/
def Scratch (c : Dev nD) : sProp 𝕄 :=
  iprop((∃ f, bufAt (F := F) c cc0_scratch0 fullShare f) ∗ (∃ f, bufAt (F := F) c cc0_scratch1 fullShare f)
    ∗ ∃ f, bufAt (F := F) c cc0_scratch2 fullShare f)

/-- The staged windows: the inputs read, the result's block `f`. -/
def Staged (c : Dev nD) (q : Fin 5 → PosShare TreeShare) (x : Vec F S256x1024 .bf16) (wq : Vec F S1024x1024 .bf16)
    (kx vx : Vec F S4x8x1024x128 .bf16) (wo : Vec F S1024x1024 .bf16) (f : Vec F S256x1024 .f32) : sProp 𝕄 :=
  iprop(bufAt c cc0_stg0_0 (q 0) x ∗ bufAt c cc0_stg1_0 (q 1) wq ∗ bufAt c cc0_stg2_0 (q 2) kx ∗ bufAt c cc0_stg3_0 (q 3) vx
    ∗ bufAt c cc0_stg4_0 (q 4) wo ∗ bufAt c cc0_stg5_0 fullShare f)

variable (Q0 : Dev nD → Vec F S1x256x1024 .bf16) (Kx Vx : Dev nD → Vec F S4x8x1024x128 .bf16)

/-- The run of one device's kernel: from its share of the protocol and its staged inputs to every cell at zero, nothing owed, and in the
   result's block the merge of the four partial results of each of its rows. -/
theorem body_spec (K : GSem nD τ sig → ℕ) (c : Dev nD) (q : Fin 5 → PosShare TreeShare) (x : Vec F S256x1024 .bf16)
    (wq wo : Vec F S1024x1024 .bf16) (f : Vec F S256x1024 .f32) (hQ : Q0 c = k0_pay3 x wq) {Q : PUnit → sProp 𝕄} :
    iprop(Env Q0 Kx Vx K ∗ Held c ∗ Scratch c ∗ Staged c q x wq (Kx c) (Vx c) wo f ∗ ∃ W, owes (c : Thread nD τ) (O₀ c) W)
      ⊢ iprop(((Zero c ∗ Scratch c ∗ Staged c q x wq (Kx c) (Vx c) wo (outVal (pin Q0 Kx Vx c) wo) ∗ ∃ W, owes (c : Thread nD τ) 0 W) -∗ Q ⟨⟩)
        -∗ wp frame (wpE (defs₀ (F := F)) Variants.none (c : Thread nD τ) none) Set.univ (bodyAt0 t0_0) Q) := by
  show _ ⊢ iprop(_ -∗ wp frame (wpE (defs₀ (F := F)) Variants.none (c : Thread nD τ) none) Set.univ
    (cc0_body (Memref.whole cc0_stg0_0) (Memref.isWhole_whole _) (Memref.whole cc0_stg1_0) (Memref.isWhole_whole _) (Memref.whole cc0_stg2_0)
      (Memref.isWhole_whole _) (Memref.whole cc0_stg3_0) (Memref.isWhole_whole _) (Memref.whole cc0_stg4_0) (Memref.isWhole_whole _)
      (Memref.whole cc0_stg5_0) (Memref.isWhole_whole _) (Memref.whole cc0_scratch0) (Memref.isWhole_whole _) (Memref.whole cc0_scratch1)
      (Memref.isWhole_whole _) (Memref.whole cc0_scratch2) (Memref.isWhole_whole _) cc0_scratch3 cc0_scratch4 cc0_scratch5 cc0_scratch6) Q)
  unfold Held Scratch Staged Zero
  iintro ⟨#HE, ⟨Hb, Hrch, ⟨C0, C1, Hat⟩, ⟨O0, O1, O2, O3, O4⟩, ⟨W0, W1, W2, W3, W4⟩⟩, ⟨⟨%f0, B0⟩, ⟨%f1, B1⟩, ⟨%f2, B2⟩⟩, ⟨Sx, Sq, Sk, Sv, So, Sf⟩, HO⟩ Hκ
  ihave H := (q_open c f0) $$ B0
  icases H with ⟨Q0', Qs⟩
  ihave H := (i_open c f2) $$ B2
  icases H with ⟨⟨I0, I1, I2, I3⟩, Is⟩
  ihave H := (Entails.of_eq (o_open c f1)) $$ B1
  icases H with ⟨L0, L1, L2, L3⟩
  rw [flatBody.eq, s1.eq]
  iapply (s1_spec Q0 c (q 0) (q 1) x wq f0 hQ) $$ [Sx Sq Q0']
  · isplitl [Sx]; · iexact Sx
    isplitl [Sq]; · iexact Sq
    iexact Q0'
  iintro ⟨Sx, Sq, Q0'⟩
  ihave Hp := (bar_give Q0 Kx Vx c) $$ [Hb Qs Is Hrch]
  · isplitl [Hb]; · iexact Hb
    isplitl [Qs]; · iexact Qs
    isplitl [Is]; · iexact Is
    iexact Hrch
  rw [s2.eq]
  iapply (s2_spec Q0 Kx Vx K c (O := oC c 0 (oP c)) ((above_oP c (by decide)).oC c 0 (by decide))) $$ [Hp C0 C1 Hat HO]
  · isplitr; · iexact HE
    isplitl [Hp]; · iexact Hp
    isplitl [C0]; · iexact C0
    isplitl [C1]; · iexact C1
    isplitl [Hat]; · iexact Hat
    iexact HO
  iintro ⟨Hg, Z, HO⟩
  ihave H := (bar_got c) $$ Hg
  icases H with ⟨Dq, ⟨D0, D1, D2, D3⟩, ⟨R0, R1, R2, R3, R4⟩⟩
  ihave H := (q_lend c (qrel Q0 c)) $$ Q0'
  icases H with ⟨Qd, Qt⟩
  ihave T := (tick_of (F := F) c 0) $$ [O0 R0]
  · isplitl [O0]; · iexact O0
    iexact R0
  rw [s3.eq]
  iapply (s3_spec Q0 Kx Vx K c (O := oP c)) $$ [Qt Dq T HO]
  · isplitr; · iexact HE
    isplitl [Qt]; · iexact Qt
    isplitl [Dq]; · iexact Dq
    isplitl [T]; · iexact T
    iexact HO
  iintro ⟨C, HO⟩
  ihave I := (inq_of (F := F) c 0) $$ [W0 C]
  · isplitl [W0]; · iexact W0
    iexact C
  rw [s4.eq]
  iapply (s4_spec Q0 Kx Vx K c (above_oP c (by decide))) $$ [I HO]
  · isplitr; · iexact HE
    isplitl [I]; · iexact I
    iexact HO
  iintro ⟨Hg, HO⟩
  ihave H := (outq_got Q0 Kx Vx c 0) $$ Hg
  icases H with ⟨Qt, Qr, Z0⟩
  ihave Q0' := (q_back c (qrel Q0 c)) $$ [Qd Qt]
  · isplitl [Qd]; · iexact Qd
    iexact Qt
  ihave BQ := (q_close c (qrel Q0 c)) $$ [Q0' Qr]
  · isplitl [Q0']; · iexact Q0'
    iexact Qr
  rw [s5.eq]
  iapply (s5_spec Q0 Kx Vx c f1 (q 2) (q 3)) $$ [BQ Sk Sv L0]
  · isplitl [BQ]; · iexact BQ
    isplitl [Sk]; · iexact Sk
    isplitl [Sv]; · iexact Sv
    iexact L0
  iintro ⟨BQ, Sk, Sv, L0⟩
  ihave H := (Entails.of_eq (col_open c 0 (pout Q0 Kx Vx c))) $$ L0
  icases H with ⟨M0, N0⟩
  ihave T := (tick_of (F := F) c 1) $$ [O1 R1]
  · isplitl [O1]; · iexact O1
    iexact R1
  rw [s6.eq]
  iapply (s6_spec Q0 Kx Vx K c (O := oC c 2 (oC c 3 (oC c 4 0)))) $$ [N0 M0 D0 I0 T HO]
  · isplitr; · iexact HE
    isplitl [N0 M0 D0 I0 T]
    · unfold inr
      isplitl [N0]; · iexact N0
      isplitl [M0]; · iexact M0
      isplitl [D0]; · iexact D0
      isplitl [I0]; · iexact I0
      iexact T
    iexact HO
  iintro ⟨H, HO⟩
  unfold outr
  icases H with ⟨C, M0, I0⟩
  ihave J0 := (inq_of (F := F) c 1) $$ [W1 C]
  · isplitl [W1]; · iexact W1
    iexact C
  rw [s7.eq]
  iapply (s7_spec Q0 Kx Vx c f1 (q 2) (q 3)) $$ [BQ Sk Sv L1]
  · isplitl [BQ]; · iexact BQ
    isplitl [Sk]; · iexact Sk
    isplitl [Sv]; · iexact Sv
    iexact L1
  iintro ⟨BQ, Sk, Sv, L1⟩
  ihave H := (Entails.of_eq (col_open c 1 (pout Q0 Kx Vx c))) $$ L1
  icases H with ⟨M1, N1⟩
  ihave T := (tick_of (F := F) c 2) $$ [O2 R2]
  · isplitl [O2]; · iexact O2
    iexact R2
  rw [s8.eq]
  iapply (s8_spec Q0 Kx Vx K c (O := oC c 3 (oC c 4 0))) $$ [N1 M1 D1 I1 T HO]
  · isplitr; · iexact HE
    isplitl [N1 M1 D1 I1 T]
    · unfold inr
      isplitl [N1]; · iexact N1
      isplitl [M1]; · iexact M1
      isplitl [D1]; · iexact D1
      isplitl [I1]; · iexact I1
      iexact T
    iexact HO
  iintro ⟨H, HO⟩
  unfold outr
  icases H with ⟨C, M1, I1⟩
  ihave J1 := (inq_of (F := F) c 2) $$ [W2 C]
  · isplitl [W2]; · iexact W2
    iexact C
  rw [s9.eq]
  iapply (s9_spec Q0 Kx Vx c f1 (q 2) (q 3)) $$ [BQ Sk Sv L2]
  · isplitl [BQ]; · iexact BQ
    isplitl [Sk]; · iexact Sk
    isplitl [Sv]; · iexact Sv
    iexact L2
  iintro ⟨BQ, Sk, Sv, L2⟩
  ihave H := (Entails.of_eq (col_open c 2 (pout Q0 Kx Vx c))) $$ L2
  icases H with ⟨M2, N2⟩
  ihave T := (tick_of (F := F) c 3) $$ [O3 R3]
  · isplitl [O3]; · iexact O3
    iexact R3
  rw [s10.eq]
  iapply (s10_spec Q0 Kx Vx K c (O := oC c 4 0)) $$ [N2 M2 D2 I2 T HO]
  · isplitr; · iexact HE
    isplitl [N2 M2 D2 I2 T]
    · unfold inr
      isplitl [N2]; · iexact N2
      isplitl [M2]; · iexact M2
      isplitl [D2]; · iexact D2
      isplitl [I2]; · iexact I2
      iexact T
    iexact HO
  iintro ⟨H, HO⟩
  unfold outr
  icases H with ⟨C, M2, I2⟩
  ihave J2 := (inq_of (F := F) c 3) $$ [W3 C]
  · isplitl [W3]; · iexact W3
    iexact C
  rw [s11.eq]
  iapply (s11_spec Q0 Kx Vx c f1 (q 2) (q 3)) $$ [BQ Sk Sv L3]
  · isplitl [BQ]; · iexact BQ
    isplitl [Sk]; · iexact Sk
    isplitl [Sv]; · iexact Sv
    iexact L3
  iintro ⟨BQ, Sk, Sv, L3⟩
  ihave H := (Entails.of_eq (col_open c 3 (pout Q0 Kx Vx c))) $$ L3
  icases H with ⟨M3, N3⟩
  ihave T := (tick_of (F := F) c 4) $$ [O4 R4]
  · isplitl [O4]; · iexact O4
    iexact R4
  rw [s12.eq]
  iapply (s12_spec Q0 Kx Vx K c (O := 0)) $$ [N3 M3 D3 I3 T HO]
  · isplitr; · iexact HE
    isplitl [N3 M3 D3 I3 T]
    · unfold inr
      isplitl [N3]; · iexact N3
      isplitl [M3]; · iexact M3
      isplitl [D3]; · iexact D3
      isplitl [I3]; · iexact I3
      iexact T
    iexact HO
  iintro ⟨H, HO⟩
  unfold outr
  icases H with ⟨C, M3, I3⟩
  ihave J3 := (inq_of (F := F) c 4) $$ [W4 C]
  · isplitl [W4]; · iexact W4
    iexact C
  rw [s13.eq]
  iapply (s13_spec Q0 Kx Vx K c) $$ [J0 J1 J2 J3 HO]
  · isplitr; · iexact HE
    isplitl [J0]; · iexact J0
    isplitl [J1]; · iexact J1
    isplitl [J2]; · iexact J2
    isplitl [J3]; · iexact J3
    iexact HO
  iintro ⟨J0, J1, J2, J3, HO⟩
  ihave H := (outq_got Q0 Kx Vx c 1) $$ J0
  icases H with ⟨N0, P0, Z1⟩
  ihave L0 := (Entails.of_eq (col_open c 0 (pout Q0 Kx Vx c)).symm) $$ [M0 N0]
  · isplitl [M0]; · iexact M0
    iexact N0
  ihave H := (outq_got Q0 Kx Vx c 2) $$ J1
  icases H with ⟨N1, P1, Z2⟩
  ihave L1 := (Entails.of_eq (col_open c 1 (pout Q0 Kx Vx c)).symm) $$ [M1 N1]
  · isplitl [M1]; · iexact M1
    iexact N1
  ihave H := (outq_got Q0 Kx Vx c 3) $$ J2
  icases H with ⟨N2, P2, Z3⟩
  ihave L2 := (Entails.of_eq (col_open c 2 (pout Q0 Kx Vx c)).symm) $$ [M2 N2]
  · isplitl [M2]; · iexact M2
    iexact N2
  ihave H := (outq_got Q0 Kx Vx c 4) $$ J3
  icases H with ⟨N3, P3, Z4⟩
  ihave L3 := (Entails.of_eq (col_open c 3 (pout Q0 Kx Vx c)).symm) $$ [M3 N3]
  · isplitl [M3]; · iexact M3
    iexact N3
  ihave BO := (Entails.of_eq (o_open c (pout Q0 Kx Vx c)).symm) $$ [L0 L1 L2 L3]
  · isplitl [L0]; · iexact L0
    isplitl [L1]; · iexact L1
    isplitl [L2]; · iexact L2
    iexact L3
  ihave BI := (i_close c (pin Q0 Kx Vx c)) $$ [I0 I1 I2 I3 P0 P1 P2 P3]
  · isplitl [I0 I1 I2 I3]
    · isplitl [I0]; · iexact I0
      isplitl [I1]; · iexact I1
      isplitl [I2]; · iexact I2
      iexact I3
    isplitl [P0]; · iexact P0
    isplitl [P1]; · iexact P1
    isplitl [P2]; · iexact P2
    iexact P3
  rw [s14.eq]
  iapply (s14_spec c (q 4) wo (pin Q0 Kx Vx c) f) $$ [BI So Sf]
  · isplitl [BI]; · iexact BI
    isplitl [So]; · iexact So
    iexact Sf
  iintro ⟨BI, So, Sf⟩
  iapply Hκ
  isplitl [Z Z0 Z1 Z2 Z3 Z4]
  · isplitl [Z]; · iexact Z
    isplitl [Z0]; · iexact Z0
    isplitl [Z1]; · iexact Z1
    isplitl [Z2]; · iexact Z2
    isplitl [Z3]; · iexact Z3
    iexact Z4
  isplitl [BQ BO BI]
  · isplitl [BQ]; · iexists _; iexact BQ
    isplitl [BO]; · iexists _; iexact BO
    iexists _; iexact BI
  isplitr [HO]
  · isplitl [Sx]; · iexact Sx
    isplitl [Sq]; · iexact Sq
    isplitl [Sk]; · iexact Sk
    isplitl [Sv]; · iexact Sv
    isplitl [So]; · iexact So
    iexact Sf
  iexact HO

end Cert.KernelIdeal
-- ==== Proof.Oblig.lean ====
/- The proof data of the region: what its windows hold, what it owes, and its one point run by the kernel. -/
module

public import proofs.«01_k».proof.Proof.Body
public import proofs.«01_k».proof.Proof.Gen.KernelIdeal.Frame
public import Idealize.ShloMosaic.Lib.Pipeline.TalkSched
public import Idealize.ShloMosaic.Lib.Pipeline.ValueKit

@[expose] public section

set_option maxRecDepth 65536
set_option maxHeartbeats 0

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Ix (Elt F) ℕ UU ℕ

abbrev 𝒱₀ : Variants := Variants.none

variable (m : (ℓ : Loc nD τ sig) → Buf (Elt F) ℓ)

/-! ## Contents -/

/-- A device's buffers at launch, -/
abbrev Wa (c : Dev nD) : Valuation τ sig (Elt F) := fun b => m (c, b)
/-- and when the region is entered. -/
abbrev Wb (c : Dev nD) : Valuation τ sig (Elt F) := StableHlo.after hostOps0 (Wa m c)

/-- The inputs of the kernel of a device. -/
abbrev xOf (c : Dev nD) : Vec F S256x1024 .bf16 := Wb m c main_v1
abbrev wqOf (c : Dev nD) : Vec F S1024x1024 .bf16 := Wb m c main_arg1
abbrev kOf (c : Dev nD) : Vec F S4x8x1024x128 .bf16 := Wb m c main_v5
abbrev vOf (c : Dev nD) : Vec F S4x8x1024x128 .bf16 := Wb m c main_v9
abbrev woOf (c : Dev nD) : Vec F S1024x1024 .bf16 := Wb m c main_arg4
/-- The queries every device computes. -/
abbrev qOf (c : Dev nD) : Vec F S1x256x1024 .bf16 := k0_pay3 (xOf m c) (wqOf m c)
/-- The result of the kernel of a device. -/
def outOf (c : Dev nD) : Vec F S256x1024 .f32 := outVal (pin (qOf m) (kOf m) (vOf m) c) (woOf m c)

/-- A device's buffers when the region is left, -/
abbrev Wc (c : Dev nD) : Valuation τ sig (Elt F) := Function.update (Wb m c) (Proc.devRef .tc main_v10) (outOf m c)
/-- and at the end. -/
abbrev Wd (c : Dev nD) : Valuation τ sig (Elt F) := StableHlo.after hostOps1 (Wc m c)

/-! ## The proof data -/

/-- What enters the region's one point, beside the scratch buffers and the generator's register; -/
def enter (c : Dev nD) : sProp 𝕄 := iprop(∃ K, Env (qOf m) (kOf m) (vOf m) K ∗ Held c)

def dat0 (c : Dev nD) : Dat τ (Elt F) Ix ℕ UU ℕ cfg0 c where
  A w := Wb m c (Proc.devRef .tc (Pipeline.arrRef spec0 w))
  after := fun
    | 0 => fun _ => xOf m c
    | 1 => fun _ => wqOf m c
    | 2 => fun _ => kOf m c
    | 3 => fun _ => vOf m c
    | 4 => fun _ => woOf m c
    | 5 => fun _ => outOf m c
    | ⟨_ + 6, h⟩ => absurd h (Nat.not_lt.2 (Nat.le_add_left _ _))
  Φ t := if t.val = 0 then iprop(enter m c ∗ Scratch c ∗ ∃ r, prngReg c r) else iprop(Zero c ∗ Scratch c ∗ ∃ r, prngReg c r)
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Ix ℕ UU ℕ (Pipeline.pin (pcfgs (F := F)) adm p) c
  | 0 => dat0 m
  | ⟨_ + 1, h⟩ => absurd h (Nat.not_lt.2 (Nat.le_add_left _ _))

theorem owed_first (c : Dev nD) : (dat0 m c).owed t0_0.castSucc = O₀ c := rfl
theorem owed_last (c : Dev nD) : (dat0 m c).owed t0_0.succ = 0 := rfl

/-- A window that is its whole array fetches the array, whatever the array holds. -/
theorem fill0 (G : (main_v1 : Ref sig .tc).ty.Contents (Elt F)) (d) :
    (cfg0.win 0).fill (cfg0.grid.coords t0_0) d (((cfg0.win 0).blk t0_0).view.read (Elt F) G) = G := by
  funext j
  exact congrArg G (by funext a; fin_cases a <;> exact Fin.ext (by simp; rfl))
theorem fill1 (G : (main_arg1 : Ref sig .tc).ty.Contents (Elt F)) (d) :
    (cfg0.win 1).fill (cfg0.grid.coords t0_0) d (((cfg0.win 1).blk t0_0).view.read (Elt F) G) = G := by
  funext j
  exact congrArg G (by funext a; fin_cases a <;> exact Fin.ext (by simp; rfl))
theorem fill2 (G : (main_v5 : Ref sig .tc).ty.Contents (Elt F)) (d) :
    (cfg0.win 2).fill (cfg0.grid.coords t0_0) d (((cfg0.win 2).blk t0_0).view.read (Elt F) G) = G := by
  funext j
  exact congrArg G (by funext a; fin_cases a <;> exact Fin.ext (by simp; rfl))
theorem fill3 (G : (main_v9 : Ref sig .tc).ty.Contents (Elt F)) (d) :
    (cfg0.win 3).fill (cfg0.grid.coords t0_0) d (((cfg0.win 3).blk t0_0).view.read (Elt F) G) = G := by
  funext j
  exact congrArg G (by funext a; fin_cases a <;> exact Fin.ext (by simp; rfl))
theorem fill4 (G : (main_arg4 : Ref sig .tc).ty.Contents (Elt F)) (d) :
    (cfg0.win 4).fill (cfg0.grid.coords t0_0) d (((cfg0.win 4).blk t0_0).view.read (Elt F) G) = G := by
  funext j
  exact congrArg G (by funext a; fin_cases a <;> exact Fin.ext (by simp; rfl))

/-- A window's staging buffer holds the window's array when the body runs. -/
theorem before0 (c : Dev nD) (d) : (dat0 m c).before 0 t0_0 d = xOf m c := by
  unfold Dat.before; rw [if_pos (fetch0_0 t0_0)]
  exact fill0 (xOf m c) d
theorem before1 (c : Dev nD) (d) : (dat0 m c).before 1 t0_0 d = wqOf m c := by
  unfold Dat.before; rw [if_pos (fetch0_1 t0_0)]
  exact fill1 (wqOf m c) d
theorem before2 (c : Dev nD) (d) : (dat0 m c).before 2 t0_0 d = kOf m c := by
  unfold Dat.before; rw [if_pos (fetch0_2 t0_0)]
  exact fill2 (kOf m c) d
theorem before3 (c : Dev nD) (d) : (dat0 m c).before 3 t0_0 d = vOf m c := by
  unfold Dat.before; rw [if_pos (fetch0_3 t0_0)]
  exact fill3 (vOf m c) d
theorem before4 (c : Dev nD) (d) : (dat0 m c).before 4 t0_0 d = woOf m c := by
  unfold Dat.before; rw [if_pos (fetch0_4 t0_0)]
  exact fill4 (woOf m c) d

/-- The output window's block is its array, whatever the body leaves. -/
theorem put5 (G : (main_v10 : Ref sig .tc).ty.Contents (Elt F)) (h : (cfg0.win 5).WholeAt t0_0) (j : (cfg0.win 5).shape.Idx) :
    _root_.cast (congrArg (Elt F) (cfg0.win 5).arr.view.elt_eq.symm) (G fun a => ⟨j a, h.lt_size j a⟩) = G ((cfg0.win 5).arr.view.emb j) := rfl

theorem wc_ne (c : Dev nD) (b : Ref sig .tc) (h : b ≠ main_v10) : Wc m c (Proc.devRef .tc b) = Wb m c (Proc.devRef .tc b) :=
  Function.update_of_ne (StableHlo.devRef_ne_of_ne h) _ _
theorem wc_out (c : Dev nD) : Wc m c (Proc.devRef .tc main_v10) = outOf m c := Function.update_self ..

/-- The arrays of the windows as the region finds them, and as it leaves them. -/
theorem arr_first (c : Dev nD) (w : Fin 6) : (dat0 m c).arrAt w 0 = Wb m c (Proc.devRef .tc (Pipeline.arrRef spec0 w)) := rfl
theorem arr_last (c : Dev nD) : (w : Fin 6) → (dat0 m c).arrAt w cfg0.N = Wc m c (Proc.devRef .tc (Pipeline.arrRef spec0 w))
  | 0 => ((dat0 m c).arrAt_in 0 rfl _).trans (wc_ne m c main_v1 (by decide)).symm
  | 1 => ((dat0 m c).arrAt_in 1 rfl _).trans (wc_ne m c main_arg1 (by decide)).symm
  | 2 => ((dat0 m c).arrAt_in 2 rfl _).trans (wc_ne m c main_v5 (by decide)).symm
  | 3 => ((dat0 m c).arrAt_in 3 rfl _).trans (wc_ne m c main_v9 (by decide)).symm
  | 4 => ((dat0 m c).arrAt_in 4 rfl _).trans (wc_ne m c main_arg4 (by decide)).symm
  | 5 => by
    refine Eq.trans ?_ (wc_out m c).symm
    exact (dat0 m c).arrAt_eq_of_after_last 5 t0_0 (by decide +kernel) (outOf m c) fun j => put5 (outOf m c) (by decide +kernel) j

/-- The region's one point is the run of the kernel. -/
theorem body0 (c : Dev nD) : BodyObligation (dat0 m c) defs₀ 𝒱₀ 0 Set.univ := fun t => by
  obtain rfl := fin_N0 t
  rw [bigSep_W0, bigSep_W0]
  rw [show (dat0 m c).Φ t0_0.castSucc = iprop(enter m c ∗ Scratch c ∗ ∃ r, prngReg c r) from rfl,
    show (dat0 m c).Φ t0_0.succ = iprop(Zero c ∗ Scratch c ∗ ∃ r, prngReg c r) from rfl]
  show iprop(_ ∗ _ ∗ (∃ d, owns (c : Thread nD τ) (Memref.whole cc0_stg0_0) fullShare ((dat0 m c).before 0 t0_0 d))
      ∗ (∃ d, owns (c : Thread nD τ) (Memref.whole cc0_stg1_0) fullShare ((dat0 m c).before 1 t0_0 d))
      ∗ (∃ d, owns (c : Thread nD τ) (Memref.whole cc0_stg2_0) fullShare ((dat0 m c).before 2 t0_0 d))
      ∗ (∃ d, owns (c : Thread nD τ) (Memref.whole cc0_stg3_0) fullShare ((dat0 m c).before 3 t0_0 d))
      ∗ (∃ d, owns (c : Thread nD τ) (Memref.whole cc0_stg4_0) fullShare ((dat0 m c).before 4 t0_0 d))
      ∗ (∃ d, owns (c : Thread nD τ) (Memref.whole cc0_stg5_0) fullShare ((dat0 m c).before 5 t0_0 d)))
    ⊢ wp frame (wpE (defs₀ (F := F)) Variants.none (c : Thread nD τ) none) Set.univ (bodyAt0 t0_0) fun _ =>
      iprop(_ ∗ _ ∗ owns (c : Thread nD τ) (Memref.whole cc0_stg0_0) fullShare (xOf m c)
        ∗ owns (c : Thread nD τ) (Memref.whole cc0_stg1_0) fullShare (wqOf m c)
        ∗ owns (c : Thread nD τ) (Memref.whole cc0_stg2_0) fullShare (kOf m c)
        ∗ owns (c : Thread nD τ) (Memref.whole cc0_stg3_0) fullShare (vOf m c)
        ∗ owns (c : Thread nD τ) (Memref.whole cc0_stg4_0) fullShare (woOf m c)
        ∗ owns (c : Thread nD τ) (Memref.whole cc0_stg5_0) fullShare (outOf m c))
  simp only [before0, before1, before2, before3, before4, owns_whole]
  unfold enter
  iintro ⟨⟨⟨%K, HE, Hg⟩, Hs, Hr⟩, HO, ⟨%d0, S0⟩, ⟨%d1, S1⟩, ⟨%d2, S2⟩, ⟨%d3, S3⟩, ⟨%d4, S4⟩, ⟨%d5, S5⟩⟩
  ihave HO := (Idealize.ShloMosaic.TalkSites.owesAt_elim (dat0 m c) 0 _ (O₀ c) (owed_first m c)) $$ HO
  iapply (body_spec (qOf m) (kOf m) (vOf m) K c (fun _ => fullShare) (xOf m c) (wqOf m c) (woOf m c) ((dat0 m c).before 5 t0_0 d5) rfl) $$ [HE Hg Hs HO S0 S1 S2 S3 S4 S5]
  · isplitl [HE]; · iexact HE
    isplitl [Hg]; · iexact Hg
    isplitl [Hs]; · iexact Hs
    isplitr [HO]
    · unfold Staged
      isplitl [S0]; · iexact S0
      isplitl [S1]; · iexact S1
      isplitl [S2]; · iexact S2
      isplitl [S3]; · iexact S3
      isplitl [S4]; · iexact S4
      iexact S5
    iexact HO
  unfold Staged
  iintro ⟨Hz, Hs, ⟨S0, S1, S2, S3, S4, S5⟩, ⟨%W, HO⟩⟩
  isplitl [Hz Hs Hr]
  · isplitl [Hz]; · iexact Hz
    isplitl [Hs]; · iexact Hs
    iexact Hr
  isplitl [HO]; · iapply (Idealize.ShloMosaic.TalkSites.owesAt_intro (dat0 m c) 0 _ 0 (owed_last m c) rfl W); iexact HO
  isplitl [S0]; · iexact S0
  isplitl [S1]; · iexact S1
  isplitl [S2]; · iexact S2
  isplitl [S3]; · iexact S3
  isplitl [S4]; · iexact S4
  iexact S5

end Cert.KernelIdeal
-- ==== Proof.Inputs.lean ====
/- The kernel's inputs at an index: what each device's launch contents give it, and the queries it computes. -/
module

public import proofs.«01_k».proof.Proof.Mix
public import proofs.«01_k».proof.Proof.Oblig
public import Idealize.ShloMosaic.Lib.StableHlo.ReadAt

@[expose] public section

set_option maxRecDepth 65536
set_option maxHeartbeats 0

noncomputable section

namespace Cert.KernelIdeal

open Idealize.ShloMosaic Idealize.ShloMosaic.TcCoe
open Cert.KernelIdeal.Gen

/-- A query of a device's block: the product of its rows with the projection, scaled. -/
theorem query_at (x : FVec Ideal S256x1024 .bf16) (wq : FVec Ideal S1024x1024 .bf16) (w : Fin 256) (f : Fin 1024) :
    k0_pay3 (F := Ideal) x wq (ix3 0 w f) = (∑ k : Fin 1024, x (ix2 w k) * wq (ix2 k f)) * Ideal.ofBits .f32 0x3DB504F3#32 := by
  pointwise [k0_pay3]

/-- Keys cut into blocks, the blocks dealt by residue and gathered: key `j` of residue `r` is `j % 64` in block `4 * (j / 64) + r`. -/
theorem deal_at (k : FVec Ideal S1x4096x8x128 .bf16) (r : Fin 4) (h : Fin 8) (j : Fin 1024) (d : Fin 128)
    (h₁ : S1x4096x8x128.ShapeCasts S4096x8x128) (h₂ : S4096x8x128.ShapeCasts S16x4x64x8x128)
    (h₃ : S16x4x64x8x128.Transposes [1, 3, 0, 2, 4] S4x8x16x64x128) (h₄ : S4x8x16x64x128.ShapeCasts S4x8x1024x128) :
    shapeCast S4x8x1024x128 (transpose S4x8x16x64x128 [1, 3, 0, 2, 4] (shapeCast S16x4x64x8x128 (shapeCast S4096x8x128 k h₁) h₂) h₃) h₄ (ix4 r h j d)
      = k (ix4 0 ⟨256 * (j.val / 64) + 64 * r.val + j.val % 64, by omega⟩ h d) := by
  pointwise
  exact congrArg (fun n : Fin 4096 => k (ix4 0 n h d)) (Fin.ext (by show j.val / 64 * 256 + r.val * 64 + j.val % 64 = 256 * (j.val / 64) + 64 * r.val + j.val % 64; omega))

variable (m : (ℓ : Loc nD τ sig) → Buf (Elt Ideal) ℓ) (c : Dev nD)

/-- The arguments of a device at launch, at the types the program reads them at. -/
abbrev xIn : FVec Ideal S1x256x1024 .bf16 := m (c.tc.loc main_arg0)
abbrev wqIn : FVec Ideal S1024x1024 .bf16 := m (c.tc.loc main_arg1)
abbrev kIn : FVec Ideal S1x4096x8x128 .bf16 := m (c.tc.loc main_arg2)
abbrev vIn : FVec Ideal S1x4096x8x128 .bf16 := m (c.tc.loc main_arg3)
abbrev woIn : FVec Ideal S1024x1024 .bf16 := m (c.tc.loc main_arg4)

/-- The rows of a device's activations, -/
theorem x_at (w : Fin 256) (f : Fin 1024) : xOf m c (ix2 w f) = xIn m c (ix3 0 w f) := by
  unfold xOf Wb Wa
  after_reads_at

/-- the projections, -/
theorem wq_eq : wqOf m c = wqIn m c := V_main_arg1 m c

theorem wo_eq : woOf m c = woIn m c := V_main_arg4 m c

/-- and the keys and values, dealt by residue. -/
theorem k_at (r : Fin 4) (h : Fin 8) (j : Fin 1024) (d : Fin 128) :
    kOf m c (ix4 r h j d) = kIn m c
      (ix4 0 ⟨256 * (j.val / 64) + 64 * r.val + j.val % 64, by omega⟩ h d) := by
  refine Eq.trans ?_ (deal_at (kIn m c) r h j d (by decide) (by decide) (by decide) (by decide))
  unfold kOf Wb Wa
  after_reads_simp
  try simp -implicitDefEqProofs only [StableHlo.TRef.toBuf, StableHlo.TRef.ofBuf, cast_cast, cast_eq]
  rfl

theorem v_at (r : Fin 4) (h : Fin 8) (j : Fin 1024) (d : Fin 128) :
    vOf m c (ix4 r h j d) = vIn m c
      (ix4 0 ⟨256 * (j.val / 64) + 64 * r.val + j.val % 64, by omega⟩ h d) := by
  refine Eq.trans ?_ (deal_at (vIn m c) r h j d (by decide) (by decide) (by decide) (by decide))
  unfold vOf Wb Wa
  after_reads_simp
  try simp -implicitDefEqProofs only [StableHlo.TRef.toBuf, StableHlo.TRef.ofBuf, cast_cast, cast_eq]
  rfl

/-- The queries of a device. -/
theorem q_at (w : Fin 256) (f : Fin 1024) :
    qOf m c (ix3 0 w f) = (∑ k : Fin 1024, xIn m c (ix3 0 w k)
      * wqIn m c (ix2 k f)) * Ideal.ofBits .f32 0x3DB504F3#32 := by
  refine (query_at _ _ w f).trans ?_
  refine congrArg (· * _) (Finset.sum_congr rfl fun k _ => ?_)
  rw [x_at, wq_eq]

end Cert.KernelIdeal
-- ==== Proof.Finite.lean ====
/- What the precondition says: the activations, the query projection and the keys are real numbers. -/
module

public import proofs.«01_k».proof.Defs
public import Idealize.ShloMosaic.Lib.ReduceAll
public import Idealize.ShloMosaic.Lib.Pointwise

@[expose] public section

set_option maxRecDepth 65536
set_option maxHeartbeats 0

noncomputable section

namespace Cert.Proof

open Idealize.ShloMosaic Idealize.ShloMosaic.TcCoe

/-! ## The shape relations of the two prints of the precondition -/

theorem facts_device : Cert.Pre_finite_KernelIdeal.Facts where
  bcast_S_S1x256x1024 := by decide
  reducesTo_S1x256x1024_S_d0_1_2 := by decide
  h_S_ := by decide
  bcast_S_S1024x1024 := by decide
  reducesTo_S1024x1024_S_d0_1 := by decide
  bcast_S_S1x4096x8x128 := by decide
  reducesTo_S1x4096x8x128_S_d0_1_2_3 := by decide

theorem facts_whole : Cert.Pre_finite_ReferenceIdeal.Facts where
  bcast_S_S1x1024x1024 := by decide
  reducesTo_S1x1024x1024_S_d0_1_2 := by decide
  h_S_ := by decide
  bcast_S_S1024x1024 := by decide
  reducesTo_S1024x1024_S_d0_1 := by decide
  bcast_S_S1x16384x8x128 := by decide
  reducesTo_S1x16384x8x128_S_d0_1_2_3 := by decide

/-! ## An element below infinity in magnitude is a real number -/

theorem infinite_bits : Ideal.ofBits .bf16 0x7F80#16 = ⊤ := by simp [Ideal.ofBits, Ideal.ieee]

theorem real_of_abs (x : EReal) (h : Ideal.cmp .olt (max x (-x)) (Ideal.ofBits .bf16 0x7F80#16) = 1#1) : ((x.toReal : ℝ) : EReal) = x := by
  rw [infinite_bits] at h
  induction x using EReal.rec with
  | bot => simp [Ideal.cmp] at h
  | top => simp [Ideal.cmp] at h
  | coe r => rfl

/-- An array whose magnitudes are all below infinity holds reals. -/
theorem all_real {s t : Shape} {axes : List (Fin s.rank)} [Subsingleton t.Idx] (x : FVec Ideal s .bf16) (hb : (⟨0, ![]⟩ : Shape).BroadcastsInDim s (![] : Fin 0 → Fin s.rank))
    (init : IVec ⟨0, ![]⟩ 1) (h : s.ReducesTo axes t) (hu : 0 < (⟨0, ![]⟩ : Shape).numel) (j : t.Idx)
    (e : Host.reduce IntOp.andi (cmpf .olt (Host.absf x) (broadcastInDim s ![] hb (constant ⟨0, ![]⟩ .bf16 0x7F80#16))) init h hu j = 1#1) (i : s.Idx) :
    (((x i).toReal : ℝ) : EReal) = x i :=
  real_of_abs (x i) (Host.reduce_andi_all _ init h hu j e i)

/-- The precondition's meaning on one device's blocks: -/
theorem reals_of_fn [Cert.Pre_finite_KernelIdeal.Facts] (x : FVec Ideal ⟨3, ![1, 256, 1024]⟩ .bf16) (wq : FVec Ideal ⟨2, ![1024, 1024]⟩ .bf16)
    (k v : FVec Ideal ⟨4, ![1, 4096, 8, 128]⟩ .bf16) (wo : FVec Ideal ⟨2, ![1024, 1024]⟩ .bf16)
    (e : Cert.Pre_finite_KernelIdeal.fn (F := Ideal) x wq k v wo = fun _ => 1#1) :
    (∀ i, (((x i).toReal : ℝ) : EReal) = x i) ∧ (∀ i, (((wq i).toReal : ℝ) : EReal) = wq i) ∧ (∀ i, (((k i).toReal : ℝ) : EReal) = k i) := by
  have e := congrFun e (fun b => b.elim0)
  obtain ⟨e, hk⟩ := IntOp.andi_eq_one.1 e
  obtain ⟨hx, hw⟩ := IntOp.andi_eq_one.1 e
  exact ⟨all_real x _ _ _ _ _ hx, all_real wq _ _ _ _ _ hw, all_real k _ _ _ _ _ hk⟩

/-- The scale is a real number. -/
theorem scale_real : ∃ z : ℝ, Ideal.ofBits .f32 0x3DB504F3#32 = (z : EReal) := by
  simp [Ideal.ofBits, Ideal.ieee]
  exact ⟨_, rfl⟩

end Cert.Proof
-- ==== Proof.Share.lean ====
/- What the launch allocates is dealt among the devices: tokens and credits go to the device that uses them, and a device opens its cells. -/
module

public import proofs.«01_k».proof.Proof.Body
public import Idealize.ShloMosaic.Harness.Basic

@[expose] public section

set_option maxRecDepth 65536
set_option maxHeartbeats 0

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Ix (Elt F) ℕ UU ℕ

/-! ## Products over peers and channels -/

/-- Something for each channel and peer. -/
def all (P : Fin 3 → Fin 5 → sProp 𝕄) : sProp 𝕄 := bigSep Finset.univ fun ch => bigSep Finset.univ fun k => P k ch

theorem all_eq (P : Fin 3 → Fin 5 → sProp 𝕄) : all P = five fun ch => three fun k => P k ch := by
  unfold all; rw [five_eq]; simp only [three_eq]
theorem all_sep (P P' : Fin 3 → Fin 5 → sProp 𝕄) : all (fun k ch => iprop(P k ch ∗ P' k ch)) = iprop(all P ∗ all P') := by
  unfold all; simp only [bigSep_sep']
theorem all_swap (P : Fin 3 → Fin 5 → sProp 𝕄) : all P = three fun k => bigSep Finset.univ fun ch => P k ch := by
  unfold all; rw [bigSep_univ_comm, three_eq]
/-- The cells that the kernel call owns, by direction. -/
theorem sx_eq (Φ : Sx → sProp 𝕄) : bigSep Finset.univ Φ = iprop(all (fun k ch => Φ (0, k, ch)) ∗ all fun k ch => Φ (1, k, ch)) := by
  unfold all
  rw [bigSep_univ_prod, BI.bigSep_fin_two, bigSep_univ_prod, bigSep_univ_prod, bigSep_univ_comm,
    bigSep_univ_comm (fun (k : Fin 3) (ch : Fin 5) => Φ (1, k, ch))]
  rfl
theorem dx_eq (Φ : D → sProp 𝕄) :
    bigSep Finset.univ Φ = bigSep Finset.univ fun k => iprop(Φ (0, k) ∗ Φ (1, k)) := by
  rw [bigSep_univ_prod, BI.bigSep_fin_two, bigSep_sep']
  rfl

/-- Peers in pairs: who is whose `k`-th is whose `k`-th last. -/
def pairs : Dev nD × Fin 3 ≃ Dev nD × Fin 3 :=
  ⟨fun p => (peer p.1 p.2, p.2.rev), fun p => (peer p.1 p.2, p.2.rev), fun p => Prod.ext (peer_rev p.1 p.2) (Fin.rev_rev p.2),
    fun p => Prod.ext (peer_rev p.1 p.2) (Fin.rev_rev p.2)⟩
theorem rev_peer (c : Dev nD) (k : Fin 3) : peer (peer c k.rev) k = c := by revert c k; decide
/-- The devices turned by `k`. -/
def turn (k : Fin 3) : Dev nD ≃ Dev nD := ⟨fun c => peer c k, fun c => peer c k.rev, fun c => peer_rev c k, fun c => rev_peer c k⟩

theorem deal_pairs (Φ : Dev nD → Fin 3 → sProp 𝕄) :
    (bigSep Finset.univ fun c => bigSep Finset.univ fun k => Φ c k)
      = bigSep Finset.univ fun c => bigSep Finset.univ fun k => Φ (peer c k) k.rev := by
  rw [← bigSep_univ_prod (fun p : Dev nD × Fin 3 => Φ p.1 p.2), bigSep_univ_equiv pairs (fun p : Dev nD × Fin 3 => Φ p.1 p.2), bigSep_univ_prod]
  rfl
theorem deal_turn (Φ : Dev nD → Fin 3 → Fin 5 → sProp 𝕄) :
    (bigSep Finset.univ fun c => all (Φ c)) = bigSep Finset.univ fun c => all fun k ch => Φ (peer c k) k ch := by
  have e : ∀ Ψ : Dev nD → Fin 3 → Fin 5 → sProp 𝕄, (bigSep Finset.univ fun c => all (Ψ c))
      = bigSep Finset.univ fun ch => bigSep Finset.univ fun k => bigSep Finset.univ fun c => Ψ c k ch := fun Ψ => by
    unfold all; rw [bigSep_univ_comm]
    exact bigSep_congr fun ch _ => bigSep_univ_comm _
  rw [e, e]
  exact bigSep_congr fun ch _ => bigSep_congr fun k _ => bigSep_univ_equiv (turn k) fun c => Φ c k ch

/-! ## Tokens -/

abbrev osem : Sx → SemLoc sig := fun s => sloc (skd s)

theorem skd_inj : Function.Injective skd := by decide
theorem skd_ne_bar : ∀ s : Sx, skd s ≠ .bar := by decide
theorem osem_inj : Function.Injective osem := fun _ _ h => skd_inj (sloc_inj h)

def barEmb : Dev nD ↪ GSem nD τ sig := ⟨fun c => cell c .bar, fun _ _ h => (cell_inj.mp h).1⟩
def scEmb : Dev nD × Sx ↪ GSem nD τ sig :=
  ⟨fun p => cell p.1 (skd p.2), fun _ _ h => Prod.ext (cell_inj.mp h).1 (skd_inj (cell_inj.mp h).2)⟩
/-- The cells funded open at launch, and those funded dormant. -/
abbrev barCells : Finset (GSem nD τ sig) := Finset.univ.map barEmb
abbrev scCells : Finset (GSem nD τ sig) := Finset.univ.map scEmb

/-- The duties of a device's cells. -/
abbrev Tx : Type := D ⊕ Sx
abbrev tkd : Tx → Kd
  | .inl _ => .bar
  | .inr s => skd s
abbrev tdu : Tx → D
  | .inl d => d
  | .inr _ => (0, 0)
theorem t_inj : Function.Injective fun t : Tx => (tkd t, tdu t) := by
  rintro (d | s) (d' | s') h
  · exact congrArg _ (congrArg Prod.snd h)
  · exact absurd (congrArg Prod.fst h).symm (skd_ne_bar s')
  · exact absurd (congrArg Prod.fst h) (skd_ne_bar s)
  · exact congrArg _ (skd_inj (congrArg Prod.fst h))
def tEmb : Dev nD × Tx ↪ GSem nD τ sig × ℕ × D :=
  ⟨fun p => (cell p.1 (tkd p.2), 0, tdu p.2), fun p p' h =>
    Prod.ext (cell_inj.mp (congrArg Prod.fst h)).1
      (t_inj (Prod.ext (cell_inj.mp (congrArg Prod.fst h)).2 (congrArg (fun x : GSem nD τ sig × ℕ × D => x.2.2) h)))⟩
def allToks : Finset (GSem nD τ sig × ℕ × D) := Finset.univ.map tEmb

theorem disjoint_cells : Disjoint (barCells : Finset (GSem nD τ sig)) scCells := by
  rw [Finset.disjoint_left]
  rintro g h₁ h₂
  obtain ⟨c, -, rfl⟩ := Finset.mem_map.mp h₁
  obtain ⟨p, -, h⟩ := Finset.mem_map.mp h₂
  exact skd_ne_bar p.2 (cell_inj.mp h).2

theorem okd_mem (c : Dev nD) : (o : Option Sx) → cell c (okd o) ∈ (barCells ∪ scCells : Finset (GSem nD τ sig))
  | none => Finset.mem_union_left _ (Finset.mem_map_of_mem barEmb (Finset.mem_univ c))
  | some s => Finset.mem_union_right _ (Finset.mem_map_of_mem scEmb (Finset.mem_univ (c, s)))

/-- The tokens a device pays with: in the barrier, and in the copies. -/
def tokB (c : Dev nD) : sProp 𝕄 :=
  bigSep Finset.univ fun k : Fin 3 => iprop(dutyTok ER (cell (peer c k) .bar) 0 (0, k.rev) ∗ dutyTok ER (cell (peer c k) .bar) 0 (1, k.rev))
def tokC (c : Dev nD) : sProp 𝕄 :=
  iprop((all fun k ch => dutyTok ER (cell c (.snd k ch)) 0 (0, 0)) ∗ all fun k ch => dutyTok ER (cell (peer c k) (.rcv k ch)) 0 (0, 0))

/-- Every token goes to the device that pays with it. -/
theorem toks_dealt :
    (bigSep allToks fun x => (dutyTok ER x.1 x.2.1 x.2.2 : sProp 𝕄))
      = iprop((bigSep Finset.univ fun c : Dev nD => tokB c) ∗ bigSep Finset.univ fun c : Dev nD => tokC c) := by
  unfold allToks tokB tokC
  rw [BI.bigSep_map, bigSep_univ_prod]
  have e : ∀ c : Dev nD, (bigSep Finset.univ fun t : Tx => (dutyTok ER (tEmb (c, t)).1 (tEmb (c, t)).2.1 (tEmb (c, t)).2.2 : sProp 𝕄))
      = iprop((bigSep Finset.univ fun k : Fin 3 => iprop(dutyTok ER (cell c .bar) 0 (0, k) ∗ dutyTok ER (cell c .bar) 0 (1, k)))
        ∗ (all fun k ch => dutyTok ER (cell c (.snd k ch)) 0 (0, 0)) ∗ all fun k ch => dutyTok ER (cell c (.rcv k ch)) 0 (0, 0)) := fun c => by
    rw [bigSep_univ_sum, dx_eq, sx_eq]; rfl
  rw [bigSep_congr fun c _ => e c, bigSep_sep', bigSep_sep', bigSep_sep', deal_pairs fun c k =>
      iprop(dutyTok ER (cell c .bar) 0 (0, k) ∗ dutyTok ER (cell c .bar) 0 (1, k)),
    deal_turn fun c k ch => dutyTok ER (cell c (.rcv k ch)) 0 (0, 0)]

/-! ## Credits -/

/-- What one tally holds at a cell. -/
theorem tally_cell (c d : Dev nD) (x y : Kd) (i j : Ix) (n : ℕ) :
    (tallyAt (cell d y) j n : CellTallies nD τ sig Ix) (cell c x) i = if (c = d ∧ x = y) ∧ i = j then n else 0 := by
  rw [tallyAt_apply]
  exact if_congr (and_congr cell_inj Iff.rfl) rfl rfl
/-- What signals owe at a cell. -/
theorem oB_at (d c : Dev nD) (x : Kd) (i j : Ix) (O : CellTallies nD τ sig Ix) :
    oB d j O (cell c x) i = O (cell c x) i + (if (c = peer d 1 ∧ x = .bar) ∧ i = j then 1 else 0)
      + (if (c = peer d 0 ∧ x = .bar) ∧ i = j then 1 else 0) + (if (c = peer d 2 ∧ x = .bar) ∧ i = j then 1 else 0) := by
  rw [← tally_cell, ← tally_cell, ← tally_cell]; rfl
/-- What a channel's copies owe at a cell. -/
theorem oC_at (d c : Dev nD) (x : Kd) (i : Ix) (ch : Fin 5) (O : CellTallies nD τ sig Ix) :
    oC d ch O (cell c x) i = O (cell c x) i + (if (c = peer d 2 ∧ x = .rcv 2 ch) ∧ i = 0 then amtC ch else 0)
      + (if (c = peer d 1 ∧ x = .rcv 1 ch) ∧ i = 0 then amtC ch else 0) + (if (c = peer d 0 ∧ x = .rcv 0 ch) ∧ i = 0 then amtC ch else 0) := by
  rw [← tally_cell, ← tally_cell, ← tally_cell]; rfl

theorem owed_bar (d c : Dev nD) (i : Ix) :
    O₀ d (cell c .bar) i = (if c = peer d 1 then 1 else 0) + (if c = peer d 0 then 1 else 0) + (if c = peer d 2 then 1 else 0) := by
  unfold O₀ oP
  rw [oB_at, oB_at, oC_at, oC_at, oC_at, oC_at, oC_at]
  fin_cases i <;> simp

theorem owed_rcv (d c : Dev nD) (k : Fin 3) (ch : Fin 5) (i : Ix) :
    O₀ d (cell c (.rcv k ch)) i = if d = peer c k.rev then (if i = 0 then amtC ch else 0) else 0 := by
  have h : ∀ j : Fin 3, (c = peer d j) = (d = peer c j.rev) := by revert c d; decide
  unfold O₀ oP
  rw [oB_at, oB_at, oC_at, oC_at, oC_at, oC_at, oC_at]
  simp only [h, Kd.rcv.injEq, reduceCtorEq, and_false, false_and, if_false, Nat.add_zero, Pi.zero_apply, Finsupp.zero_apply, Nat.zero_add]
  generalize amtC = A
  fin_cases i <;> fin_cases k <;> fin_cases ch <;> simp

theorem launch_bar (c : Dev nD) :
    tallyOn (cell c .bar) (launchCredit (Pipeline.owing O₀) 0 (cell c .bar))
      = (tallyAt (cell c .bar) 0 3 + tallyAt (cell c .bar) 1 3 : CellTallies nD τ sig Ix) := by
  have h : ∀ c : Dev nD, (∑ d : Dev nD, ((if c = peer d 1 then 1 else 0) + (if c = peer d 0 then 1 else 0) + (if c = peer d 2 then 1 else 0))) = 3 := by decide
  have e : launchCredit (Pipeline.owing O₀) 0 (cell c .bar) = (Finsupp.single 0 3 + Finsupp.single 1 3 : Tally Ix) := by
    refine Finsupp.ext fun u => ?_
    rw [Pipeline.launchCredit_owing, Finset.sum_congr rfl fun d _ => owed_bar d c u, h c]
    fin_cases u <;> simp
  unfold tallyAt tallyOn
  rw [e, Pi.single_add]

theorem launch_rcv (c : Dev nD) (k : Fin 3) (ch : Fin 5) :
    tallyOn (cell c (.rcv k ch)) (launchCredit (Pipeline.owing O₀) 0 (cell c (.rcv k ch)))
      = (tallyAt (cell c (.rcv k ch)) 0 (amtC ch) : CellTallies nD τ sig Ix) := by
  unfold tallyAt
  refine congrArg _ (Finsupp.ext fun u => ?_)
  rw [Pipeline.launchCredit_owing, Finset.sum_congr rfl fun d _ => owed_rcv d c k ch u,
    Finset.sum_ite_eq' Finset.univ (peer c k.rev) fun _ => _, if_pos (Finset.mem_univ _), Finsupp.single_apply]
  exact if_congr eq_comm rfl rfl

/-- A device's credits at launch: three of either round of the barrier, and one copy's of every arrival. -/
theorem creds (c : Dev nD) :
    (Pipeline.launchCred O₀ c : sProp 𝕄) ⊢ iprop((cred (tallyAt (cell c .bar) 0 3) ∗ cred (tallyAt (cell c .bar) 1 3))
      ∗ bigSep Finset.univ fun p : Fin 3 × Fin 5 => cred (tallyAt (cell c (.rcv p.1 p.2)) 0 (amtC p.2))) := by
  unfold Pipeline.launchCred
  rw [bigSep_univ_at _ (sloc .bar)]
  refine BI.sep_mono ?_ ?_
  · exact (Entails.of_eq (congrArg cred (launch_bar c))).trans (cred_add _ _).mp
  · refine (bigSep_subset (t := Finset.univ.map ⟨fun p : Fin 3 × Fin 5 => sloc (.rcv p.1 p.2), fun p p' h => ?_⟩) ?_).trans ?_
    · have := sloc_inj (x := .rcv p.1 p.2) (y := .rcv p'.1 p'.2) h; injection this with h h'; exact Prod.ext h h'
    · intro x hx
      obtain ⟨p, -, rfl⟩ := Finset.mem_map.mp hx
      exact Finset.mem_erase.mpr ⟨fun h => Kd.noConfusion (sloc_inj (x := .rcv p.1 p.2) (y := .bar) h), Finset.mem_univ _⟩
    · rw [BI.bigSep_map]
      exact bigSep_mono fun p _ => Entails.of_eq (congrArg cred (launch_rcv c p.1 p.2))

end Cert.KernelIdeal
-- ==== Proof.Opening.lean ====
/- At the region's start a device opens the cells its kernel owns, and holds what the kernel's run asks for. -/
module

public import proofs.«01_k».proof.Proof.Share
public import proofs.«01_k».proof.Proof.Oblig

@[expose] public section

set_option maxRecDepth 65536
set_option maxHeartbeats 0

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Ix (Elt F) ℕ UU ℕ

/-- What a device holds of the protocol before its cells are opened, beside its tokens, its rights to open and its credits: its place in the barrier. -/
def lin (c : Dev nD) : sProp 𝕄 :=
  iprop((three fun k => iprop(dutyTok ER (cell (peer c k) .bar) 0 (0, k.rev) ∗ dutyTok ER (cell (peer c k) .bar) 0 (1, k.rev)
          ∗ reached ER (cell (peer c k) .bar) 0))
    ∗ (cred (tallyAt (cell c .bar) 0 3) ∗ cred (tallyAt (cell c .bar) 1 3) ∗ atPos ER (cell c .bar) 0 ∅ 0)
    ∗ tokC c ∗ (all fun k ch => cred (tallyAt (cell c (.rcv k ch)) 0 (amtC ch)))
    ∗ bigSep Finset.univ fun s : Sx => openTok ER (cell c (skd s)))

section Open

variable (Q0 : Dev nD → Vec F S1x256x1024 .bf16) (Kx Vx : Dev nD → Vec F S4x8x1024x128 .bf16)

/-- One of the invariants. -/
theorem inv_some (K : GSem nD τ sig → ℕ) (c : Dev nD) (s : Sx) :
    (Inv Q0 Kx Vx K : sProp 𝕄) ⊢ cellInv ER (rd Q0 Kx Vx) (K (cell c (skd s))) (cell c (skd s)) := by
  unfold Inv
  exact bigSep_elim (Finset.mem_univ ((c, some s) : Dev nD × Option Sx))

/-- All the cells of a device's kernel are opened at once. -/
theorem open_all (K : GSem nD τ sig → ℕ) (c : Dev nD) :
    iprop(Inv Q0 Kx Vx K ∗ bigSep Finset.univ fun s : Sx => iprop(openTok ER (cell c (skd s)) ∗ semVal (cell c (skd s)) 0))
      ⊢ (|={Set.univ}=> bigSep Finset.univ fun s : Sx => iprop(atPos ER (cell c (skd s)) 0 ∅ 0 ∗ reached ER (cell c (skd s)) 0) : sProp 𝕄) := by
  refine (bigSep_with_persistent (Ψ := fun s : Sx => iprop(|={Set.univ}=> (atPos ER (cell c (skd s)) 0 ∅ 0 ∗ reached ER (cell c (skd s)) 0)))
    fun s _ => ?_).trans (bigSep_fupd _ _)
  iintro ⟨#HI, Ho, Hs⟩
  ihave #Hc := (inv_some Q0 Kx Vx K c s) $$ HI
  iapply (Rounds.cell_open ER (rd Q0 Kx Vx) (g := cell c (skd s)) (Set.mem_univ (K (cell c (skd s)))))
  isplitr; · iexact Hc
  isplitl [Ho] <;> iassumption

/-- The rights to wait and the records of what is opened, among the kernel's needs. -/
theorem open_held (K : GSem nD τ sig → ℕ) (c : Dev nD) :
    iprop(Inv Q0 Kx Vx K ∗ lin c ∗ bigSep Finset.univ fun s : Sx => semVal (cell c (skd s)) 0) ⊢ (|={Set.univ}=> Held c : sProp 𝕄) := by
  unfold lin tokC
  iintro ⟨#HI, ⟨Hb, HB, ⟨Hts, Htr⟩, Hcr, Ho⟩, Hs⟩
  ihave Hos := (Entails.of_eq (bigSep_sep' Finset.univ _ _).symm) $$ [Ho Hs]
  · isplitl [Ho]; · iexact Ho
    iexact Hs
  imod (open_all Q0 Kx Vx K c) $$ [Hos] with H
  · isplitr; · iexact HI
    iexact Hos
  imodintro
  ihave H2 := (Entails.of_eq (bigSep_sep' Finset.univ _ _)) $$ H
  icases H2 with ⟨Ha, Hr⟩
  ihave Ha' := (show (bigSep Finset.univ fun s : Sx => (atPos ER (cell c (skd s)) 0 ∅ 0 : sProp 𝕄)) ⊢ iprop((all fun k ch => atPos ER (cell c (.snd k ch)) 0 ∅ 0) ∗ all fun k ch => atPos ER (cell c (.rcv k ch)) 0 ∅ 0)
      from Entails.of_eq (sx_eq _)) $$ Ha
  ihave Hr' := (show (bigSep Finset.univ fun s : Sx => (reached ER (cell c (skd s)) 0 : sProp 𝕄)) ⊢ iprop((all fun k ch => reached ER (cell c (.snd k ch)) 0) ∗ all fun k ch => reached ER (cell c (.rcv k ch)) 0)
      from Entails.of_eq (sx_eq _)) $$ Hr
  icases Ha' with ⟨Has, Har⟩
  icases Hr' with ⟨Hrs, Hrr⟩
  unfold Held
  isplitl [Hb]; · iexact Hb
  isplitl [Hrr]
  · ihave H3 := (Entails.of_eq (all_swap fun k ch => (reached ER (cell c (.rcv k ch)) 0 : sProp 𝕄))) $$ Hrr
    icases H3 with ⟨A, B, C⟩
    isplitl [C]; · iexact C
    isplitl [B]; · iexact B
    iexact A
  isplitl [HB]; · iexact HB
  isplitl [Hts Htr Hrs]
  · iapply (Entails.of_eq (all_eq fun k ch => (own c k ch : sProp 𝕄)))
    unfold own
    rw [all_sep, all_sep]
    isplitl [Hts]; · iexact Hts
    isplitl [Hrs]; · iexact Hrs
    iexact Htr
  · iapply (Entails.of_eq (all_eq fun k ch => (wts c k ch : sProp 𝕄)))
    unfold wts wrcv
    rw [all_sep, all_sep]
    isplitl [Has]; · iexact Has
    isplitl [Har]; · iexact Har
    iexact Hcr

end Open

/-- The counters of the kernel's own semaphores at zero, one by one. -/
theorem own_sems (c : Dev nD) :
    (Pipeline.ownSems0 osem c : sProp 𝕄) = bigSep Finset.univ fun s : Sx => semVal (cell c (skd s)) 0 := rfl

/-- They are what the kernel's run leaves at zero, but for the barrier. -/
theorem zero_own (c : Dev nD) : (Zero c : sProp 𝕄) ⊢ iprop(semVal (cell c .bar) 0 ∗ Pipeline.ownSems0 osem c) := by
  rw [own_sems, sx_eq fun s : Sx => (semVal (cell c (skd s)) 0 : sProp 𝕄), ← all_sep]
  unfold Zero sems
  exact BI.sep_mono (BI.Entails.refl _) (Entails.of_eq (all_eq fun k ch => iprop(semVal (cell c (.snd k ch)) 0 ∗ semVal (cell c (.rcv k ch)) 0)).symm)

variable (m : (ℓ : Loc nD τ sig) → Buf (Elt F) ℓ)

/-- What the launch leaves a device of the protocol. -/
def tk (c : Dev nD) : sProp 𝕄 := iprop(∃ K, Inv (qOf m) (kOf m) (vOf m) K ∗ lin c)

/-- The region is entered. -/
theorem opens (c : Dev nD) : iprop(tk m c ∗ Pipeline.ownSems0 osem c ∗ levAts L lv) ⊢ (|={Set.univ}=> enter m c : sProp 𝕄) := by
  rw [own_sems]
  unfold tk enter Env
  iintro ⟨⟨%K, #HI, Hl⟩, Hs, #Hlev⟩
  imod (open_held (qOf m) (kOf m) (vOf m) K c) $$ [Hl Hs] with H
  · isplitr; · iexact HI
    isplitl [Hl] <;> iassumption
  imodintro
  iexists K
  isplitr
  · isplitr; · iexact Hlev
    iexact HI
  iexact H

end Cert.KernelIdeal
-- ==== Proof.Region.lean ====
/- The region as a segment of the program, entered from what the launch leaves, and the host operations around it. -/
module

public import proofs.«01_k».proof.Proof.Opening

@[expose] public section

set_option maxRecDepth 65536
set_option maxHeartbeats 0

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Ix (Elt F) ℕ UU ℕ

variable (m : (ℓ : Loc nD τ sig) → Buf (Elt F) ℓ)

/-! ## The region -/

theorem enters (c : Dev nD) :
    iprop(Pipeline.scopedRest (Pipeline.pin (pcfgs (F := F)) adm 0).spec c ∗ (∃ r, prngReg c r) ∗ StableHlo.held (c.tc : Thread nD τ) ∅ (Wb m c) ∗ enter m c)
      ⊢ (pdats m 0 c).Φ 0 := by
  rw [show (pdats m 0 c).Φ 0 = iprop(enter m c ∗ Scratch c ∗ ∃ r, prngReg c r) from rfl,
    show (Pipeline.scopedRest (Pipeline.pin (pcfgs (F := F)) adm 0).spec c : sProp 𝕄) = Scratch c from scopedRest0_eq c]
  iintro ⟨Hs, Hp, -, He⟩
  isplitl [He]; · iexact He
  isplitl [Hs]; · iexact Hs
  iexact Hp

theorem leaves (c : Dev nD) :
    (pdats m 0 c).Φ (Fin.last (Pipeline.pin (pcfgs (F := F)) adm 0).N)
      ⊢ iprop(Pipeline.scopedRest (Pipeline.pin (pcfgs (F := F)) adm 0).spec c ∗ (∃ r, prngReg c r) ∗ StableHlo.held (c.tc : Thread nD τ) ∅ (Wc m c)
          ∗ Pipeline.ownSems0 osem c ∗ semVal (cell c .bar) 0) := by
  rw [show (pdats m 0 c).Φ (Fin.last (Pipeline.pin (pcfgs (F := F)) adm 0).N) = iprop(Zero c ∗ Scratch c ∗ ∃ r, prngReg c r) from rfl,
    show (Pipeline.scopedRest (Pipeline.pin (pcfgs (F := F)) adm 0).spec c : sProp 𝕄) = Scratch c from scopedRest0_eq c,
    show (StableHlo.held (c.tc : Thread nD τ) ∅ (Wc m c) : sProp 𝕄) = BI.emp from BI.bigSep_empty]
  iintro ⟨Hz, Hs, Hp⟩
  ihave Hz' := (zero_own c) $$ Hz
  icases Hz' with ⟨Hb, Ho⟩
  isplitl [Hs]; · iexact Hs
  isplitl [Hp]; · iexact Hp
  isplitr; · iempintro
  isplitl [Ho]; · iexact Ho
  iexact Hb

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem own_facts : Pipeline.OwnSemFacts spec0 osem := by decide

/-- Every staging semaphore waits at the bottom level; what a core owes lies above. -/
theorem stage_low (w : Fin 6) (s : Fin (spec0 w).nbuf) (i : Ix) : lvOf (kd (.dma ((spec0 w).sem s))) i = 0 := by
  revert i; revert s; revert w; decide
theorem owes_above (c : Dev nD) (t : Fin (cfg0.N + 1)) (g : GSem nD τ sig) (i : Ix) (h : 0 < (dat0 m c).owed t g i) : i ∈ L g ∧ 0 < lv g i := by
  have e : (dat0 m c).owed t = if t.val = 0 then O₀ c else 0 := rfl
  have ha : Above 0 (O₀ c) := (((above_oP c (by decide)).oC c 0 (by decide)).oB c 1 (by decide)).oB c 0 (by decide)
  rw [e] at h
  split at h
  · exact ⟨by unfold L; rw [if_pos (ha g i h).1]; exact Finset.mem_univ _, (ha g i h).2⟩
  · exact absurd h (Nat.lt_irrefl 0)

theorem share_full (c : Dev nD) (w : Fin 6) : (dat0 m c).share w = fullShare := by unfold Dat.share; split <;> rfl

/-- The buffers of the program that are no window's. -/
abbrev offRefs : Finset (DevRef τ sig) := Pipeline.ucRefs τ sig \ Pipeline.arrRefs (τ := τ) spec0

theorem arr_sub : Pipeline.arrRefs (τ := τ) spec0 ⊆ Pipeline.ucRefs τ sig := Pipeline.arrRefs_sub_ucRefs spec0 winFacts0.arr_unscoped

theorem off_same (c : Dev nD) (b : DevRef τ sig) (hb : b ∈ offRefs \ ∅) : Wc m c b = Wb m c b := by
  rw [Finset.sdiff_empty] at hb
  refine Function.update_of_ne (fun e => ?_) _ _
  subst e
  exact (Finset.mem_sdiff.mp hb).2 (Finset.mem_map.mpr ⟨main_v10, Finset.mem_image.mpr ⟨5, Finset.mem_univ _, rfl⟩, rfl⟩)

local notation "ℍ" => Pipeline.HostSeg (Name := ℕ) (U := UU) (pcfgs (F := F)) defs₀ 𝒱₀ L lv
local notation "ℝ𝕊" => Pipeline.RegionSeg (pcfgs (F := F)) adm (pdats m) 0 defs₀ 𝒱₀ L lv

set_option backward.isDefEq.respectTransparency.types false in
def reg0 : ℝ𝕊 0 :=
  Pipeline.RegionSeg.ofTalk (pcfgs (F := F)) adm (pdats m) 0 defs₀ 𝒱₀ L lv 0 osem own_facts ∅ offRefs (Finset.empty_subset _) kit0 rfl
    (fun c => (body0 m c).loose) (fun _ => 0) O₀ (fun c => (owed_first m c).trans (zero_add _).symm) (fun c => owed_last m c) (fun _ => rfl)
    (fun c w => share_full m c w) (Wb m) (Wc m) (off_same m) (tk m) (fun c => semVal (cell c .bar) 0) (enter m) (fun c => semVal (cell c .bar) 0)
    (opens m) (enters m) (leaves m) (fun c => by iintro H; imodintro; iexact H) (fun _ => 0)
    ⟨fun c w s => by rw [L_tc]; exact Finset.mem_univ _, fun c w s => (stage_low w s 0).le, fun c t g i h => owes_above m c t g i h⟩
    (fun _ => iprop(emp)) (fun c w => arr_first m c w) (fun c w => arr_last m c w)

/-! ## The segments -/

/-- What rides beside the buffers before the region, and after. -/
def before (c : Dev nD) : sProp 𝕄 := iprop(tk m c ∗ (∃ r, prngReg c r) ∗ ∃ W, owes (c : Thread nD τ) (O₀ c) W)
def behind (c : Dev nD) : sProp 𝕄 :=
  iprop(semVal (cell c .bar) 0 ∗ (∃ r, prngReg c r) ∗ ∃ W, owes (c : Thread nD τ) (0 : CellTallies nD τ sig Ix) W)

def seg0 : ℍ := Pipeline.HostSeg.ofOps _ _ _ _ _ (Pipeline.ucRefs τ sig) hostOps0
  (fun op h => Pipeline.sub_ucRefs op (List.forall_iff_forall_mem.mp hostOps0_sub op h)) (List.forall_iff_forall_mem.mp hostOps0_fresh) (Wa m) (before m)
def seg1 : ℍ := Pipeline.HostSeg.ofOps _ _ _ _ _ (Pipeline.ucRefs τ sig) hostOps1
  (fun op h => Pipeline.sub_ucRefs op (List.forall_iff_forall_mem.mp hostOps1_sub op h)) (List.forall_iff_forall_mem.mp hostOps1_fresh) (Wc m) behind

theorem reg0_pre (c : Dev nD) :
    iprop(StableHlo.held (c : Thread nD τ) (Pipeline.ucRefs τ sig) (Wb m c) ∗ before m c) ⊢ (reg0 m).pre c := by
  show _ ⊢ iprop(StableHlo.held (c.tc : Thread nD τ) (Pipeline.arrRefs (τ := τ) spec0) (Wb m c) ∗ (∃ r, prngReg c r)
    ∗ (StableHlo.held (c.tc : Thread nD τ) offRefs (Wb m c) ∗ emp) ∗ tk m c ∗ ∃ Wd, owes (c : Thread nD τ) (0 + O₀ c) Wd)
  rw [StableHlo.held_sub_split (c.tc : Thread nD τ) arr_sub (Wb m c), zero_add]
  unfold before
  iintro ⟨⟨Ha, Hf⟩, Ht, Hp, HO⟩
  isplitl [Ha]; · iexact Ha
  isplitl [Hp]; · iexact Hp
  isplitl [Hf]
  · isplitl [Hf]; · iexact Hf
    iempintro
  isplitl [Ht]; · iexact Ht
  iexact HO

theorem reg0_post (c : Dev nD) :
    (reg0 m).post c ⊢ iprop(StableHlo.held (c : Thread nD τ) (Pipeline.ucRefs τ sig) (Wc m c) ∗ behind c) := by
  show iprop(StableHlo.held (c.tc : Thread nD τ) (Pipeline.arrRefs (τ := τ) spec0) (Wc m c) ∗ (∃ r, prngReg c r)
    ∗ (StableHlo.held (c.tc : Thread nD τ) offRefs (Wc m c) ∗ emp) ∗ semVal (cell c .bar) 0
    ∗ ∃ Wd, owes (c : Thread nD τ) (0 : CellTallies nD τ sig Ix) Wd) ⊢ _
  rw [StableHlo.held_sub_split (c.tc : Thread nD τ) arr_sub (Wc m c)]
  unfold behind
  iintro ⟨Ha, Hp, ⟨Hf, -⟩, Hb, HO⟩
  isplitl [Ha Hf]
  · isplitl [Ha] <;> iassumption
  isplitl [Hb]; · iexact Hb
  isplitl [Hp]; · iexact Hp
  iexact HO

/-- The program of a device. -/
def segs : List (Pipeline.Seg (pcfgs (F := F)) adm (pdats m) 0 defs₀ 𝒱₀ L lv) := [.host (seg0 m), .region (reg0 m), .host (seg1 m)]

theorem main_run (c : Dev nD) : main (F := F) c = Pipeline.Seg.run (segs m) :=
  main_segs adm (pdats m) 0 𝒱₀ L lv (seg0 m) (seg1 m) (reg0 m) rfl rfl c

end Cert.KernelIdeal
-- ==== Proof.Run.lean ====
/- The launch, and the run of the whole program from any memory, over any float values. -/
module

public import proofs.«01_k».proof.Proof.Region
public import Idealize.ShloMosaic.Lib.Quiescent

@[expose] public section

set_option maxRecDepth 65536
set_option maxHeartbeats 0

noncomputable section

namespace Cert.KernelIdeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Ix (Elt F) ℕ UU ℕ

variable (m : (ℓ : Loc nD τ sig) → Buf (Elt F) ℓ) (ρ : Dev nD → PrngReg)

/-! ## What the launch allocates -/

/-- The barrier counter is the only one that outlives the kernel call. -/
theorem lasting : ∀ sm : SemLoc sig, sm.isScoped .tc = false → sm = sloc .bar := by decide

theorem lasting_sems (c : Dev nD) : (unscopedSems0 c : sProp 𝕄) = semVal (cell c .bar) 0 := by
  unfold unscopedSems0
  rw [show (Finset.univ.filter fun sm : SemLoc sig => ¬ sm.isScoped .tc = true) = {sloc .bar} from by decide, BI.bigSep_singleton]

/-- The protocol's share of the launch. -/
def ghost : sProp 𝕄 := BI.own (ER (launchOf barCells scCells allToks))
/-- It is given to the first device. -/
def gift (c : Dev nD) : sProp 𝕄 := if c = 0 then ghost else BI.emp

theorem gift_all : bigSep Finset.univ (gift (F := F)) = ghost := by
  rw [bigSep_univ_at _ (0 : Dev nD), show (gift (F := F) 0) = ghost from if_pos rfl,
    bigSep_congr (Ψ := fun _ => BI.emp) fun c hc => by
      unfold gift; exact if_neg (Finset.mem_erase.mp hc).1,
    BI.bigSep_emp_const]
  exact BI.equiv_iff.mp BI.sep_emp

def u₀ : UU :=
  (initOf (Pipeline.cells (Pipeline.pin (pcfgs (F := F)) adm) cellOf_inj) (Pipeline.launchToks (Pipeline.pin (pcfgs (F := F)) adm) cellOf_inj),
    launchOf barCells scCells allToks)

/-! ## The launch -/

/-- What every device may know: the invariants, and that the barriers have started. -/
def records (K : GSem nD τ sig → ℕ) : sProp 𝕄 :=
  iprop(Inv (qOf m) (kOf m) (vOf m) K ∗ bigSep barCells fun g => reached ER g 0)
instance records_persistent (K : GSem nD τ sig → ℕ) : BI.Persistent (records m K) := by unfold records; infer_instance

/-- What a device alone holds of the protocol. -/
def mine (c : Dev nD) : sProp 𝕄 :=
  iprop(tokB c ∗ tokC c ∗ atPos ER (cell c .bar) 0 ∅ 0 ∗ bigSep Finset.univ fun s : Sx => openTok ER (cell c (skd s)))

/-- What a device alone holds beside the protocol. -/
def rest (c : Dev nD) : sProp 𝕄 :=
  iprop(StableHlo.held (c : Thread nD τ) (Pipeline.ucRefs τ sig) (Wa m c)
    ∗ ((cred (tallyAt (cell c .bar) 0 3) ∗ cred (tallyAt (cell c .bar) 1 3)) ∗ all fun k ch => cred (tallyAt (cell c (.rcv k ch)) 0 (amtC ch)))
    ∗ owes (c : Thread nD τ) (O₀ c) ∅ ∗ ∃ r, prngReg c r)

/-- The segments start from this, and end in that. -/
def T₀ (c : Dev nD) : sProp 𝕄 := iprop(StableHlo.held (c : Thread nD τ) (Pipeline.ucRefs τ sig) (Wa m c) ∗ before m c)
def Tₙ (c : Dev nD) : sProp 𝕄 := iprop(StableHlo.held (c : Thread nD τ) (Pipeline.ucRefs τ sig) (Wd m c) ∗ semVal (cell c .bar) 0)

theorem credits (c : Dev nD) : (Pipeline.launchCred O₀ c : sProp 𝕄)
    ⊢ iprop((cred (tallyAt (cell c .bar) 0 3) ∗ cred (tallyAt (cell c .bar) 1 3)) ∗ all fun k ch => cred (tallyAt (cell c (.rcv k ch)) 0 (amtC ch))) := by
  have h : (bigSep Finset.univ fun p : Fin 3 × Fin 5 => (cred (tallyAt (cell c (.rcv p.1 p.2)) 0 (amtC p.2)) : sProp 𝕄))
      ⊢ all fun k ch => cred (tallyAt (cell c (.rcv k ch)) 0 (amtC ch)) := Entails.of_eq (by unfold all; rw [bigSep_univ_prod, bigSep_univ_comm])
  exact (creds c).trans (BI.sep_mono (BI.Entails.refl _) h)

theorem bar_mem (c : Dev nD) : cell c .bar ∈ (barCells : Finset (GSem nD τ sig)) :=
  Finset.mem_map.mpr ⟨c, Finset.mem_univ _, rfl⟩

theorem start_at (K : GSem nD τ sig → ℕ) (c : Dev nD) : iprop(records m K ∗ (mine c ∗ rest m c)) ⊢ (T₀ m c : sProp 𝕄) := by
  have hr (k : Fin 3) : (records m K : sProp 𝕄) ⊢ reached ER (cell (peer c k) .bar) 0 := by
    unfold records
    exact sep_elim_right.trans (bigSep_elim (bar_mem (peer c k)))
  unfold rest mine T₀ before tk lin tokB
  iintro ⟨#HR, ⟨HtB, HtC, Hat, Ho⟩, Hh, ⟨⟨H0, H1⟩, Hr⟩, HO, Hp⟩
  isplitl [Hh]; · iexact Hh
  isplitr [Hp HO]
  · iexists K
    isplitr
    · iapply (show (records m K : sProp 𝕄) ⊢ Inv (qOf m) (kOf m) (vOf m) K from by unfold records; exact sep_elim_left) $$ HR
    isplitl [HtB]
    · ihave HtB' := (show (bigSep Finset.univ fun k : Fin 3 => (iprop(dutyTok ER (cell (peer c k) .bar) 0 (0, k.rev) ∗ dutyTok ER (cell (peer c k) .bar) 0 (1, k.rev)) : sProp 𝕄))
          ⊢ three fun k => iprop(dutyTok ER (cell (peer c k) .bar) 0 (0, k.rev) ∗ dutyTok ER (cell (peer c k) .bar) 0 (1, k.rev)) from
        Entails.of_eq (three_eq _)) $$ HtB
      icases HtB' with ⟨⟨A0, B0⟩, ⟨A1, B1⟩, A2, B2⟩
      isplitl [A0 B0]
      · isplitl [A0]; · iexact A0
        isplitl [B0]; · iexact B0
        iapply (hr 0) $$ HR
      isplitl [A1 B1]
      · isplitl [A1]; · iexact A1
        isplitl [B1]; · iexact B1
        iapply (hr 1) $$ HR
      · isplitl [A2]; · iexact A2
        isplitl [B2]; · iexact B2
        iapply (hr 2) $$ HR
    isplitl [H0 H1 Hat]
    · isplitl [H0]; · iexact H0
      isplitl [H1] <;> iassumption
    isplitl [HtC]; · iexact HtC
    isplitl [Hr]; · iexact Hr
    iexact Ho
  · isplitl [Hp]; · iexact Hp
    iexists ∅; iexact HO

/-- The launch state of all devices together. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ gift c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ gift c)
      ⊢ (iprop(rest m c ∗ (semVal (cell c .bar) 0 ∗ gift c)) : sProp 𝕄) := by
    rw [show unscopedBufs c (fun b => m ((c : Thread nD τ).loc b)) = StableHlo.held (c : Thread nD τ) (Pipeline.ucRefs τ sig) (Wa m c) from
        Pipeline.unscopedBufs_held c (Wa m c), lasting_sems]
    unfold rest
    iintro ⟨Hh, Hus, HO, Hcr, Hp, HG⟩
    ihave Hc := (credits c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (cell c .bar) 0 : sProp 𝕄)) ⊢ bigSep barCells (fun g => (semVal g 0 : sProp 𝕄)) :=
    Entails.of_eq (BI.bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (cell c .bar) 0 ∅ 0 : sProp 𝕄)) :=
    Entails.of_eq (BI.bigSep_map (s := Finset.univ) barEmb (Φ := fun g : GSem nD τ sig => (atPos ER g 0 ∅ 0 : sProp 𝕄)))
  have hopen : bigSep scCells (fun g => (openTok ER g : sProp 𝕄))
      ⊢ bigSep Finset.univ (fun c : Dev nD => bigSep Finset.univ fun s : Sx => (openTok ER (cell c (skd s)) : sProp 𝕄)) :=
    Entails.of_eq (by unfold scCells; rw [BI.bigSep_map, bigSep_univ_prod]; rfl)
  have hinv (K : GSem nD τ sig → ℕ) : bigSep (barCells ∪ scCells) (fun g => (cellInv ER (rd (qOf m) (kOf m) (vOf m)) (K g) g : sProp 𝕄))
      ⊢ Inv (qOf m) (kOf m) (vOf m) K := by
    unfold Inv
    exact bigSep_intro_persistent fun p _ => bigSep_elim (okd_mem p.1 p.2)
  have htok : bigSep allToks (fun x => (dutyTok ER x.1 x.2.1 x.2.2 : sProp 𝕄))
      ⊢ iprop((bigSep Finset.univ fun c : Dev nD => tokB c) ∗ bigSep Finset.univ fun c : Dev nD => tokC c) := Entails.of_eq toks_dealt
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ gift c))
      ⊢ (iprop((bigSep Finset.univ fun c : Dev nD => rest m c) ∗ (bigSep Finset.univ fun c : Dev nD => semVal (cell c .bar) 0)
          ∗ bigSep Finset.univ (gift (F := F))) : sProp 𝕄) from
    (bigSep_mono fun c _ => hcore c).trans ((Entails.of_eq (bigSep_sep' Finset.univ _ _)).trans
      (BI.sep_mono (BI.Entails.refl _) (Entails.of_eq (bigSep_sep' Finset.univ _ _))))) $$ H
  icases H' with ⟨HB, Hv, HG⟩
  ihave Hu := (show bigSep Finset.univ (gift (F := F)) ⊢ BI.own (ER (launchOf barCells scCells allToks)) from Entails.of_eq gift_all) $$ HG
  imod (Rounds.fund_launch ER (rd (qOf m) (kOf m) (vOf m)) disjoint_cells (fun g _ h => h) allToks) $$ [Hv Hu] with ⟨%K, -, #Hinv, #Hr, Hat, Hopen, Htok⟩
  · isplitl [Hv]
    · iapply hv $$ Hv
    · iexact Hu
  imodintro
  iapply (bigSep_with_persistent (R := records m K) (Φ := fun c => iprop(mine c ∗ rest m c)) fun c _ => start_at m K c)
  isplitr
  · unfold records
    isplitr; · iapply (hinv K) $$ Hinv
    iexact Hr
  iapply (Entails.of_eq (bigSep_sep' Finset.univ (fun c : Dev nD => mine c) (fun c : Dev nD => rest m c)).symm)
  isplitr [HB]
  · ihave Ht := htok $$ Htok
    icases Ht with ⟨HtB, HtC⟩
    unfold mine
    iapply (Entails.of_eq (bigSep_sep' Finset.univ _ _).symm)
    isplitl [HtB]; · iexact HtB
    iapply (Entails.of_eq (bigSep_sep' Finset.univ _ _).symm)
    isplitl [HtC]; · iexact HtC
    iapply (Entails.of_eq (bigSep_sep' Finset.univ _ _).symm)
    isplitl [Hat]; · iapply hat $$ Hat
    iapply hopen $$ Hopen
  · iexact HB

/-! ## What the run leaves -/

/-- The operations before the region write no argument. -/
theorem wd_arg (c : Dev nD) (b : Ref sig .tc) (h : b ≠ main_v10) (h' : b ≠ main_v11) : Wd m c (Proc.devRef .tc b) = Wb m c (Proc.devRef .tc b) := by
  refine Eq.trans ?_ (wc_ne m c b h)
  show StableHlo.after hostOps1 (Wc m c) (Proc.devRef .tc b) = _
  rw [hostOps1, StableHlo.after_cons, StableHlo.after_nil, StableHlo.unary_result_ne _ _ _ _ _ _ h']

/-- What a device's result is made of. -/
theorem wd_out (c : Dev nD) : Wd m c (Proc.devRef .tc main_v11) = broadcastInDim S1x256x1024 ![1, 2] bcast_S256x1024_S1x256x1024_1_2 (outOf m c) := by
  rw [← wc_out m c]
  show StableHlo.after hostOps1 (Wc m c) (Proc.devRef .tc main_v11) = _
  rw [hostOps1, StableHlo.after_cons, StableHlo.after_nil, StableHlo.unary_result]

/-- The buffers the claims speak of. -/
def told : Finset (DevRef τ sig) :=
  {Proc.devRef .tc main_arg0, Proc.devRef .tc main_arg1, Proc.devRef .tc main_arg2, Proc.devRef .tc main_arg3, Proc.devRef .tc main_arg4,
    Proc.devRef .tc main_v11}

theorem told_sub : told ⊆ Pipeline.ucRefs τ sig := by
  intro b hb
  simp only [told, Finset.mem_insert, Finset.mem_singleton] at hb
  rcases hb with rfl | rfl | rfl | rfl | rfl | rfl <;> exact Pipeline.devRef_mem_ucRefs rfl

/-- A whole buffer of a device. -/
abbrev pt (c : Dev nD) (b : Ref sig .tc) (f : b.ty.Contents (Elt F)) : sProp 𝕄 := (Memref.whole b).view.loc (c : Thread nD τ) ↦{fullShare} f

theorem told_eq (c : Dev nD) (W : Valuation τ sig (Elt F)) : (StableHlo.held (c : Thread nD τ) told W : sProp 𝕄)
    = iprop(pt c main_arg0 (W main_arg0) ∗ pt c main_arg1 (W main_arg1) ∗ pt c main_arg2 (W main_arg2) ∗ pt c main_arg3 (W main_arg3)
        ∗ pt c main_arg4 (W main_arg4) ∗ pt c main_v11 (W main_v11)) := by
  unfold StableHlo.held
  rw [bigSep_eq_bigSepL_of_eq [Proc.devRef .tc main_arg0, Proc.devRef .tc main_arg1, Proc.devRef .tc main_arg2, Proc.devRef .tc main_arg3,
    Proc.devRef .tc main_arg4, Proc.devRef .tc main_v11] (by decide) (by decide)]
  rfl

/-- The arguments are as launched and the result is what the device computes. -/
def Told (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_v11) = broadcastInDim S1x256x1024 ![1, 2] bcast_S256x1024_S1x256x1024_1_2 (outOf m c)

set_option backward.isDefEq.respectTransparency.types false in
/-- From any memory with zero counters every weakly fair run of the program on the four devices ends, with the arguments as they were, each device's
    result what the protocol makes of the launch's contents, and every counter at zero. -/
theorem run_main : θ_run defs (onTc (τ := τ) (main (F := F))) ⟨m, fun _ => 0, ρ⟩ (fun r => (∀ c : Dev nD, Told m c r.2) ∧ r.2.sem = fun _ => 0) :=
  Pipeline.θ_run_regions_kit_sems (pcfgs (F := F)) adm (pdats m) 0 cellOf_inj EP defs₀ 𝒱₀ L lv m ρ main (segs m)
    (fun c Q => by rw [main_run m c])
    (by simp only [segs, Pipeline.Seg.pipes_host, Pipeline.Seg.pipes_region, Pipeline.Seg.pipes_nil]; decide)
    (O₀ := O₀) (hL := L_of_ne) (G := gift) (u₀ := u₀)
    (hu₀ := by
      rw [gift_all]
      unfold u₀ ghost
      iintro Hu
      ihave H := (ownU_pair _ _) $$ Hu
      icases H with ⟨HP, HX⟩
      imodintro
      isplitl [HP]; · iexact HP
      iexact HX)
    (T₀ := T₀ m) (Tₙ := Tₙ m)
    (hch := by
      refine ⟨fun c => .rfl, fun c => reg0_pre m c, fun c => reg0_post m c, fun c => ?_⟩
      show iprop(StableHlo.held (c : Thread nD τ) (Pipeline.ucRefs τ sig) (Wd m c) ∗ behind c)
        ⊢ iprop(Tₙ m c ∗ ∃ W, owes (c : Thread nD τ) (0 : CellTallies nD τ sig Ix) W)
      unfold behind Tₙ
      iintro ⟨Hh, Hb0, -, HO⟩
      isplitr [HO]
      · isplitl [Hh] <;> iassumption
      · iexact HO)
    (hinit := init m ρ)
    (QY := fun c s => Told m c s ∧ s.sem (cell c .bar) = 0)
    (hfin := fun c s' => by
      unfold Tₙ
      rw [StableHlo.held_sub_split (c : Thread nD τ) told_sub, told_eq]
      iintro ⟨⟨⟨⟨H0, H1, H2, H3, H4, Ho⟩, -⟩, Hb0⟩, HSI⟩
      icombine HSI H0 gives %h0
      icombine HSI H1 gives %h1
      icombine HSI H2 gives %h2
      icombine HSI H3 gives %h3
      icombine HSI H4 gives %h4
      icombine HSI Ho gives %ho
      icombine HSI Hb0 gives %hb
      imodintro
      isplitr
      · ipureintro
        exact ⟨⟨(Buf.eq_of_forall_mem_univ h0).trans ((wd_arg m c main_arg0 (by decide) (by decide)).trans (V_main_arg0 m c)),
          (Buf.eq_of_forall_mem_univ h1).trans ((wd_arg m c main_arg1 (by decide) (by decide)).trans (V_main_arg1 m c)),
          (Buf.eq_of_forall_mem_univ h2).trans ((wd_arg m c main_arg2 (by decide) (by decide)).trans (V_main_arg2 m c)),
          (Buf.eq_of_forall_mem_univ h3).trans ((wd_arg m c main_arg3 (by decide) (by decide)).trans (V_main_arg3 m c)),
          (Buf.eq_of_forall_mem_univ h4).trans ((wd_arg m c main_arg4 (by decide) (by decide)).trans (V_main_arg4 m c)),
          (Buf.eq_of_forall_mem_univ ho).trans (wd_out m c)⟩, by simpa using hb⟩
      iexact HSI)
    (hQ := fun s h hs => ⟨fun c => (h c).1, sem_eq_zero hs fun c sm hsm => by
        obtain rfl := lasting sm hsm
        exact (h c).2⟩)

end Cert.KernelIdeal
-- ==== Proof.Frames.lean ====
/- The frames of the two kernels, read off the one run, and of the reference. -/
module

public import proofs.«01_k».proof.Proof.Run
public import proofs.«01_k».proof.Proof.Gen.Kernel
public import proofs.«01_k».proof.Proof.Gen.ReferenceIdeal.Run
public import proofs.«01_k».proof.Defs

@[expose] public section

set_option maxRecDepth 65536
set_option maxHeartbeats 0

noncomputable section

namespace Cert.Proof

open Idealize.ShloMosaic Idealize.SL.Sem
open Cert.KernelIdeal (Told run_main)

/-- The kernel over the ideal floats leaves its arguments and its counters as they were. -/
theorem frame_ideal : Cert.quiescent_KernelIdeal := fun m ρ _ =>
  (θ_run Cert.KernelIdeal.defs _ _).mono
    (fun _ h => ⟨fun c => ⟨(h.1 c).1, (h.1 c).2.1, (h.1 c).2.2.1, (h.1 c).2.2.2.1, (h.1 c).2.2.2.2.1⟩, h.2⟩) (run_main (F := Ideal) m ρ)

/-- The two prints of the kernel have the same body, -/
theorem same_body : @Cert.Kernel.cc0_body Bits _ _ = @Cert.KernelIdeal.cc0_body Bits _ _ := rfl

theorem same_table : @Cert.Kernel.defs₀ Bits _ _ = @Cert.KernelIdeal.defs₀ Bits _ _ := by
  unfold Cert.Kernel.defs₀ Cert.KernelIdeal.defs₀
  rw [same_body]
  refine congrArg Defs.onTc (funext fun l => funext fun a => ?_)
  match l, a with
  | 0, (t, s) => rfl
  | ⟨_ + 1, h⟩, _ => exact absurd h (Nat.not_lt.2 (Nat.le_add_left _ _))

/-- and so the same functions. -/
theorem same_defs : Cert.Kernel.defs (F := Bits) = Cert.KernelIdeal.defs (F := Bits) := congrArg (Pipeline.defs _) same_table

/-- The kernel as printed leaves its arguments and its counters as they were. -/
theorem frame_kernel : Cert.quiescent_Kernel := fun m ρ _ => by
  have h := run_main (F := Bits) m ρ
  rw [← same_defs] at h
  exact (θ_run (Cert.Kernel.defs (F := Bits)) _ _).mono
    (fun _ h => ⟨fun c => ⟨(h.1 c).1, (h.1 c).2.1, (h.1 c).2.2.1, (h.1 c).2.2.2.1, (h.1 c).2.2.2.2.1⟩, h.2⟩) h

/-- The reference leaves its arguments as they were, and has no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof
-- ==== Proof.Algebra.lean ====
/- The value claim: from blocks of the same arrays, finite where asked, the kernel's devices end with the blocks of the reference's result. -/
module

public import proofs.«01_k».proof.Proof.Agree
public import proofs.«01_k».proof.Proof.Inputs
public import proofs.«01_k».proof.Proof.Finite
public import proofs.«01_k».proof.Proof.Frames

@[expose] public section

set_option maxRecDepth 65536
set_option maxHeartbeats 0

noncomputable section

namespace Cert.Proof

open Idealize.ShloMosaic Idealize.ShloMosaic.TcCoe Idealize.SL.Sem
open Cert.KernelIdeal (nD τ sig xIn wqIn kIn vIn woIn qOf kOf vOf woOf outOf)

/-! ## Blocks at an index -/

theorem rows_block {α : Type} (v : (⟨3, ![1, 1024, 1024]⟩ : Shape).Idx → α) (c : Fin 4) (w : Fin 256) (f : Fin 1024) :
    Layout.block ⟨3, ![1, 256, 1024]⟩ ⟨3, ![1, 1024, 1024]⟩ 1 4 c v (by decide) (ix3 0 w f) = v (ix3 0 ⟨256 * c.val + w.val, by omega⟩ f) := by
  refine congrArg v (funext fun b => Fin.ext ?_)
  rw [Layout.Tiles.idx_val]
  match b with
  | 0 => rfl
  | 1 => exact congrArg (· + w.val) (Nat.mul_comm _ _)
  | 2 => rfl

theorem keys_block {α : Type} (v : (⟨4, ![1, 16384, 8, 128]⟩ : Shape).Idx → α) (c : Fin 4) (j : Fin 4096) (h : Fin 8) (d : Fin 128) :
    Layout.block ⟨4, ![1, 4096, 8, 128]⟩ ⟨4, ![1, 16384, 8, 128]⟩ 1 4 c v (by decide) (ix4 0 j h d) = v (ix4 0 ⟨4096 * c.val + j.val, by omega⟩ h d) := by
  refine congrArg v (funext fun b => Fin.ext ?_)
  rw [Layout.Tiles.idx_val]
  match b with
  | 0 => rfl
  | 1 => exact congrArg (· + j.val) (Nat.mul_comm _ _)
  | 2 => rfl
  | 3 => rfl

/-- The result's reshape at an index. -/
theorem lifted_at (o : FVec Ideal ⟨2, ![256, 1024]⟩ .f32) (h : (⟨2, ![256, 1024]⟩ : Shape).BroadcastsInDim ⟨3, ![1, 256, 1024]⟩ ![1, 2]) (w : Fin 256) (y : Fin 1024) :
    broadcastInDim ⟨3, ![1, 256, 1024]⟩ ![1, 2] h o (ix3 0 w y) = o (ix2 w y) := by
  pointwise

/-! ## The two results -/

variable [Cert.Pre_finite_KernelIdeal.Facts]
variable (m : (ℓ : Loc nD τ sig) → Buf (Elt Ideal) ℓ)
variable (X : FVec Ideal ⟨3, ![1, 1024, 1024]⟩ .bf16) (WQ WO : FVec Ideal ⟨2, ![1024, 1024]⟩ .bf16) (K V : FVec Ideal ⟨4, ![1, 16384, 8, 128]⟩ .bf16)

/-- From blocks of whole arrays, of which the three that make the scores are finite, every device's result is its block of the reference's. -/
theorem result_eq (hp : Cert.Pre_KernelIdeal_finite_KernelIdeal m)
    (hx : ∀ c : Dev nD, xIn m c = Layout.block ⟨3, ![1, 256, 1024]⟩ ⟨3, ![1, 1024, 1024]⟩ 1 4 c X)
    (hw : ∀ c : Dev nD, wqIn m c = WQ)
    (hk : ∀ c : Dev nD, kIn m c = Layout.block ⟨4, ![1, 4096, 8, 128]⟩ ⟨4, ![1, 16384, 8, 128]⟩ 1 4 c K)
    (hv : ∀ c : Dev nD, vIn m c = Layout.block ⟨4, ![1, 4096, 8, 128]⟩ ⟨4, ![1, 16384, 8, 128]⟩ 1 4 c V)
    (ho : ∀ c : Dev nD, woIn m c = WO) (c : Dev nD) :
    broadcastInDim Cert.KernelIdeal.S1x256x1024 ![1, 2] Cert.KernelIdeal.Gen.bcast_S256x1024_S1x256x1024_1_2 (outOf m c)
      = Layout.block ⟨3, ![1, 256, 1024]⟩ ⟨3, ![1, 1024, 1024]⟩ 1 4 c (Cert.ReferenceIdeal.Value.result V WO
          (Cert.ReferenceIdeal.Value.weights (Cert.ReferenceIdeal.Value.exps (Cert.ReferenceIdeal.Value.scores X WQ K)))) := by
  obtain ⟨z, hz⟩ := scale_real
  have real := fun c => reals_of_fn (xIn m c) (wqIn m c) (kIn m c) (vIn m c) (woIn m c) (hp c)
  have hX : ∀ g f, (((X (ix3 0 g f)).toReal : ℝ) : EReal) = X (ix3 0 g f) := fun g f => by
    have e := (real ⟨g.val / 256, by show g.val / 256 < 4; omega⟩).1 (ix3 0 ⟨g.val % 256, by omega⟩ f)
    rw [hx, rows_block] at e
    have eg : g = ⟨256 * (g.val / 256) + g.val % 256, by omega⟩ := Fin.ext (by show g.val = 256 * (g.val / 256) + g.val % 256; omega)
    rw [eg]
    exact e
  have hW : ∀ k f, (((WQ (ix2 k f)).toReal : ℝ) : EReal) = WQ (ix2 k f) := fun k f => by
    have e := (real 0).2.1 (ix2 k f)
    rw [hw] at e
    exact e
  have hK : ∀ t h d, (((K (ix4 0 t h d)).toReal : ℝ) : EReal) = K (ix4 0 t h d) := fun t h d => by
    have e := (real ⟨t.val / 4096, by show t.val / 4096 < 4; omega⟩).2.2 (ix4 0 ⟨t.val % 4096, by omega⟩ h d)
    rw [hk, keys_block] at e
    have et : t = ⟨4096 * (t.val / 4096) + t.val % 4096, by omega⟩ := Fin.ext (by show t.val = 4096 * (t.val / 4096) + t.val % 4096; omega)
    rw [et]
    exact e
  have row : ∀ (w : Fin 256) (y : Fin 1024), outOf m c (ix2 w y) = Cert.ReferenceIdeal.Value.result V WO
      (Cert.ReferenceIdeal.Value.weights (Cert.ReferenceIdeal.Value.exps (Cert.ReferenceIdeal.Value.scores X WQ K))) (ix3 0 (rowOf c w) y) := fun w y => by
    rw [outOf, Cert.KernelIdeal.wo_eq, ho]
    refine out_eq X WQ WO K V z hX hW hK hz (qOf m) (kOf m) (vOf m) ?_ ?_ ?_ c w y
    · intro c w f
      refine (Cert.KernelIdeal.q_at m c w f).trans (congrArg (· * _) (Finset.sum_congr rfl fun k _ => ?_))
      rw [hx, hw, rows_block]
      rfl
    · intro c r h j d
      refine (Cert.KernelIdeal.k_at m c r h j d).trans ?_
      rw [hk, keys_block]
      rfl
    · intro c r h j d
      refine (Cert.KernelIdeal.v_at m c r h j d).trans ?_
      rw [hv, keys_block]
      rfl
  funext i
  obtain ⟨b, w, y, rfl⟩ : ∃ (b : Fin 1) (w : Fin 256) (y : Fin 1024), i = ix3 b w y := ⟨i 0, i 1, i 2, (ix3_eta i).symm⟩
  obtain rfl : b = 0 := Subsingleton.elim _ _
  exact (lifted_at _ _ w y).trans ((row w y).trans (rows_block _ c w y).symm)

/-- **The value claim.** -/
theorem algebraic : Cert.algebraic_KernelIdeal_ReferenceIdeal_pre_finite_KernelIdeal := fun m ρ m' ρ' hp hb =>
  ⟨Cert.ReferenceIdeal.Value.res_main_v44 m' 0,
    (θ_run Cert.KernelIdeal.defs _ _).mono (fun _ h c => ⟨(h.1 c).2.2.2.2.2.trans
        ((result_eq m (m' ((0 : Dev Cert.ReferenceIdeal.nD).tc.loc Cert.ReferenceIdeal.main_arg0)) (m' ((0 : Dev Cert.ReferenceIdeal.nD).tc.loc Cert.ReferenceIdeal.main_arg1))
          (m' ((0 : Dev Cert.ReferenceIdeal.nD).tc.loc Cert.ReferenceIdeal.main_arg4)) (m' ((0 : Dev Cert.ReferenceIdeal.nD).tc.loc Cert.ReferenceIdeal.main_arg2))
          (m' ((0 : Dev Cert.ReferenceIdeal.nD).tc.loc Cert.ReferenceIdeal.main_arg3)) hp (fun c => (hb c).1) (fun c => (hb c).2.1) (fun c => (hb c).2.2.1)
          (fun c => (hb c).2.2.2.1) (fun c => (hb c).2.2.2.2) c).trans
            (congrArg (Layout.block ⟨3, ![1, 256, 1024]⟩ ⟨3, ![1, 1024, 1024]⟩ 1 4 c) (Cert.ReferenceIdeal.Value.res_eq m' 0).symm)),
      (h.1 c).1, (h.1 c).2.1, (h.1 c).2.2.1, (h.1 c).2.2.2.1, (h.1 c).2.2.2.2.1⟩) (Cert.KernelIdeal.run_main (F := Ideal) m ρ),
    (θ_run Cert.ReferenceIdeal.defs _ _).mono (fun _ h => h 0) (Cert.ReferenceIdeal.Value.run (F := Ideal) m' ρ')⟩

end Cert.Proof
-- ==== Proof.lean ====
/- The claims, assembled. -/
module

public import proofs.«01_k».proof.Defs
public import proofs.«01_k».proof.Proof.Gen.ReferenceIdeal.Run
public import proofs.«01_k».proof.Proof.Algebra

@[expose] public section

noncomputable section

namespace Cert.Proof

open Idealize.ShloMosaic Idealize.SL.Sem

/-- The two runs asked for where the precondition holds are runs that need none. -/
theorem frame_ideal_pre [Cert.Pre_finite_KernelIdeal.Facts] : Cert.quiescent_KernelIdeal_pre_finite_KernelIdeal := fun m ρ _ => frame_ideal m ρ trivial

theorem frame_reference_pre [Cert.Pre_finite_ReferenceIdeal.Facts] : Cert.quiescent_ReferenceIdeal_pre_finite_ReferenceIdeal := fun m ρ _ => frame_reference m ρ trivial

/-- All that is claimed. -/
theorem claim : Cert.Claim :=
  ⟨Cert.Kernel.Gen.facts, Cert.KernelIdeal.Gen.facts, Cert.ReferenceIdeal.Gen.facts, facts_device, facts_whole, frame_kernel, frame_ideal,
    @frame_ideal_pre facts_device, frame_reference, @frame_reference_pre facts_whole, trivial, @algebraic facts_device⟩

end Cert.Proof

end
